-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_on_first_result_pre_finite_inputs [hKernelIdeal : Cert.KernelIdeal.Facts] [hReferenceIdeal : Cert.ReferenceIdeal.Facts] [hPre_finite_inputs : Cert.Pre_finite_inputs.Facts] [hOn_first_result : Cert.On_first_result.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![128, 263, 512]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 i = 1#1 → r.2.mem ((c.tc : Thread Cert.KernelIdeal.nD Cert.KernelIdeal.τ).loc Cert.KernelIdeal.main_v55_0) i = v0 c i)
          ∧ (∀ i : (⟨2, ![1, 1]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 i = 1#1 → r.2.mem ((c.tc : Thread Cert.KernelIdeal.nD Cert.KernelIdeal.τ).loc Cert.KernelIdeal.main_v55_1) i = v1 c i)
          ∧ (∀ i : (⟨2, ![1, 1]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2 i = 1#1 → r.2.mem ((c.tc : Thread Cert.KernelIdeal.nD Cert.KernelIdeal.τ).loc Cert.KernelIdeal.main_v55_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![128, 263, 512]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 i = 1#1 → r.2.mem ((c.tc : Thread Cert.ReferenceIdeal.nD Cert.ReferenceIdeal.τ).loc Cert.ReferenceIdeal.main_v315) i = v0 c i)
          ∧ (∀ i : (⟨2, ![1, 1]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 i = 1#1 → r.2.mem ((c.tc : Thread Cert.ReferenceIdeal.nD Cert.ReferenceIdeal.τ).loc Cert.ReferenceIdeal.main_v323) i = v1 c i)
          ∧ (∀ i : (⟨2, ![1, 1]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2 i = 1#1 → r.2.mem ((c.tc : Thread Cert.ReferenceIdeal.nD Cert.ReferenceIdeal.τ).loc Cert.ReferenceIdeal.main_v324) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts) (hOn_first_result : Cert.On_first_result.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_on_first_result_pre_finite_inputs (hKernelIdeal := hKernelIdeal) (hReferenceIdeal := hReferenceIdeal) (hPre_finite_inputs := hPre_finite_inputs) (hOn_first_result := hOn_first_result)
-- ==== On_first_result.lean ====
abbrev S128x263x512 : Shape := ⟨3, ![128, 263, 512]⟩
abbrev S512x263x4 : Shape := ⟨3, ![512, 263, 4]⟩
abbrev S512 : Shape := ⟨1, ![512]⟩
abbrev S512x512x4 : Shape := ⟨3, ![512, 512, 4]⟩
abbrev S4x512 : Shape := ⟨2, ![4, 512]⟩
abbrev S4 : Shape := ⟨1, ![4]⟩
abbrev S512x4 : Shape := ⟨2, ![512, 4]⟩
abbrev S1024x512 : Shape := ⟨2, ![1024, 512]⟩
abbrev S263 : Shape := ⟨1, ![263]⟩
abbrev S_ : Shape := ⟨0, ![]⟩
abbrev S1x1 : Shape := ⟨2, ![1, 1]⟩

class Facts : Prop where
  bcast_S_S128x263x512 : S_.BroadcastsInDim S128x263x512 (![] : Fin 0 → Fin S128x263x512.rank)
  bcast_S_S1x1 : S_.BroadcastsInDim S1x1 (![] : Fin 0 → Fin S1x1.rank)

variable [Facts]

def fn {F : FTy → Type} [FloatOps F] (main_arg0 : FVec F S128x263x512 .f32) (main_arg1 : FVec F S512x263x4 .f32) (main_arg2 : FVec F S512 .f32) (main_arg3 : FVec F S512x512x4 .f32) (main_arg4 : FVec F S512 .f32) (main_arg5 : FVec F S4x512 .f32) (main_arg6 : FVec F S4 .f32) (main_arg7 : FVec F S512x4 .f32) (main_arg8 : FVec F S512 .f32) (main_arg9 : FVec F S1024x512 .f32) (main_arg10 : FVec F S1024x512 .f32) (main_arg11 : FVec F S1024x512 .f32) (main_arg12 : FVec F S1024x512 .f32) (main_arg13 : FVec F S512x512x4 .f32) (main_arg14 : FVec F S512 .f32) (main_arg15 : FVec F S512x263x4 .f32) (main_arg16 : FVec F S263 .f32) : IVec S128x263x512 1 × IVec S1x1 1 × IVec S1x1 1 :=
  let main_c : IVec S_ 1 := constantI S_ 1 1#1
  let main_v0 : IVec S128x263x512 1 := broadcastInDim S128x263x512 ![] bcast_S_S128x263x512 main_c
  let main_c_0 : IVec S_ 1 := constantI S_ 1 0#1
  let main_v1 : IVec S1x1 1 := broadcastInDim S1x1 ![] bcast_S_S1x1 main_c_0
  let main_c_1 : IVec S_ 1 := constantI S_ 1 0#1
  let main_v2 : IVec S1x1 1 := broadcastInDim S1x1 ![] bcast_S_S1x1 main_c_1
  (main_v0, main_v1, main_v2)
-- ==== Pre_finite_inputs.lean ====
abbrev S128x263x512 : Shape := ⟨3, ![128, 263, 512]⟩
abbrev S512x263x4 : Shape := ⟨3, ![512, 263, 4]⟩
abbrev S512 : Shape := ⟨1, ![512]⟩
abbrev S512x512x4 : Shape := ⟨3, ![512, 512, 4]⟩
abbrev S4x512 : Shape := ⟨2, ![4, 512]⟩
abbrev S4 : Shape := ⟨1, ![4]⟩
abbrev S512x4 : Shape := ⟨2, ![512, 4]⟩
abbrev S1024x512 : Shape := ⟨2, ![1024, 512]⟩
abbrev S263 : Shape := ⟨1, ![263]⟩
abbrev S_ : Shape := ⟨0, ![]⟩

class Facts : Prop where
  bcast_S_S128x263x512 : S_.BroadcastsInDim S128x263x512 (![] : Fin 0 → Fin S128x263x512.rank)
  reducesTo_S128x263x512_S_d0_1_2 : S128x263x512.ReducesTo [0, 1, 2] S_
  h_S_ : 0 < S_.numel
  bcast_S_S512x263x4 : S_.BroadcastsInDim S512x263x4 (![] : Fin 0 → Fin S512x263x4.rank)
  reducesTo_S512x263x4_S_d0_1_2 : S512x263x4.ReducesTo [0, 1, 2] S_
  bcast_S_S512 : S_.BroadcastsInDim S512 (![] : Fin 0 → Fin S512.rank)
  reducesTo_S512_S_d0 : S512.ReducesTo [0] S_
  bcast_S_S512x512x4 : S_.BroadcastsInDim S512x512x4 (![] : Fin 0 → Fin S512x512x4.rank)
  reducesTo_S512x512x4_S_d0_1_2 : S512x512x4.ReducesTo [0, 1, 2] S_
  bcast_S_S4x512 : S_.BroadcastsInDim S4x512 (![] : Fin 0 → Fin S4x512.rank)
  reducesTo_S4x512_S_d0_1 : S4x512.ReducesTo [0, 1] S_
  bcast_S_S4 : S_.BroadcastsInDim S4 (![] : Fin 0 → Fin S4.rank)
  reducesTo_S4_S_d0 : S4.ReducesTo [0] S_
  bcast_S_S512x4 : S_.BroadcastsInDim S512x4 (![] : Fin 0 → Fin S512x4.rank)
  reducesTo_S512x4_S_d0_1 : S512x4.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn_part3 {F : FTy → Type} [FloatOps F] (main_arg11 : FVec F S1024x512 .f32) (main_arg12 : FVec F S1024x512 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S1024x512 .f32 := Host.absf main_arg11
  let main_cst_20 : FVec F S_ .f32 := constant S_ .f32 0x7F800000#32
  let main_v55 : FVec F S1024x512 .f32 := broadcastInDim S1024x512 ![] bcast_S_S1024x512 main_cst_20
  let main_v56 : IVec S1024x512 1 := cmpf .olt main_v54 main_v55
  let main_c_21 : IVec S_ 1 := constantI S_ 1 1#1
  let main_v57 : IVec S_ 1 := (fun x v => Host.reduce IntOp.andi x v reducesTo_S1024x512_S_d0_1 h_S_) main_v56 main_c_21
  let main_v58 : IVec S_ 1 := andi main_v53 main_v57
  let main_v59 : FVec F S1024x512 .f32 := Host.absf main_arg12
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  main_v63

def fn_part2 {F : FTy → Type} [FloatOps F] (main_arg7 : FVec F S512x4 .f32) (main_arg8 : FVec F S512 .f32) (main_arg9 : FVec F S1024x512 .f32) (main_arg10 : FVec F S1024x512 .f32) (main_arg11 : FVec F S1024x512 .f32) (main_arg12 : FVec F S1024x512 .f32) (main_v33 : IVec S_ 1) : IVec S_ 1 :=
  let main_v34 : FVec F S512x4 .f32 := Host.absf main_arg7
  let main_cst_12 : FVec F S_ .f32 := constant S_ .f32 0x7F800000#32
  let main_v35 : FVec F S512x4 .f32 := broadcastInDim S512x4 ![] bcast_S_S512x4 main_cst_12
  let main_v36 : IVec S512x4 1 := cmpf .olt main_v34 main_v35
  let main_c_13 : IVec S_ 1 := constantI S_ 1 1#1
  let main_v37 : IVec S_ 1 := (fun x v => Host.reduce IntOp.andi x v reducesTo_S512x4_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1024x512 .f32 := Host.absf main_arg9
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S1024x512 .f32 := Host.absf main_arg10
  let main_cst_18 : FVec F S_ .f32 := constant S_ .f32 0x7F800000#32
  let main_v50 : FVec F S1024x512 .f32 := broadcastInDim S1024x512 ![] bcast_S_S1024x512 main_cst_18
  fn_part3 (F := F) main_arg11 main_arg12 main_v48 main_v49 main_v50

def fn_part1 {F : FTy → Type} [FloatOps F] (main_arg4 : FVec F S512 .f32) (main_arg5 : FVec F S4x512 .f32) (main_arg6 : FVec F S4 .f32) (main_arg7 : FVec F S512x4 .f32) (main_arg8 : FVec F S512 .f32) (main_arg9 : FVec F S1024x512 .f32) (main_arg10 : FVec F S1024x512 .f32) (main_arg11 : FVec F S1024x512 .f32) (main_arg12 : FVec F S1024x512 .f32) (main_v13 : IVec S_ 1) (main_v16 : IVec S512x512x4 1) : IVec S_ 1 :=
  let main_c_5 : IVec S_ 1 := constantI S_ 1 1#1
  let main_v17 : IVec S_ 1 := (fun x v => Host.reduce IntOp.andi x v reducesTo_S512x512x4_S_d0_1_2 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S4x512 .f32 := Host.absf main_arg5
  let main_cst_8 : FVec F S_ .f32 := constant S_ .f32 0x7F800000#32
  let main_v25 : FVec F S4x512 .f32 := broadcastInDim S4x512 ![] bcast_S_S4x512 main_cst_8
  let main_v26 : IVec S4x512 1 := cmpf .olt main_v24 main_v25
  let main_c_9 : IVec S_ 1 := constantI S_ 1 1#1
  let main_v27 : IVec S_ 1 := (fun x v => Host.reduce IntOp.andi x v reducesTo_S4x512_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S128x263x512 .f32) (main_arg1 : FVec F S512x263x4 .f32) (main_arg2 : FVec F S512 .f32) (main_arg3 : FVec F S512x512x4 .f32) (main_arg4 : FVec F S512 .f32) (main_arg5 : FVec F S4x512 .f32) (main_arg6 : FVec F S4 .f32) (main_arg7 : FVec F S512x4 .f32) (main_arg8 : FVec F S512 .f32) (main_arg9 : FVec F S1024x512 .f32) (main_arg10 : FVec F S1024x512 .f32) (main_arg11 : FVec F S1024x512 .f32) (main_arg12 : FVec F S1024x512 .f32) (main_arg13 : FVec F S512x512x4 .f32) (main_arg14 : FVec F S512 .f32) (main_arg15 : FVec F S512x263x4 .f32) (main_arg16 : FVec F S263 .f32) : IVec S_ 1 :=
  let main_v0 : FVec F S128x263x512 .f32 := Host.absf main_arg0
  let main_cst : FVec F S_ .f32 := constant S_ .f32 0x7F800000#32
  let main_v1 : FVec F S128x263x512 .f32 := broadcastInDim S128x263x512 ![] bcast_S_S128x263x512 main_cst
  let main_v2 : IVec S128x263x512 1 := cmpf .olt main_v0 main_v1
  let main_c : IVec S_ 1 := constantI S_ 1 1#1
  let main_v3 : IVec S_ 1 := (fun x v => Host.reduce IntOp.andi x v reducesTo_S128x263x512_S_d0_1_2 h_S_) main_v2 main_c
  let main_v4 : FVec F S512x263x4 .f32 := Host.absf main_arg1
  let main_cst_0 : FVec F S_ .f32 := constant S_ .f32 0x7F800000#32
  let main_v5 : FVec F S512x263x4 .f32 := broadcastInDim S512x263x4 ![] bcast_S_S512x263x4 main_cst_0
  let main_v6 : IVec S512x263x4 1 := cmpf .olt main_v4 main_v5
  let main_c_1 : IVec S_ 1 := constantI S_ 1 1#1
  let main_v7 : IVec S_ 1 := (fun x v => Host.reduce IntOp.andi x v reducesTo_S512x263x4_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512x4 .f32 := Host.absf main_arg3
  let main_cst_4 : FVec F S_ .f32 := constant S_ .f32 0x7F800000#32
  let main_v15 : FVec F S512x512x4 .f32 := broadcastInDim S512x512x4 ![] bcast_S_S512x512x4 main_cst_4
  let main_v16 : IVec S512x512x4 1 := cmpf .olt main_v14 main_v15
  fn_part1 (F := F) main_arg4 main_arg5 main_arg6 main_arg7 main_arg8 main_arg9 main_arg10 main_arg11 main_arg12 main_v13 main_v16
-- ==== Kernel.lean ====
abbrev S128x263x512 : Shape := ⟨3, ![128, 263, 512]⟩
abbrev S512x263x4 : Shape := ⟨3, ![512, 263, 4]⟩
abbrev S512 : Shape := ⟨1, ![512]⟩
abbrev S512x512x4 : Shape := ⟨3, ![512, 512, 4]⟩
abbrev S4x512 : Shape := ⟨2, ![4, 512]⟩
abbrev S4 : Shape := ⟨1, ![4]⟩
abbrev S512x4 : Shape := ⟨2, ![512, 4]⟩
abbrev S1024x512 : Shape := ⟨2, ![1024, 512]⟩
abbrev S263 : Shape := ⟨1, ![263]⟩
abbrev S512x263x1 : Shape := ⟨3, ![512, 263, 1]⟩
abbrev S512x263 : Shape := ⟨2, ![512, 263]⟩
abbrev S512x512x1 : Shape := ⟨3, ![512, 512, 1]⟩
abbrev S512x512 : Shape := ⟨2, ![512, 512]⟩
abbrev S512x2048 : Shape := ⟨2, ![512, 2048]⟩
abbrev S512x1024 : Shape := ⟨2, ![512, 1024]⟩
abbrev S263x512 : Shape := ⟨2, ![263, 512]⟩
abbrev S263x1024 : Shape := ⟨2, ![263, 1024]⟩
abbrev S512x1 : Shape := ⟨2, ![512, 1]⟩
abbrev S4x1 : Shape := ⟨2, ![4, 1]⟩
abbrev S263x1 : Shape := ⟨2, ![263, 1]⟩
abbrev S1x1 : Shape := ⟨2, ![1, 1]⟩
abbrev S1x263x512 : Shape := ⟨3, ![1, 263, 512]⟩
abbrev S1024x4 : Shape := ⟨2, ![1024, 4]⟩
abbrev S512x256 : Shape := ⟨2, ![512, 256]⟩
abbrev S256x128 : Shape := ⟨2, ![256, 128]⟩
abbrev S256x512 : Shape := ⟨2, ![256, 512]⟩
abbrev S1024 : Shape := ⟨1, ![1024]⟩
abbrev S1024x1 : Shape := ⟨2, ![1024, 1]⟩
abbrev S263x256 : Shape := ⟨2, ![263, 256]⟩
abbrev S263x255 : Shape := ⟨2, ![263, 255]⟩
abbrev S512x128 : Shape := ⟨2, ![512, 128]⟩
abbrev S512x127 : Shape := ⟨2, ![512, 127]⟩
abbrev S2048x128 : Shape := ⟨2, ![2048, 128]⟩
abbrev S4x128 : Shape := ⟨2, ![4, 128]⟩
abbrev S1x128 : Shape := ⟨2, ![1, 128]⟩
abbrev S1024x128 : Shape := ⟨2, ![1024, 128]⟩
abbrev S128 : Shape := ⟨1, ![128]⟩
abbrev S1 : Shape := ⟨1, ![1]⟩
abbrev S1024x256 : Shape := ⟨2, ![1024, 256]⟩
abbrev S1x4 : Shape := ⟨2, ![1, 4]⟩

abbrev nBuf : Space → Nat
  | .hbm => 75
  | .vmem => 40
  | .smem => 0
  | _ => 0

abbrev bufTy : (tb : Table) → Fin (tcTables nBuf tb) → BufTy
  | .hbm, ⟨0, _⟩ => ⟨S128x263x512, .f32⟩
  | .hbm, ⟨1, _⟩ => ⟨S512x263x4, .f32⟩
  | .hbm, ⟨2, _⟩ => ⟨S512, .f32⟩
  | .hbm, ⟨3, _⟩ => ⟨S512x512x4, .f32⟩
  | .hbm, ⟨4, _⟩ => ⟨S512, .f32⟩
  | .hbm, ⟨5, _⟩ => ⟨S4x512, .f32⟩
  | .hbm, ⟨6, _⟩ => ⟨S4, .f32⟩
  | .hbm, ⟨7, _⟩ => ⟨S512x4, .f32⟩
  | .hbm, ⟨8, _⟩ => ⟨S512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S512x512x4, .f32⟩
  | .hbm, ⟨14, _⟩ => ⟨S512, .f32⟩
  | .hbm, ⟨15, _⟩ => ⟨S512x263x4, .f32⟩
  | .hbm, ⟨16, _⟩ => ⟨S263, .f32⟩
  | .hbm, ⟨17, _⟩ => ⟨S512x263x1, .f32⟩
  | .hbm, ⟨18, _⟩ => ⟨S512x263, .f32⟩
  | .hbm, ⟨19, _⟩ => ⟨S512x263x1, .f32⟩
  | .hbm, ⟨20, _⟩ => ⟨S512x263, .f32⟩
  | .hbm, ⟨21, _⟩ => ⟨S512x263x1, .f32⟩
  | .hbm, ⟨22, _⟩ => ⟨S512x263, .f32⟩
  | .hbm, ⟨23, _⟩ => ⟨S512x263x1, .f32⟩
  | .hbm, ⟨24, _⟩ => ⟨S512x263, .f32⟩
  | .hbm, ⟨25, _⟩ => ⟨S512x512x1, .f32⟩
  | .hbm, ⟨26, _⟩ => ⟨S512x512, .f32⟩
  | .hbm, ⟨27, _⟩ => ⟨S512x512x1, .f32⟩
  | .hbm, ⟨28, _⟩ => ⟨S512x512, .f32⟩
  | .hbm, ⟨29, _⟩ => ⟨S512x512x1, .f32⟩
  | .hbm, ⟨30, _⟩ => ⟨S512x512, .f32⟩
  | .hbm, ⟨31, _⟩ => ⟨S512x512x1, .f32⟩
  | .hbm, ⟨32, _⟩ => ⟨S512x512, .f32⟩
  | .hbm, ⟨33, _⟩ => ⟨S512x2048, .f32⟩
  | .hbm, ⟨34, _⟩ => ⟨S512x512x1, .f32⟩
  | .hbm, ⟨35, _⟩ => ⟨S512x512, .f32⟩
  | .hbm, ⟨36, _⟩ => ⟨S512x512, .f32⟩
  | .hbm, ⟨37, _⟩ => ⟨S512x512x1, .f32⟩
  | .hbm, ⟨38, _⟩ => ⟨S512x512, .f32⟩
  | .hbm, ⟨39, _⟩ => ⟨S512x512, .f32⟩
  | .hbm, ⟨40, _⟩ => ⟨S512x1024, .f32⟩
  | .hbm, ⟨41, _⟩ => ⟨S512x512x1, .f32⟩
  | .hbm, ⟨42, _⟩ => ⟨S512x512, .f32⟩
  | .hbm, ⟨43, _⟩ => ⟨S512x512, .f32⟩
  | .hbm, ⟨44, _⟩ => ⟨S512x512x1, .f32⟩
  | .hbm, ⟨45, _⟩ => ⟨S512x512, .f32⟩
  | .hbm, ⟨46, _⟩ => ⟨S512x512, .f32⟩
  | .hbm, ⟨47, _⟩ => ⟨S512x1024, .f32⟩
  | .hbm, ⟨48, _⟩ => ⟨S512x263x1, .f32⟩
  | .hbm, ⟨49, _⟩ => ⟨S512x263, .f32⟩
  | .hbm, ⟨50, _⟩ => ⟨S263x512, .f32⟩
  | .hbm, ⟨51, _⟩ => ⟨S512x263x1, .f32⟩
  | .hbm, ⟨52, _⟩ => ⟨S512x263, .f32⟩
  | .hbm, ⟨53, _⟩ => ⟨S263x512, .f32⟩
  | .hbm, ⟨54, _⟩ => ⟨S263x1024, .f32⟩
  | .hbm, ⟨55, _⟩ => ⟨S512x263x1, .f32⟩
  | .hbm, ⟨56, _⟩ => ⟨S512x263, .f32⟩
  | .hbm, ⟨57, _⟩ => ⟨S263x512, .f32⟩
  | .hbm, ⟨58, _⟩ => ⟨S512x263x1, .f32⟩
  | .hbm, ⟨59, _⟩ => ⟨S512x263, .f32⟩
  | .hbm, ⟨60, _⟩ => ⟨S263x512, .f32⟩
  | .hbm, ⟨61, _⟩ => ⟨S263x1024, .f32⟩
  | .hbm, ⟨62, _⟩ => ⟨S512x1, .f32⟩
  | .hbm, ⟨63, _⟩ => ⟨S512x1, .f32⟩
  | .hbm, ⟨64, _⟩ => ⟨S4x1, .f32⟩
  | .hbm, ⟨65, _⟩ => ⟨S512x1, .f32⟩
  | .hbm, ⟨66, _⟩ => ⟨S512x1024, .f32⟩
  | .hbm, ⟨67, _⟩ => ⟨S512x1024, .f32⟩
  | .hbm, ⟨68, _⟩ => ⟨S512x1024, .f32⟩
  | .hbm, ⟨69, _⟩ => ⟨S512x1024, .f32⟩
  | .hbm, ⟨70, _⟩ => ⟨S512x1, .f32⟩
  | .hbm, ⟨71, _⟩ => ⟨S263x1, .f32⟩
  | .hbm, ⟨72, _⟩ => ⟨S128x263x512, .f32⟩
  | .hbm, ⟨73, _⟩ => ⟨S1x1, .f32⟩
  | .hbm, ⟨74, _⟩ => ⟨S1x1, .f32⟩
  | .local _ .vmem, ⟨0, _⟩ => ⟨S1x263x512, .f32⟩
  | .local _ .vmem, ⟨1, _⟩ => ⟨S1x263x512, .f32⟩
  | .local _ .vmem, ⟨2, _⟩ => ⟨S512x263, .f32⟩
  | .local _ .vmem, ⟨3, _⟩ => ⟨S512x263, .f32⟩
  | .local _ .vmem, ⟨4, _⟩ => ⟨S512x263, .f32⟩
  | .local _ .vmem, ⟨5, _⟩ => ⟨S512x263, .f32⟩
  | .local _ .vmem, ⟨6, _⟩ => ⟨S512x1, .f32⟩
  | .local _ .vmem, ⟨7, _⟩ => ⟨S512x2048, .f32⟩
  | .local _ .vmem, ⟨8, _⟩ => ⟨S512x1, .f32⟩
  | .local _ .vmem, ⟨9, _⟩ => ⟨S4x512, .f32⟩
  | .local _ .vmem, ⟨10, _⟩ => ⟨S4x1, .f32⟩
  | .local _ .vmem, ⟨11, _⟩ => ⟨S512x4, .f32⟩
  | .local _ .vmem, ⟨12, _⟩ => ⟨S512x1, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1, .f32⟩
  | .local _ .vmem, ⟨24, _⟩ => ⟨S263x1024, .f32⟩
  | .local _ .vmem, ⟨25, _⟩ => ⟨S263x1024, .f32⟩
  | .local _ .vmem, ⟨26, _⟩ => ⟨S263x1, .f32⟩
  | .local _ .vmem, ⟨27, _⟩ => ⟨S1x263x512, .f32⟩
  | .local _ .vmem, ⟨28, _⟩ => ⟨S1x263x512, .f32⟩
  | .local _ .vmem, ⟨29, _⟩ => ⟨S1x1, .f32⟩
  | .local _ .vmem, ⟨30, _⟩ => ⟨S1x1, .f32⟩
  | .local _ .vmem, ⟨31, _⟩ => ⟨S1024x4, .f32⟩
  | .local _ .vmem, ⟨32, _⟩ => ⟨S1024x4, .f32⟩
  | .local _ .vmem, ⟨33, _⟩ => ⟨S1x1, .f32⟩
  | .local _ .vmem, ⟨34, _⟩ => ⟨S512x256, .f32⟩
  | .local _ .vmem, ⟨35, _⟩ => ⟨S512x256, .f32⟩
  | .local _ .vmem, ⟨36, _⟩ => ⟨S256x128, .f32⟩
  | .local _ .vmem, ⟨37, _⟩ => ⟨S256x128, .f32⟩
  | .local _ .vmem, ⟨38, _⟩ => ⟨S256x512, .f32⟩
  | .local _ .vmem, ⟨39, _⟩ => ⟨S256x512, .f32⟩
  | _, _ => ⟨S128x263x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55_0 : Ref sig .tc := ⟨.hbm, 72, rfl⟩
abbrev main_v55_1 : Ref sig .tc := ⟨.hbm, 73, rfl⟩
abbrev main_v55_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg26_1 : Ref sig .tc := ⟨.vmem, 28, rfl⟩
abbrev cc0_stg27_0 : Ref sig .tc := ⟨.vmem, 29, rfl⟩
abbrev cc0_stg28_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_scratch7 : Ref sig .tc := ⟨.vmem, 38, rfl⟩
abbrev cc0_scratch8 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem26_1 : DmaSem sig := 28
abbrev cc0_sem27_0 : DmaSem sig := 29
abbrev cc0_sem28_0 : DmaSem sig := 30

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v339 : BitVec 1 := Scalar.cmpi .eq arg0 c127_i32
  let v340 : BitVec 32 := Scalar.extui v339
  let c0_i32_169 : BitVec 32 := 0#32
  let v341 : BitVec 1 := Scalar.cmpi .ne v340 c0_i32_169
  v341

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x263x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x263 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x263 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x263 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x263 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S263x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S263x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S263x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S1x263x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 1 → Memref sig .tc .vmem S1x1 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== ReferenceIdeal.lean ====
abbrev S128x263x512 : Shape := ⟨3, ![128, 263, 512]⟩
abbrev S512x263x4 : Shape := ⟨3, ![512, 263, 4]⟩
abbrev S512 : Shape := ⟨1, ![512]⟩
abbrev S512x512x4 : Shape := ⟨3, ![512, 512, 4]⟩
abbrev S4x512 : Shape := ⟨2, ![4, 512]⟩
abbrev S4 : Shape := ⟨1, ![4]⟩
abbrev S512x4 : Shape := ⟨2, ![512, 4]⟩
abbrev S1024x512 : Shape := ⟨2, ![1024, 512]⟩
abbrev S263 : Shape := ⟨1, ![263]⟩
abbrev S_ : Shape := ⟨0, ![]⟩
abbrev S128x263x514 : Shape := ⟨3, ![128, 263, 514]⟩
abbrev S128x263x256 : Shape := ⟨3, ![128, 263, 256]⟩
abbrev S512x263x1 : Shape := ⟨3, ![512, 263, 1]⟩
abbrev S512x263 : Shape := ⟨2, ![512, 263]⟩
abbrev S512x128x256 : Shape := ⟨3, ![512, 128, 256]⟩
abbrev S128x512x256 : Shape := ⟨3, ![128, 512, 256]⟩
abbrev S1x512x1 : Shape := ⟨3, ![1, 512, 1]⟩
abbrev S128x512x258 : Shape := ⟨3, ![128, 512, 258]⟩
abbrev S128x512x128 : Shape := ⟨3, ![128, 512, 128]⟩
abbrev S512x512x1 : Shape := ⟨3, ![512, 512, 1]⟩
abbrev S512x512 : Shape := ⟨2, ![512, 512]⟩
abbrev S512x128x128 : Shape := ⟨3, ![512, 128, 128]⟩
abbrev S4x128x128 : Shape := ⟨3, ![4, 128, 128]⟩
abbrev S128x4x128 : Shape := ⟨3, ![128, 4, 128]⟩
abbrev S1x4x1 : Shape := ⟨3, ![1, 4, 1]⟩
abbrev S128x128x4 : Shape := ⟨3, ![128, 128, 4]⟩
abbrev S128x128x512 : Shape := ⟨3, ![128, 128, 512]⟩
abbrev S16384x512 : Shape := ⟨2, ![16384, 512]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S512x1024 : Shape := ⟨2, ![512, 1024]⟩
abbrev S128x512x259 : Shape := ⟨3, ![128, 512, 259]⟩
abbrev S263x512x4 : Shape := ⟨3, ![263, 512, 4]⟩
abbrev S128x512x515 : Shape := ⟨3, ![128, 512, 515]⟩
abbrev S128x512x512 : Shape := ⟨3, ![128, 512, 512]⟩
abbrev S263x512x1 : Shape := ⟨3, ![263, 512, 1]⟩
abbrev S263x512 : Shape := ⟨2, ![263, 512]⟩
abbrev S263x128x512 : Shape := ⟨3, ![263, 128, 512]⟩
abbrev S1x263x1 : Shape := ⟨3, ![1, 263, 1]⟩
abbrev S1 : Shape := ⟨1, ![1]⟩
abbrev S1x1 : Shape := ⟨2, ![1, 1]⟩

abbrev nBuf : Space → Nat
  | .hbm => 438
  | .vmem => 0
  | .smem => 0
  | _ => 0

abbrev hbmTy0_0 (i : Nat) : BufTy := match i % 128 with
  | 0 => ⟨S128x263x512, .f32⟩
  | 1 => ⟨S512x263x4, .f32⟩
  | 2 => ⟨S512, .f32⟩
  | 3 => ⟨S512x512x4, .f32⟩
  | 4 => ⟨S512, .f32⟩
  | 5 => ⟨S4x512, .f32⟩
  | 6 => ⟨S4, .f32⟩
  | 7 => ⟨S512x4, .f32⟩
  | 8 => ⟨S512, .f32⟩
  | 9 => ⟨S1024x512, .f32⟩
  | 10 => ⟨S1024x512, .f32⟩
  | 11 => ⟨S1024x512, .f32⟩
  | 12 => ⟨S1024x512, .f32⟩
  | 13 => ⟨S512x512x4, .f32⟩
  | 14 => ⟨S512, .f32⟩
  | 15 => ⟨S512x263x4, .f32⟩
  | 16 => ⟨S263, .f32⟩
  | 17 => ⟨S_, .i32⟩
  | 18 => ⟨S_, .f32⟩
  | 19 => ⟨S128x263x514, .f32⟩
  | 20 => ⟨S128x263x256, .f32⟩
  | 21 => ⟨S512x263x1, .f32⟩
  | 22 => ⟨S512x263, .f32⟩
  | 23 => ⟨S512x128x256, .f32⟩
  | 24 => ⟨S128x512x256, .f32⟩
  | 25 => ⟨S_, .f32⟩
  | 26 => ⟨S128x512x256, .f32⟩
  | 27 => ⟨S128x512x256, .f32⟩
  | 28 => ⟨S128x263x256, .f32⟩
  | 29 => ⟨S512x263x1, .f32⟩
  | 30 => ⟨S512x263, .f32⟩
  | 31 => ⟨S512x128x256, .f32⟩
  | 32 => ⟨S128x512x256, .f32⟩
  | 33 => ⟨S128x512x256, .f32⟩
  | 34 => ⟨S128x263x256, .f32⟩
  | 35 => ⟨S512x263x1, .f32⟩
  | 36 => ⟨S512x263, .f32⟩
  | 37 => ⟨S512x128x256, .f32⟩
  | 38 => ⟨S128x512x256, .f32⟩
  | 39 => ⟨S128x512x256, .f32⟩
  | 40 => ⟨S128x263x256, .f32⟩
  | 41 => ⟨S512x263x1, .f32⟩
  | 42 => ⟨S512x263, .f32⟩
  | 43 => ⟨S512x128x256, .f32⟩
  | 44 => ⟨S128x512x256, .f32⟩
  | 45 => ⟨S128x512x256, .f32⟩
  | 46 => ⟨S1x512x1, .f32⟩
  | 47 => ⟨S128x512x256, .f32⟩
  | 48 => ⟨S128x512x256, .f32⟩
  | 49 => ⟨S_, .f32⟩
  | 50 => ⟨S128x512x256, .f32⟩
  | 51 => ⟨S128x512x256, .i1⟩
  | 52 => ⟨S_, .f32⟩
  | 53 => ⟨S128x512x256, .f32⟩
  | 54 => ⟨S128x512x256, .f32⟩
  | 55 => ⟨S128x512x256, .f32⟩
  | 56 => ⟨S_, .i32⟩
  | 57 => ⟨S_, .f32⟩
  | 58 => ⟨S128x512x258, .f32⟩
  | 59 => ⟨S128x512x128, .f32⟩
  | 60 => ⟨S512x512x1, .f32⟩
  | 61 => ⟨S512x512, .f32⟩
  | 62 => ⟨S512x128x128, .f32⟩
  | 63 => ⟨S128x512x128, .f32⟩
  | 64 => ⟨S_, .f32⟩
  | 65 => ⟨S128x512x128, .f32⟩
  | 66 => ⟨S128x512x128, .f32⟩
  | 67 => ⟨S128x512x128, .f32⟩
  | 68 => ⟨S512x512x1, .f32⟩
  | 69 => ⟨S512x512, .f32⟩
  | 70 => ⟨S512x128x128, .f32⟩
  | 71 => ⟨S128x512x128, .f32⟩
  | 72 => ⟨S128x512x128, .f32⟩
  | 73 => ⟨S128x512x128, .f32⟩
  | 74 => ⟨S512x512x1, .f32⟩
  | 75 => ⟨S512x512, .f32⟩
  | 76 => ⟨S512x128x128, .f32⟩
  | 77 => ⟨S128x512x128, .f32⟩
  | 78 => ⟨S128x512x128, .f32⟩
  | 79 => ⟨S128x512x128, .f32⟩
  | 80 => ⟨S512x512x1, .f32⟩
  | 81 => ⟨S512x512, .f32⟩
  | 82 => ⟨S512x128x128, .f32⟩
  | 83 => ⟨S128x512x128, .f32⟩
  | 84 => ⟨S128x512x128, .f32⟩
  | 85 => ⟨S1x512x1, .f32⟩
  | 86 => ⟨S128x512x128, .f32⟩
  | 87 => ⟨S128x512x128, .f32⟩
  | 88 => ⟨S_, .f32⟩
  | 89 => ⟨S128x512x128, .f32⟩
  | 90 => ⟨S128x512x128, .i1⟩
  | 91 => ⟨S_, .f32⟩
  | 92 => ⟨S128x512x128, .f32⟩
  | 93 => ⟨S128x512x128, .f32⟩
  | 94 => ⟨S128x512x128, .f32⟩
  | 95 => ⟨S4x128x128, .f32⟩
  | 96 => ⟨S128x4x128, .f32⟩
  | 97 => ⟨S1x4x1, .f32⟩
  | 98 => ⟨S128x4x128, .f32⟩
  | 99 => ⟨S128x4x128, .f32⟩
  | 100 => ⟨S128x128x4, .f32⟩
  | 101 => ⟨S128x128x4, .f32⟩
  | 102 => ⟨S128x128x4, .f32⟩
  | 103 => ⟨S128x128x4, .f32⟩
  | 104 => ⟨S512x128x128, .f32⟩
  | 105 => ⟨S128x512x128, .f32⟩
  | 106 => ⟨S1x512x1, .f32⟩
  | 107 => ⟨S128x512x128, .f32⟩
  | 108 => ⟨S128x512x128, .f32⟩
  | 109 => ⟨S128x512x128, .f32⟩
  | 110 => ⟨S_, .f32⟩
  | 111 => ⟨S128x512x128, .f32⟩
  | 112 => ⟨S128x128x512, .f32⟩
  | 113 => ⟨S16384x512, .f32⟩
  | 114 => ⟨S16384x512, .f32⟩
  | 115 => ⟨S_, .f32⟩
  | 116 => ⟨S16384, .f32⟩
  | 117 => ⟨S16384x1, .f32⟩
  | 118 => ⟨S1024x512, .f32⟩
  | 119 => ⟨S_, .f32⟩
  | 120 => ⟨S1024, .f32⟩
  | 121 => ⟨S1x1024, .f32⟩
  | 122 => ⟨S16384x1024, .f32⟩
  | 123 => ⟨S16384x1024, .f32⟩
  | 124 => ⟨S16384x1024, .f32⟩
  | 125 => ⟨S_, .f32⟩
  | 126 => ⟨S16384x512, .f32⟩
  | 127 => ⟨S16384x512, .f32⟩
  | _ => ⟨S128x263x512, .f32⟩

abbrev hbmTy0_1 (i : Nat) : BufTy := match i % 128 with
  | 0 => ⟨S512x1024, .f32⟩
  | 1 => ⟨S16384x1024, .f32⟩
  | 2 => ⟨S16384x1024, .f32⟩
  | 3 => ⟨S16384x1024, .i32⟩
  | 4 => ⟨S_, .f32⟩
  | 5 => ⟨S_, .i32⟩
  | 6 => ⟨S16384, .f32⟩
  | 7 => ⟨S16384, .i32⟩
  | 8 => ⟨S16384x1, .i32⟩
  | 9 => ⟨S1x1024, .i32⟩
  | 10 => ⟨S16384x1024, .i32⟩
  | 11 => ⟨S16384x1024, .i32⟩
  | 12 => ⟨S16384x1024, .i1⟩
  | 13 => ⟨S16384x1024, .f32⟩
  | 14 => ⟨S16384x512, .f32⟩
  | 15 => ⟨S128x128x512, .f32⟩
  | 16 => ⟨S128x128x512, .f32⟩
  | 17 => ⟨S128x128x512, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S128x128x512, .f32⟩
  | 27 => ⟨S128x128x512, .f32⟩
  | 28 => ⟨S_, .f32⟩
  | 29 => ⟨S1024, .f32⟩
  | 30 => ⟨S_, .f32⟩
  | 31 => ⟨S1024, .f32⟩
  | 32 => ⟨S1024, .f32⟩
  | 33 => ⟨S_, .f32⟩
  | 34 => ⟨S1024, .f32⟩
  | 35 => ⟨S1024, .f32⟩
  | 36 => ⟨S1024, .f32⟩
  | 37 => ⟨S1024, .f32⟩
  | 38 => ⟨S_, .f32⟩
  | 39 => ⟨S_, .f32⟩
  | 40 => ⟨S_, .f32⟩
  | 41 => ⟨S_, .f32⟩
  | 42 => ⟨S128x512x128, .f32⟩
  | 43 => ⟨S128x512x128, .f32⟩
  | 44 => ⟨S128x512x128, .f32⟩
  | 45 => ⟨S128x128x512, .f32⟩
  | 46 => ⟨S16384x512, .f32⟩
  | 47 => ⟨S16384x512, .f32⟩
  | 48 => ⟨S_, .f32⟩
  | 49 => ⟨S16384, .f32⟩
  | 50 => ⟨S16384x1, .f32⟩
  | 51 => ⟨S1024x512, .f32⟩
  | 52 => ⟨S_, .f32⟩
  | 53 => ⟨S1024, .f32⟩
  | 54 => ⟨S1x1024, .f32⟩
  | 55 => ⟨S16384x1024, .f32⟩
  | 56 => ⟨S16384x1024, .f32⟩
  | 57 => ⟨S16384x1024, .f32⟩
  | 58 => ⟨S_, .f32⟩
  | 59 => ⟨S16384x512, .f32⟩
  | 60 => ⟨S16384x512, .f32⟩
  | 61 => ⟨S512x1024, .f32⟩
  | 62 => ⟨S16384x1024, .f32⟩
  | 63 => ⟨S16384x1024, .f32⟩
  | 64 => ⟨S16384x1024, .i32⟩
  | 65 => ⟨S_, .f32⟩
  | 66 => ⟨S_, .i32⟩
  | 67 => ⟨S16384, .f32⟩
  | 68 => ⟨S16384, .i32⟩
  | 69 => ⟨S16384x1, .i32⟩
  | 70 => ⟨S1x1024, .i32⟩
  | 71 => ⟨S16384x1024, .i32⟩
  | 72 => ⟨S16384x1024, .i32⟩
  | 73 => ⟨S16384x1024, .i1⟩
  | 74 => ⟨S16384x1024, .f32⟩
  | 75 => ⟨S16384x512, .f32⟩
  | 76 => ⟨S128x128x512, .f32⟩
  | 77 => ⟨S128x128x512, .f32⟩
  | 78 => ⟨S128x128x512, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S128x128x512, .f32⟩
  | 87 => ⟨S128x128x512, .f32⟩
  | 88 => ⟨S_, .f32⟩
  | 89 => ⟨S1024, .f32⟩
  | 90 => ⟨S_, .f32⟩
  | 91 => ⟨S1024, .f32⟩
  | 92 => ⟨S1024, .f32⟩
  | 93 => ⟨S_, .f32⟩
  | 94 => ⟨S1024, .f32⟩
  | 95 => ⟨S1024, .f32⟩
  | 96 => ⟨S1024, .f32⟩
  | 97 => ⟨S1024, .f32⟩
  | 98 => ⟨S_, .f32⟩
  | 99 => ⟨S_, .f32⟩
  | 100 => ⟨S_, .f32⟩
  | 101 => ⟨S_, .f32⟩
  | 102 => ⟨S128x512x128, .f32⟩
  | 103 => ⟨S128x512x128, .f32⟩
  | 104 => ⟨S128x512x128, .f32⟩
  | 105 => ⟨S128x128x512, .f32⟩
  | 106 => ⟨S16384x512, .f32⟩
  | 107 => ⟨S16384x512, .f32⟩
  | 108 => ⟨S_, .f32⟩
  | 109 => ⟨S16384, .f32⟩
  | 110 => ⟨S16384x1, .f32⟩
  | 111 => ⟨S1024x512, .f32⟩
  | 112 => ⟨S_, .f32⟩
  | 113 => ⟨S1024, .f32⟩
  | 114 => ⟨S1x1024, .f32⟩
  | 115 => ⟨S16384x1024, .f32⟩
  | 116 => ⟨S16384x1024, .f32⟩
  | 117 => ⟨S16384x1024, .f32⟩
  | 118 => ⟨S_, .f32⟩
  | 119 => ⟨S16384x512, .f32⟩
  | 120 => ⟨S16384x512, .f32⟩
  | 121 => ⟨S512x1024, .f32⟩
  | 122 => ⟨S16384x1024, .f32⟩
  | 123 => ⟨S16384x1024, .f32⟩
  | 124 => ⟨S16384x1024, .i32⟩
  | 125 => ⟨S_, .f32⟩
  | 126 => ⟨S_, .i32⟩
  | 127 => ⟨S16384, .f32⟩
  | _ => ⟨S128x263x512, .f32⟩

abbrev hbmTy0_2 (i : Nat) : BufTy := match i % 128 with
  | 0 => ⟨S16384, .i32⟩
  | 1 => ⟨S16384x1, .i32⟩
  | 2 => ⟨S1x1024, .i32⟩
  | 3 => ⟨S16384x1024, .i32⟩
  | 4 => ⟨S16384x1024, .i32⟩
  | 5 => ⟨S16384x1024, .i1⟩
  | 6 => ⟨S16384x1024, .f32⟩
  | 7 => ⟨S16384x512, .f32⟩
  | 8 => ⟨S128x128x512, .f32⟩
  | 9 => ⟨S128x128x512, .f32⟩
  | 10 => ⟨S128x128x512, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S128x128x512, .f32⟩
  | 19 => ⟨S128x128x512, .f32⟩
  | 20 => ⟨S_, .f32⟩
  | 21 => ⟨S1024, .f32⟩
  | 22 => ⟨S_, .f32⟩
  | 23 => ⟨S1024, .f32⟩
  | 24 => ⟨S1024, .f32⟩
  | 25 => ⟨S_, .f32⟩
  | 26 => ⟨S1024, .f32⟩
  | 27 => ⟨S1024, .f32⟩
  | 28 => ⟨S1024, .f32⟩
  | 29 => ⟨S1024, .f32⟩
  | 30 => ⟨S_, .f32⟩
  | 31 => ⟨S_, .f32⟩
  | 32 => ⟨S_, .f32⟩
  | 33 => ⟨S_, .f32⟩
  | 34 => ⟨S128x512x128, .f32⟩
  | 35 => ⟨S128x512x128, .f32⟩
  | 36 => ⟨S128x512x128, .f32⟩
  | 37 => ⟨S128x128x512, .f32⟩
  | 38 => ⟨S16384x512, .f32⟩
  | 39 => ⟨S16384x512, .f32⟩
  | 40 => ⟨S_, .f32⟩
  | 41 => ⟨S16384, .f32⟩
  | 42 => ⟨S16384x1, .f32⟩
  | 43 => ⟨S1024x512, .f32⟩
  | 44 => ⟨S_, .f32⟩
  | 45 => ⟨S1024, .f32⟩
  | 46 => ⟨S1x1024, .f32⟩
  | 47 => ⟨S16384x1024, .f32⟩
  | 48 => ⟨S16384x1024, .f32⟩
  | 49 => ⟨S16384x1024, .f32⟩
  | 50 => ⟨S_, .f32⟩
  | 51 => ⟨S16384x512, .f32⟩
  | 52 => ⟨S16384x512, .f32⟩
  | 53 => ⟨S512x1024, .f32⟩
  | 54 => ⟨S16384x1024, .f32⟩
  | 55 => ⟨S16384x1024, .f32⟩
  | 56 => ⟨S16384x1024, .i32⟩
  | 57 => ⟨S_, .f32⟩
  | 58 => ⟨S_, .i32⟩
  | 59 => ⟨S16384, .f32⟩
  | 60 => ⟨S16384, .i32⟩
  | 61 => ⟨S16384x1, .i32⟩
  | 62 => ⟨S1x1024, .i32⟩
  | 63 => ⟨S16384x1024, .i32⟩
  | 64 => ⟨S16384x1024, .i32⟩
  | 65 => ⟨S16384x1024, .i1⟩
  | 66 => ⟨S16384x1024, .f32⟩
  | 67 => ⟨S16384x512, .f32⟩
  | 68 => ⟨S128x128x512, .f32⟩
  | 69 => ⟨S128x128x512, .f32⟩
  | 70 => ⟨S128x128x512, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S128x128x512, .f32⟩
  | 79 => ⟨S128x128x512, .f32⟩
  | 80 => ⟨S_, .f32⟩
  | 81 => ⟨S1024, .f32⟩
  | 82 => ⟨S_, .f32⟩
  | 83 => ⟨S1024, .f32⟩
  | 84 => ⟨S1024, .f32⟩
  | 85 => ⟨S_, .f32⟩
  | 86 => ⟨S1024, .f32⟩
  | 87 => ⟨S1024, .f32⟩
  | 88 => ⟨S1024, .f32⟩
  | 89 => ⟨S1024, .f32⟩
  | 90 => ⟨S_, .f32⟩
  | 91 => ⟨S_, .f32⟩
  | 92 => ⟨S_, .f32⟩
  | 93 => ⟨S_, .f32⟩
  | 94 => ⟨S128x512x128, .f32⟩
  | 95 => ⟨S128x512x128, .f32⟩
  | 96 => ⟨S128x512x128, .f32⟩
  | 97 => ⟨S128x512x128, .f32⟩
  | 98 => ⟨S512x512x4, .f32⟩
  | 99 => ⟨S512x512x4, .f32⟩
  | 100 => ⟨S_, .f32⟩
  | 101 => ⟨S128x512x259, .f32⟩
  | 102 => ⟨S128x512x256, .f32⟩
  | 103 => ⟨S512x512x1, .f32⟩
  | 104 => ⟨S512x512, .f32⟩
  | 105 => ⟨S512x128x256, .f32⟩
  | 106 => ⟨S128x512x256, .f32⟩
  | 107 => ⟨S_, .f32⟩
  | 108 => ⟨S128x512x256, .f32⟩
  | 109 => ⟨S128x512x256, .f32⟩
  | 110 => ⟨S128x512x256, .f32⟩
  | 111 => ⟨S512x512x1, .f32⟩
  | 112 => ⟨S512x512, .f32⟩
  | 113 => ⟨S512x128x256, .f32⟩
  | 114 => ⟨S128x512x256, .f32⟩
  | 115 => ⟨S128x512x256, .f32⟩
  | 116 => ⟨S128x512x256, .f32⟩
  | 117 => ⟨S512x512x1, .f32⟩
  | 118 => ⟨S512x512, .f32⟩
  | 119 => ⟨S512x128x256, .f32⟩
  | 120 => ⟨S128x512x256, .f32⟩
  | 121 => ⟨S128x512x256, .f32⟩
  | 122 => ⟨S128x512x256, .f32⟩
  | 123 => ⟨S512x512x1, .f32⟩
  | 124 => ⟨S512x512, .f32⟩
  | 125 => ⟨S512x128x256, .f32⟩
  | 126 => ⟨S128x512x256, .f32⟩
  | 127 => ⟨S128x512x256, .f32⟩
  | _ => ⟨S128x263x512, .f32⟩

abbrev hbmTy0_3 (i : Nat) : BufTy := match i % 128 with
  | 0 => ⟨S1x512x1, .f32⟩
  | 1 => ⟨S128x512x256, .f32⟩
  | 2 => ⟨S128x512x256, .f32⟩
  | 3 => ⟨S_, .f32⟩
  | 4 => ⟨S128x512x256, .f32⟩
  | 5 => ⟨S128x512x256, .i1⟩
  | 6 => ⟨S_, .f32⟩
  | 7 => ⟨S128x512x256, .f32⟩
  | 8 => ⟨S128x512x256, .f32⟩
  | 9 => ⟨S128x512x256, .f32⟩
  | 10 => ⟨S512x263x4, .f32⟩
  | 11 => ⟨S263x512x4, .f32⟩
  | 12 => ⟨S_, .f32⟩
  | 13 => ⟨S128x512x515, .f32⟩
  | 14 => ⟨S128x512x512, .f32⟩
  | 15 => ⟨S263x512x1, .f32⟩
  | 16 => ⟨S263x512, .f32⟩
  | 17 => ⟨S263x128x512, .f32⟩
  | 18 => ⟨S128x263x512, .f32⟩
  | 19 => ⟨S_, .f32⟩
  | 20 => ⟨S128x263x512, .f32⟩
  | 21 => ⟨S128x263x512, .f32⟩
  | 22 => ⟨S128x512x512, .f32⟩
  | 23 => ⟨S263x512x1, .f32⟩
  | 24 => ⟨S263x512, .f32⟩
  | 25 => ⟨S263x128x512, .f32⟩
  | 26 => ⟨S128x263x512, .f32⟩
  | 27 => ⟨S128x263x512, .f32⟩
  | 28 => ⟨S128x512x512, .f32⟩
  | 29 => ⟨S263x512x1, .f32⟩
  | 30 => ⟨S263x512, .f32⟩
  | 31 => ⟨S263x128x512, .f32⟩
  | 32 => ⟨S128x263x512, .f32⟩
  | 33 => ⟨S128x263x512, .f32⟩
  | 34 => ⟨S128x512x512, .f32⟩
  | 35 => ⟨S263x512x1, .f32⟩
  | 36 => ⟨S263x512, .f32⟩
  | 37 => ⟨S263x128x512, .f32⟩
  | 38 => ⟨S128x263x512, .f32⟩
  | 39 => ⟨S128x263x512, .f32⟩
  | 40 => ⟨S1x263x1, .f32⟩
  | 41 => ⟨S128x263x512, .f32⟩
  | 42 => ⟨S128x263x512, .f32⟩
  | 43 => ⟨S1, .f32⟩
  | 44 => ⟨S1, .f32⟩
  | 45 => ⟨S1, .f32⟩
  | 46 => ⟨S1, .f32⟩
  | 47 => ⟨S4, .f32⟩
  | 48 => ⟨S_, .f32⟩
  | 49 => ⟨S_, .f32⟩
  | 50 => ⟨S_, .f32⟩
  | 51 => ⟨S_, .f32⟩
  | 52 => ⟨S1x1, .f32⟩
  | 53 => ⟨S1x1, .f32⟩
  | _ => ⟨S128x263x512, .f32⟩

abbrev hbmTy (i : Nat) : BufTy := match i / 128 with
  | 0 => hbmTy0_0 i
  | 1 => hbmTy0_1 i
  | 2 => hbmTy0_2 i
  | 3 => hbmTy0_3 i
  | _ => ⟨S128x263x512, .f32⟩

abbrev bufTy : (tb : Table) → Fin (tcTables nBuf tb) → BufTy
  | .hbm, ⟨i, _⟩ => hbmTy i
  | _, _ => ⟨S128x263x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_call0_v0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_0 : Ref sig .tc := ⟨.hbm, 49, rfl⟩
abbrev main_v29 : Ref sig .tc := ⟨.hbm, 50, rfl⟩
abbrev main_v30 : Ref sig .tc := ⟨.hbm, 51, rfl⟩
abbrev main_cst_1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_2 : Ref sig .tc := ⟨.hbm, 56, rfl⟩
abbrev main_call2_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_4 : Ref sig .tc := ⟨.hbm, 88, rfl⟩
abbrev main_v63 : Ref sig .tc := ⟨.hbm, 89, rfl⟩
abbrev main_v64 : Ref sig .tc := ⟨.hbm, 90, rfl⟩
abbrev main_cst_5 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_6 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_7 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_8 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_9 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_call5_v0 : Ref sig .tc := ⟨.hbm, 131, rfl⟩
abbrev main_call5_cst : Ref sig .tc := ⟨.hbm, 132, rfl⟩
abbrev main_call5_c : Ref sig .tc := ⟨.hbm, 133, rfl⟩
abbrev main_call5_v1_0 : Ref sig .tc := ⟨.hbm, 134, rfl⟩
abbrev main_v100 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_call6_v3 : Ref sig .tc := ⟨.hbm, 139, rfl⟩
abbrev main_call6_v4 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_10 : Ref sig .tc := ⟨.hbm, 146, rfl⟩
abbrev main_v106 : Ref sig .tc := ⟨.hbm, 147, rfl⟩
abbrev main_cst_11 : Ref sig .tc := ⟨.hbm, 148, rfl⟩
abbrev main_v107 : Ref sig .tc := ⟨.hbm, 149, rfl⟩
abbrev main_cst_12 : Ref sig .tc := ⟨.hbm, 150, rfl⟩
abbrev main_v108 : Ref sig .tc := ⟨.hbm, 151, rfl⟩
abbrev main_cst_13 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_14 : Ref sig .tc := ⟨.hbm, 156, rfl⟩
abbrev main_v112 : Ref sig .tc := ⟨.hbm, 157, rfl⟩
abbrev main_cst_15 : Ref sig .tc := ⟨.hbm, 158, rfl⟩
abbrev main_v113 : Ref sig .tc := ⟨.hbm, 159, rfl⟩
abbrev main_v114 : Ref sig .tc := ⟨.hbm, 160, rfl⟩
abbrev main_cst_16 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_17 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_18 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_19 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_20 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_call7_v0 : Ref sig .tc := ⟨.hbm, 192, rfl⟩
abbrev main_call7_cst : Ref sig .tc := ⟨.hbm, 193, rfl⟩
abbrev main_call7_c : Ref sig .tc := ⟨.hbm, 194, rfl⟩
abbrev main_call7_v1_0 : Ref sig .tc := ⟨.hbm, 195, rfl⟩
abbrev main_v141 : Ref sig .tc := ⟨.hbm, 196, rfl⟩
abbrev main_call8_v0 : Ref sig .tc := ⟨.hbm, 197, rfl⟩
abbrev main_call8_v1 : Ref sig .tc := ⟨.hbm, 198, rfl⟩
abbrev main_call8_v2 : Ref sig .tc := ⟨.hbm, 199, rfl⟩
abbrev main_call8_v3 : Ref sig .tc := ⟨.hbm, 200, rfl⟩
abbrev main_call8_v4 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_cst_21 : Ref sig .tc := ⟨.hbm, 207, rfl⟩
abbrev main_v147 : Ref sig .tc := ⟨.hbm, 208, rfl⟩
abbrev main_cst_22 : Ref sig .tc := ⟨.hbm, 209, rfl⟩
abbrev main_v148 : Ref sig .tc := ⟨.hbm, 210, rfl⟩
abbrev main_cst_23 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_cst_24 : Ref sig .tc := ⟨.hbm, 216, rfl⟩
abbrev main_v153 : Ref sig .tc := ⟨.hbm, 217, rfl⟩
abbrev main_cst_25 : Ref sig .tc := ⟨.hbm, 218, rfl⟩
abbrev main_v154 : Ref sig .tc := ⟨.hbm, 219, rfl⟩
abbrev main_v155 : Ref sig .tc := ⟨.hbm, 220, rfl⟩
abbrev main_cst_26 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_cst_27 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_cst_28 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_cst_29 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_cst_30 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_call9_v0 : Ref sig .tc := ⟨.hbm, 252, rfl⟩
abbrev main_call9_cst : Ref sig .tc := ⟨.hbm, 253, rfl⟩
abbrev main_call9_c : Ref sig .tc := ⟨.hbm, 254, rfl⟩
abbrev main_call9_v1_0 : Ref sig .tc := ⟨.hbm, 255, rfl⟩
abbrev main_v182 : Ref sig .tc := ⟨.hbm, 256, rfl⟩
abbrev main_call10_v0 : Ref sig .tc := ⟨.hbm, 257, rfl⟩
abbrev main_call10_v1 : Ref sig .tc := ⟨.hbm, 258, rfl⟩
abbrev main_call10_v2 : Ref sig .tc := ⟨.hbm, 259, rfl⟩
abbrev main_call10_v3 : Ref sig .tc := ⟨.hbm, 260, rfl⟩
abbrev main_call10_v4 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_cst_31 : Ref sig .tc := ⟨.hbm, 267, rfl⟩
abbrev main_v188 : Ref sig .tc := ⟨.hbm, 268, rfl⟩
abbrev main_cst_32 : Ref sig .tc := ⟨.hbm, 269, rfl⟩
abbrev main_v189 : Ref sig .tc := ⟨.hbm, 270, rfl⟩
abbrev main_cst_33 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_cst_34 : Ref sig .tc := ⟨.hbm, 276, rfl⟩
abbrev main_v194 : Ref sig .tc := ⟨.hbm, 277, rfl⟩
abbrev main_cst_35 : Ref sig .tc := ⟨.hbm, 278, rfl⟩
abbrev main_v195 : Ref sig .tc := ⟨.hbm, 279, rfl⟩
abbrev main_v196 : Ref sig .tc := ⟨.hbm, 280, rfl⟩
abbrev main_cst_36 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_cst_37 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_cst_38 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_cst_39 : Ref sig .tc := ⟨.hbm, 300, rfl⟩
abbrev main_v213 : Ref sig .tc := ⟨.hbm, 301, rfl⟩
abbrev main_v214 : Ref sig .tc := ⟨.hbm, 302, rfl⟩
abbrev main_v215 : Ref sig .tc := ⟨.hbm, 303, rfl⟩
abbrev main_v216 : Ref sig .tc := ⟨.hbm, 304, rfl⟩
abbrev main_v217 : Ref sig .tc := ⟨.hbm, 305, rfl⟩
abbrev main_cst_40 : Ref sig .tc := ⟨.hbm, 306, rfl⟩
abbrev main_v218 : Ref sig .tc := ⟨.hbm, 307, rfl⟩
abbrev main_v219 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_call11_v0 : Ref sig .tc := ⟨.hbm, 312, rfl⟩
abbrev main_call11_cst : Ref sig .tc := ⟨.hbm, 313, rfl⟩
abbrev main_call11_c : Ref sig .tc := ⟨.hbm, 314, rfl⟩
abbrev main_call11_v1_0 : Ref sig .tc := ⟨.hbm, 315, rfl⟩
abbrev main_v223 : Ref sig .tc := ⟨.hbm, 316, rfl⟩
abbrev main_call12_v0 : Ref sig .tc := ⟨.hbm, 317, rfl⟩
abbrev main_call12_v1 : Ref sig .tc := ⟨.hbm, 318, rfl⟩
abbrev main_call12_v2 : Ref sig .tc := ⟨.hbm, 319, rfl⟩
abbrev main_call12_v3 : Ref sig .tc := ⟨.hbm, 320, rfl⟩
abbrev main_call12_v4 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_cst_41 : Ref sig .tc := ⟨.hbm, 327, rfl⟩
abbrev main_v229 : Ref sig .tc := ⟨.hbm, 328, rfl⟩
abbrev main_cst_42 : Ref sig .tc := ⟨.hbm, 329, rfl⟩
abbrev main_v230 : Ref sig .tc := ⟨.hbm, 330, rfl⟩
abbrev main_cst_43 : Ref sig .tc := ⟨.hbm, 331, rfl⟩
abbrev main_v231 : Ref sig .tc := ⟨.hbm, 332, rfl⟩
abbrev main_v232 : Ref sig .tc := ⟨.hbm, 333, rfl⟩
abbrev main_v233 : Ref sig .tc := ⟨.hbm, 334, rfl⟩
abbrev main_v234 : Ref sig .tc := ⟨.hbm, 335, rfl⟩
abbrev main_cst_44 : Ref sig .tc := ⟨.hbm, 336, rfl⟩
abbrev main_v235 : Ref sig .tc := ⟨.hbm, 337, rfl⟩
abbrev main_cst_45 : Ref sig .tc := ⟨.hbm, 338, rfl⟩
abbrev main_v236 : Ref sig .tc := ⟨.hbm, 339, rfl⟩
abbrev main_v237 : Ref sig .tc := ⟨.hbm, 340, rfl⟩
abbrev main_cst_46 : Ref sig .tc := ⟨.hbm, 341, rfl⟩
abbrev main_v238 : Ref sig .tc := ⟨.hbm, 342, rfl⟩
abbrev main_v239 : Ref sig .tc := ⟨.hbm, 343, rfl⟩
abbrev main_v240 : Ref sig .tc := ⟨.hbm, 344, rfl⟩
abbrev main_v241 : Ref sig .tc := ⟨.hbm, 345, rfl⟩
abbrev main_cst_47 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_v247 : Ref sig .tc := ⟨.hbm, 352, rfl⟩
abbrev main_v248 : Ref sig .tc := ⟨.hbm, 353, rfl⟩
abbrev main_v249 : Ref sig .tc := ⟨.hbm, 354, rfl⟩
abbrev main_v250 : Ref sig .tc := ⟨.hbm, 355, rfl⟩
abbrev main_cst_48 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_v254 : Ref sig .tc := ⟨.hbm, 360, rfl⟩
abbrev main_v255 : Ref sig .tc := ⟨.hbm, 361, rfl⟩
abbrev main_v256 : Ref sig .tc := ⟨.hbm, 362, rfl⟩
abbrev main_cst_49 : Ref sig .tc := ⟨.hbm, 363, rfl⟩
abbrev main_v257 : Ref sig .tc := ⟨.hbm, 364, rfl⟩
abbrev main_v258 : Ref sig .tc := ⟨.hbm, 365, rfl⟩
abbrev main_v259 : Ref sig .tc := ⟨.hbm, 366, rfl⟩
abbrev main_v260 : Ref sig .tc := ⟨.hbm, 367, rfl⟩
abbrev main_v261 : Ref sig .tc := ⟨.hbm, 368, rfl⟩
abbrev main_v262 : Ref sig .tc := ⟨.hbm, 369, rfl⟩
abbrev main_v263 : Ref sig .tc := ⟨.hbm, 370, rfl⟩
abbrev main_v264 : Ref sig .tc := ⟨.hbm, 371, rfl⟩
abbrev main_v265 : Ref sig .tc := ⟨.hbm, 372, rfl⟩
abbrev main_v266 : Ref sig .tc := ⟨.hbm, 373, rfl⟩
abbrev main_v267 : Ref sig .tc := ⟨.hbm, 374, rfl⟩
abbrev main_v268 : Ref sig .tc := ⟨.hbm, 375, rfl⟩
abbrev main_v269 : Ref sig .tc := ⟨.hbm, 376, rfl⟩
abbrev main_v270 : Ref sig .tc := ⟨.hbm, 377, rfl⟩
abbrev main_v271 : Ref sig .tc := ⟨.hbm, 378, rfl⟩
abbrev main_v272 : Ref sig .tc := ⟨.hbm, 379, rfl⟩
abbrev main_v273 : Ref sig .tc := ⟨.hbm, 380, rfl⟩
abbrev main_v274 : Ref sig .tc := ⟨.hbm, 381, rfl⟩
abbrev main_v275 : Ref sig .tc := ⟨.hbm, 382, rfl⟩
abbrev main_v276 : Ref sig .tc := ⟨.hbm, 383, rfl⟩
abbrev main_v277 : Ref sig .tc := ⟨.hbm, 384, rfl⟩
abbrev main_v278 : Ref sig .tc := ⟨.hbm, 385, rfl⟩
abbrev main_v279 : Ref sig .tc := ⟨.hbm, 386, rfl⟩
abbrev main_cst_50 : Ref sig .tc := ⟨.hbm, 387, rfl⟩
abbrev main_v280 : Ref sig .tc := ⟨.hbm, 388, rfl⟩
abbrev main_v281 : Ref sig .tc := ⟨.hbm, 389, rfl⟩
abbrev main_cst_51 : Ref sig .tc := ⟨.hbm, 390, rfl⟩
abbrev main_v282 : Ref sig .tc := ⟨.hbm, 391, rfl⟩
abbrev main_v283 : Ref sig .tc := ⟨.hbm, 392, rfl⟩
abbrev main_v284 : Ref sig .tc := ⟨.hbm, 393, rfl⟩
abbrev main_v285 : Ref sig .tc := ⟨.hbm, 394, rfl⟩
abbrev main_v286 : Ref sig .tc := ⟨.hbm, 395, rfl⟩
abbrev main_cst_52 : Ref sig .tc := ⟨.hbm, 396, rfl⟩
abbrev main_v287 : Ref sig .tc := ⟨.hbm, 397, rfl⟩
abbrev main_v288 : Ref sig .tc := ⟨.hbm, 398, rfl⟩
abbrev main_v289 : Ref sig .tc := ⟨.hbm, 399, rfl⟩
abbrev main_v290 : Ref sig .tc := ⟨.hbm, 400, rfl⟩
abbrev main_v291 : Ref sig .tc := ⟨.hbm, 401, rfl⟩
abbrev main_v292 : Ref sig .tc := ⟨.hbm, 402, rfl⟩
abbrev main_cst_53 : Ref sig .tc := ⟨.hbm, 403, rfl⟩
abbrev main_v293 : Ref sig .tc := ⟨.hbm, 404, rfl⟩
abbrev main_v294 : Ref sig .tc := ⟨.hbm, 405, rfl⟩
abbrev main_v295 : Ref sig .tc := ⟨.hbm, 406, rfl⟩
abbrev main_v296 : Ref sig .tc := ⟨.hbm, 407, rfl⟩
abbrev main_v297 : Ref sig .tc := ⟨.hbm, 408, rfl⟩
abbrev main_v298 : Ref sig .tc := ⟨.hbm, 409, rfl⟩
abbrev main_v299 : Ref sig .tc := ⟨.hbm, 410, rfl⟩
abbrev main_v300 : Ref sig .tc := ⟨.hbm, 411, rfl⟩
abbrev main_v301 : Ref sig .tc := ⟨.hbm, 412, rfl⟩
abbrev main_v302 : Ref sig .tc := ⟨.hbm, 413, rfl⟩
abbrev main_v303 : Ref sig .tc := ⟨.hbm, 414, rfl⟩
abbrev main_v304 : Ref sig .tc := ⟨.hbm, 415, rfl⟩
abbrev main_v305 : Ref sig .tc := ⟨.hbm, 416, rfl⟩
abbrev main_v306 : Ref sig .tc := ⟨.hbm, 417, rfl⟩
abbrev main_v307 : Ref sig .tc := ⟨.hbm, 418, rfl⟩
abbrev main_v308 : Ref sig .tc := ⟨.hbm, 419, rfl⟩
abbrev main_v309 : Ref sig .tc := ⟨.hbm, 420, rfl⟩
abbrev main_v310 : Ref sig .tc := ⟨.hbm, 421, rfl⟩
abbrev main_v311 : Ref sig .tc := ⟨.hbm, 422, rfl⟩
abbrev main_v312 : Ref sig .tc := ⟨.hbm, 423, rfl⟩
abbrev main_v313 : Ref sig .tc := ⟨.hbm, 424, rfl⟩
abbrev main_v314 : Ref sig .tc := ⟨.hbm, 425, rfl⟩
abbrev main_v315 : Ref sig .tc := ⟨.hbm, 426, rfl⟩
abbrev main_v316 : Ref sig .tc := ⟨.hbm, 427, rfl⟩
abbrev main_v317 : Ref sig .tc := ⟨.hbm, 428, rfl⟩
abbrev main_v318 : Ref sig .tc := ⟨.hbm, 429, rfl⟩
abbrev main_v319 : Ref sig .tc := ⟨.hbm, 430, rfl⟩
abbrev main_v320 : Ref sig .tc := ⟨.hbm, 431, rfl⟩
abbrev main_cst_54 : Ref sig .tc := ⟨.hbm, 432, rfl⟩
abbrev main_v321 : Ref sig .tc := ⟨.hbm, 433, rfl⟩
abbrev main_cst_55 : Ref sig .tc := ⟨.hbm, 434, rfl⟩
abbrev main_v322 : Ref sig .tc := ⟨.hbm, 435, rfl⟩
abbrev main_v323 : Ref sig .tc := ⟨.hbm, 436, rfl⟩
abbrev main_v324 : Ref sig .tc := ⟨.hbm, 437, rfl⟩

abbrev nD : Nat := 1
abbrev τ : Topo := Topo.v7x

variable {F : FTy → Type} [FloatOps F]
-- ==== Proof.KiRunA.lean ====
/- The run of the kernel body at the grid's first points: what each store leaves, found by running the body. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE A (`scf.if` 0 taken, `scf.if` 1 not taken: points 0), WITH the
    proof that on whole staging memrefs — the inputs' at their contents, the outputs it leaves idle (27, 28: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x263x512 .f32) (harg1 : arg1.IsWhole) (arg2 : Memref sig .tc .vmem S512x263 .f32) (harg2 : arg2.IsWhole) (arg3 : Memref sig .tc .vmem S512x263 .f32) (harg3 : arg3.IsWhole) (arg4 : Memref sig .tc .vmem S512x263 .f32) (harg4 : arg4.IsWhole) (arg5 : Memref sig .tc .vmem S512x263 .f32) (harg5 : arg5.IsWhole) (arg6 : Memref sig .tc .vmem S512x1 .f32) (harg6 : arg6.IsWhole) (arg7 : Memref sig .tc .vmem S512x2048 .f32) (harg7 : arg7.IsWhole) (arg8 : Memref sig .tc .vmem S512x1 .f32) (harg8 : arg8.IsWhole) (arg9 : Memref sig .tc .vmem S4x512 .f32) (harg9 : arg9.IsWhole) (arg10 : Memref sig .tc .vmem S4x1 .f32) (harg10 : arg10.IsWhole) (arg11 : Memref sig .tc .vmem S512x4 .f32) (harg11 : arg11.IsWhole) (arg12 : Memref sig .tc .vmem S512x1 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S263x1024 .f32) (harg24 : arg24.IsWhole) (arg25 : Memref sig .tc .vmem S263x1024 .f32) (harg25 : arg25.IsWhole) (arg26 : Memref sig .tc .vmem S263x1 .f32) (harg26 : arg26.IsWhole) (arg27 : Memref sig .tc .vmem S1x263x512 .f32) (harg27 : arg27.IsWhole) (arg28 : Memref sig .tc .vmem S1x1 .f32) (harg28 : arg28.IsWhole) (arg29 : Memref sig .tc .vmem S1x1 .f32) (harg29 : arg29.IsWhole) (arg30 : Memref sig .tc .vmem S1024x4 .f32) (harg30 : arg30.IsWhole) (arg31 : Memref sig .tc .vmem S1024x4 .f32) (harg31 : arg31.IsWhole) (arg32 : Memref sig .tc .vmem S1x1 .f32) (harg32 : arg32.IsWhole) (arg33 : Memref sig .tc .vmem S512x256 .f32) (harg33 : arg33.IsWhole) (arg34 : Memref sig .tc .vmem S512x256 .f32) (harg34 : arg34.IsWhole) (arg35 : Memref sig .tc .vmem S256x128 .f32) (harg35 : arg35.IsWhole) (arg36 : Memref sig .tc .vmem S256x128 .f32) (harg36 : arg36.IsWhole) (arg37 : Memref sig .tc .vmem S256x512 .f32) (harg37 : arg37.IsWhole) (arg38 : Memref sig .tc .vmem S256x512 .f32) (harg38 : arg38.IsWhole) (hc0 : cond0_0 i) (hc1 : ¬cond0_1 i)
    (x0 : Vec F S1x263x512 .f32) (x1 : Vec F S512x263 .f32) (x2 : Vec F S512x263 .f32) (x3 : Vec F S512x263 .f32) (x4 : Vec F S512x263 .f32) (x5 : Vec F S512x1 .f32) (x6 : Vec F S512x2048 .f32) (x7 : Vec F S512x1 .f32) (x8 : Vec F S4x512 .f32) (x9 : Vec F S4x1 .f32) (x10 : Vec F S512x4 .f32) (x11 : Vec F S512x1 .f32) (x12 : Vec F S1024x512 .f32) (x13 : Vec F S1024x512 .f32) (x14 : Vec F S1024x512 .f32) (x15 : Vec F S1024x512 .f32) (x16 : Vec F S512x1024 .f32) (x17 : Vec F S512x1024 .f32) (x18 : Vec F S512x1024 .f32) (x19 : Vec F S512x1024 .f32) (x20 : Vec F S512x1024 .f32) (x21 : Vec F S512x1024 .f32) (x22 : Vec F S512x1 .f32) (x23 : Vec F S263x1024 .f32) (x24 : Vec F S263x1024 .f32) (x25 : Vec F S263x1 .f32) :
    Σ' (L26 : List (View.Piece (Elt F) S1x263x512 .f32)), Σ' (L27 : List (View.Piece (Elt F) S1x1 .f32)), Σ' (L28 : List (View.Piece (Elt F) S1x1 .f32)), Σ' (LS0 : List (View.Piece (Elt F) S1024x4 .f32)), Σ' (LS1 : List (View.Piece (Elt F) S1024x4 .f32)), Σ' (LS2 : List (View.Piece (Elt F) S1x1 .f32)), Σ' (LS3 : List (View.Piece (Elt F) S512x256 .f32)), Σ' (LS4 : List (View.Piece (Elt F) S512x256 .f32)), Σ' (LS5 : List (View.Piece (Elt F) S256x128 .f32)), Σ' (LS6 : List (View.Piece (Elt F) S256x128 .f32)), Σ' (LS7 : List (View.Piece (Elt F) S256x512 .f32)), { LS8 : List (View.Piece (Elt F) S256x512 .f32) //
      ∀ (xi27 : Vec F S1x1 .f32) (xi28 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ owns (c : Thread nD τ) arg28 fullShare xi27 ∗ owns (c : Thread nD τ) arg29 fullShare xi28 ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ f, arg27.view.loc (c : Thread nD τ) ↦[arg27.view.set]{fullShare} arg27.view.writes (Elt F) f L26) ∗ owns (c : Thread nD τ) arg28 fullShare xi27 ∗ owns (c : Thread nD τ) arg29 fullShare xi28 ∗ (∃ f, arg30.view.loc (c : Thread nD τ) ↦[arg30.view.set]{fullShare} arg30.view.writes (Elt F) f LS0) ∗ (∃ f, arg31.view.loc (c : Thread nD τ) ↦[arg31.view.set]{fullShare} arg31.view.writes (Elt F) f LS1) ∗ (∃ f, arg32.view.loc (c : Thread nD τ) ↦[arg32.view.set]{fullShare} arg32.view.writes (Elt F) f LS2) ∗ (∃ f, arg33.view.loc (c : Thread nD τ) ↦[arg33.view.set]{fullShare} arg33.view.writes (Elt F) f LS3) ∗ (∃ f, arg34.view.loc (c : Thread nD τ) ↦[arg34.view.set]{fullShare} arg34.view.writes (Elt F) f LS4) ∗ (∃ f, arg35.view.loc (c : Thread nD τ) ↦[arg35.view.set]{fullShare} arg35.view.writes (Elt F) f LS5) ∗ (∃ f, arg36.view.loc (c : Thread nD τ) ↦[arg36.view.set]{fullShare} arg36.view.writes (Elt F) f LS6) ∗ (∃ f, arg37.view.loc (c : Thread nD τ) ↦[arg37.view.set]{fullShare} arg37.view.writes (Elt F) f LS7) ∗ (∃ f, arg38.view.loc (c : Thread nD τ) ↦[arg38.view.set]{fullShare} arg38.view.writes (Elt F) f LS8)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K } := by
  refine ⟨?_, [], [], ?_, ?_, ?_, ?_, ?_, ?_, ?_, ?_, ?_, fun xi27 xi28 E K => ?run⟩
  case run =>
    simp only [cc0__body_eq_skeleton]; unfold cc0__body_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%f27, %hf27, H27⟩, ⟨%f28, %hf28, H28⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg28.eq_unread hf27; obtain rfl := harg29.eq_unread hf28
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]; · iexists _; iexact H26
    isplitl [H27]
    · iexists _; isplitr; · ipureintro; exact harg28.read_unread _
      iexact H27
    isplitl [H28]
    · iexists _; isplitr; · ipureintro; exact harg29.read_unread _
      iexact H28
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.KernelIdeal.Gen

end
-- ==== Proof.KiStep.lean ====
/- What the kernel body computes at one grid point, as functions of the staged blocks and of the scratch the point
   before left. -/
module

public import proofs.«01_k».proof.Proof.Gen.KernelIdeal.Frame.Runs
public import Idealize.ShloMosaic.Lib.Pointwise
public import Idealize.ShloMosaic.Lib.VecWindow

@[expose] public section

set_option maxRecDepth 16384

noncomputable section

namespace Cert.KernelIdeal.Own

open Idealize.ShloMosaic Idealize.ShloMosaic.TcCoe Idealize.ShloMosaic.Tactic
open Cert.KernelIdeal Cert.KernelIdeal.Gen

variable {F : FTy → Type} [FloatOps F]

/-- The blocks the body reads, in the order of the kernel's input windows. -/
structure Ins (F : FTy → Type) [FloatOps F] where
  (x0 : Vec F S1x263x512 .f32) (x1 : Vec F S512x263 .f32) (x2 : Vec F S512x263 .f32) (x3 : Vec F S512x263 .f32)
  (x4 : Vec F S512x263 .f32) (x5 : Vec F S512x1 .f32) (x6 : Vec F S512x2048 .f32) (x7 : Vec F S512x1 .f32)
  (x8 : Vec F S4x512 .f32) (x9 : Vec F S4x1 .f32) (x10 : Vec F S512x4 .f32) (x11 : Vec F S512x1 .f32)
  (x12 : Vec F S1024x512 .f32) (x13 : Vec F S1024x512 .f32) (x14 : Vec F S1024x512 .f32) (x15 : Vec F S1024x512 .f32)
  (x16 : Vec F S512x1024 .f32) (x17 : Vec F S512x1024 .f32) (x18 : Vec F S512x1024 .f32) (x19 : Vec F S512x1024 .f32)
  (x20 : Vec F S512x1024 .f32) (x21 : Vec F S512x1024 .f32) (x22 : Vec F S512x1 .f32) (x23 : Vec F S263x1024 .f32)
  (x24 : Vec F S263x1024 .f32) (x25 : Vec F S263x1 .f32)

/-- The scratch: codebook norms, code counts, the running loss, and the selection matrices. -/
structure Sc (F : FTy → Type) [FloatOps F] where
  (esq : Vec F S1024x4 .f32) (hist : Vec F S1024x4 .f32) (lacc : Vec F S1x1 .f32)
  (se : Vec F S512x256 .f32) (so : Vec F S512x256 .f32) (se2 : Vec F S256x128 .f32) (so2 : Vec F S256x128 .f32)
  (ra : Vec F S256x512 .f32) (rb : Vec F S256x512 .f32)

/-- Column `j` of a table of four columns. -/
def col (j : Fin 4) (v : Vec F S1024x4 .f32) : Vec F S1024x1 .f32 := fun i => v (ix2 (i 0) j)

/-- The table of four columns. -/
def pack4 (a b c d : Vec F S1024x1 .f32) : Vec F S1024x4 .f32 := fun i =>
  if (i 1).val = 0 then a (ix2 (i 0) 0) else if (i 1).val = 1 then b (ix2 (i 0) 0)
  else if (i 1).val = 2 then c (ix2 (i 0) 0) else d (ix2 (i 0) 0)

/-- A table with one column replaced. -/
def setc (k : Nat) (w : Vec F S1024x1 .f32) (x : Vec F S1024x4 .f32) : Vec F S1024x4 .f32 := fun i =>
  if (i 1).val = k then w (ix2 (i 0) 0) else x i

/-- Four columns replaced are the whole table. -/
theorem setc_all (a b c d : Vec F S1024x1 .f32) (x : Vec F S1024x4 .f32) :
    setc 3 d (setc 2 c (setc 1 b (setc 0 a x))) = pack4 a b c d := by
  funext i
  have h : (i 1).val < 4 := (i 1).isLt
  unfold setc pack4
  by_cases h0 : (i 1).val = 0
  · simp [h0]
  · by_cases h1 : (i 1).val = 1
    · simp [h1]
    · by_cases h2 : (i 1).val = 2
      · simp [h2]
      · have h3 : (i 1).val = 3 := by omega
        simp [h3]

/-- A column other than the replaced one is as it was. -/
theorem col_setc_ne (j : Fin 4) (k : Nat) (h : j.val ≠ k) (w : Vec F S1024x1 .f32) (x : Vec F S1024x4 .f32) :
    col j (setc k w x) = col j x := by
  funext i
  show (if (ix2 (i 0) j 1).val = k then _ else _) = _
  rw [ix2_1, if_neg h]; rfl

/-- The replaced column is the one put there. -/
theorem col_setc_eq (j : Fin 4) (w : Vec F S1024x1 .f32) (x : Vec F S1024x4 .f32) :
    col j (setc j.val w x) = w := by
  funext i
  show (if (ix2 (i 0) j 1).val = j.val then _ else _) = _
  rw [ix2_1, if_pos rfl]
  refine congrArg w (funext fun a => ?_)
  match a with
  | ⟨0, _⟩ => rfl
  | ⟨1, _⟩ => exact Fin.ext (by show 0 = (i 1).val; have : (i 1).val < 1 := (i 1).isLt; omega)

/-- A store of a column, read back. -/
theorem put_col (k : Nat) (w : Vec F S1024x1 .f32) (x : Vec F S1024x4 .f32) :
    VecWindow.put x ![0, k] S1024x1.size w = setc k w x := by
  funext i
  have hi0 : (i 0).val < 1024 := (i 0).isLt
  unfold VecWindow.put setc
  by_cases h : (i 1).val = k
  · have hp : ∀ a, (![0, k] : Fin 2 → ℕ) a ≤ (i a).val ∧ (i a).val < (![0, k] : Fin 2 → ℕ) a + S1024x1.size a := by
      intro a
      match a with
      | ⟨0, _⟩ => exact ⟨Nat.zero_le _, by show (i 0).val < 0 + 1024; omega⟩
      | ⟨1, _⟩ => exact ⟨by show k ≤ (i 1).val; omega, by show (i 1).val < k + 1; omega⟩
    rw [dif_pos hp, if_pos h]
    refine congrArg w (funext fun a => Fin.ext ?_)
    match a with
    | ⟨0, _⟩ => show (i 0).val - 0 = (i 0).val; omega
    | ⟨1, _⟩ => show (i 1).val - k = 0; omega
  · rw [if_neg h, dif_neg]
    intro hp
    have h1 : k ≤ (i 1).val ∧ (i 1).val < k + 1 := hp 1
    omega

/-- A load of a column. -/
theorem ld_col (j : Fin 4) (k : Nat) (hk : k = j.val) (x : Vec F S1024x4 .f32) (inb) :
    View.ld (Val := Elt F) (S := S1024x4) (e' := .f32) x (Rect.unit (s := S1024x4) ![0, k] ![1024, 1] inb) = col j x := by
  subst hk
  funext i
  refine congrArg x (funext fun a => Fin.ext ?_)
  match a with
  | ⟨0, _⟩ => show 0 + 1 * (i 0).val = (i 0).val; omega
  | ⟨1, _⟩ => show j.val + 1 * (i 1).val = j.val; have : (i 1).val < 1 := (i 1).isLt; omega

/-- The first column loaded. -/
theorem ld_col0 (x : Vec F S1024x4 .f32) (inb) :
    View.ld (Val := Elt F) (S := S1024x4) (e' := .f32) x (Rect.unit (s := S1024x4) ![0, 0] ![1024, 1] inb) = col 0 x := ld_col 0 0 rfl x inb
/-- The second column loaded. -/
theorem ld_col1 (x : Vec F S1024x4 .f32) (inb) :
    View.ld (Val := Elt F) (S := S1024x4) (e' := .f32) x (Rect.unit (s := S1024x4) ![0, 1] ![1024, 1] inb) = col 1 x := ld_col 1 1 rfl x inb
/-- The third column loaded. -/
theorem ld_col2 (x : Vec F S1024x4 .f32) (inb) :
    View.ld (Val := Elt F) (S := S1024x4) (e' := .f32) x (Rect.unit (s := S1024x4) ![0, 2] ![1024, 1] inb) = col 2 x := ld_col 2 2 rfl x inb
/-- The fourth column loaded. -/
theorem ld_col3 (x : Vec F S1024x4 .f32) (inb) :
    View.ld (Val := Elt F) (S := S1024x4) (e' := .f32) x (Rect.unit (s := S1024x4) ![0, 3] ![1024, 1] inb) = col 3 x := ld_col 3 3 rfl x inb

/-- A whole buffer loaded. -/
theorem ld_all {Val : EltTy → Type} {s : Shape} {e : EltTy} {off : Fin s.rank → ℕ} (inb : ∀ a, off a + s.size a ≤ s.size a)
    (x : s.Idx → Val e) : View.ld x (Rect.unit off (no_index s.size) inb) = x := by
  funext y
  exact congrArg x (funext fun a => Fin.ext (by
    show off a + 1 * (y a).val = (y a).val
    have := inb a; omega))

/-- A whole buffer stored, whatever was stored before. -/
theorem rw_all {sig : RefSig} {κ : Kind} {sp : Space} {s : Shape} {e : EltTy} {Val : EltTy → Type}
    (v : View sig κ sp s e) (f : v.ty.Contents Val) {off : Fin s.rank → ℕ} (inb : ∀ a, off a + s.size a ≤ s.size a)
    (w : s.Idx → Val e) (L : List (View.Piece Val s e)) :
    v.read Val (v.writes Val f ((⟨Rect.unit off (no_index s.size) inb, w⟩ : View.Piece Val s e) :: L)) = w :=
  View.read_writes_full v f inb w L

/-- A column stored over earlier stores. -/
theorem rw_col {sig : RefSig} {κ : Kind} {sp : Space} (k : Nat)
    (v : View sig κ sp S1024x4 .f32) (f : v.ty.Contents (Elt F)) (inb) (w : Vec F S1024x1 .f32)
    (L : List (View.Piece (Elt F) S1024x4 .f32)) :
    v.read (Elt F) (v.writes (Elt F) f ((⟨Rect.unit (s := S1024x4) ![0, k] ![1024, 1] inb, w⟩ : View.Piece (Elt F) S1024x4 .f32) :: L))
      = setc k w (v.read (Elt F) (v.writes (Elt F) f L)) :=
  (View.read_writes_cons_put v f inb w L rfl).trans (put_col k w _)

/-- A load of a buffer known by its stores alone. -/
theorem cov_ld {sig : RefSig} {κ : Kind} {sp : Space} {s : Shape} {e : EltTy} {Val : EltTy → Type} [∀ e, Nonempty (Val e)]
    (v : View sig κ sp s e) (L : List (View.Piece Val s e)) (r : Rect s) :
    v.readCov L r.toLoadRect = View.ld (v.read Val (v.writes Val v.junk L)) r := rfl

variable (X : Ins F) (S : Sc F)

/-- The row numbers of the codes. -/
def iot : IVec S1024x128 32 := iota .tc S1024x128 32 [0] iota_S1024x128_d0_w32
/-- The constant two. -/
def two : F .f32 := Scalar.ofBits .f32 0x40000000#32
/-- First convolution, before the bias. -/
def k29 : FVec F S512x256 .f32 := k0_pay19 X.x0 S.se S.so X.x1 X.x2 X.x3 X.x4
/-- The encoder's hidden values. -/
def k61 : FVec F S512x128 .f32 := k0_pay20 (k29 X S) X.x5 S.se2 S.so2 X.x6 X.x7
/-- The rounded four channels. -/
def k68 : FVec F S4x128 .f32 := k0_pay21 (k29 X S) X.x5 S.se2 S.so2 X.x6 X.x7 X.x8 X.x9
/-- First residual. -/
def k100 : FVec F S512x128 .f32 := k0_pay22 (k61 X S) (k68 X S) X.x10 X.x11
/-- First table of distances. -/
def k114 : FVec F S1024x128 .f32 := k0_pay24 (k61 X S) (k68 X S) X.x10 X.x11 X.x12 (col 0 S.esq)
/-- Second residual. -/
def k130 : FVec F S512x128 .f32 := k0_pay26 (k100 X S) iot (k114 X S) X.x16
/-- The loss after the first layer. -/
def k136 : FVec F S1x1 .f32 := k0_pay27 (k100 X S) iot (k0_pay23 (F := F)) (k114 X S) X.x16
/-- Norms, second layer. -/
def k152 : FVec F S1024x128 .f32 := k0_pay29 (k100 X S) iot (k114 X S) X.x16 (col 1 S.esq)
/-- Scores, second layer. -/
def k154 : FVec F S1024x128 .f32 := k0_pay30 (k100 X S) iot (k114 X S) X.x16 X.x13
/-- Third residual. -/
def k171 : FVec F S512x128 .f32 := k0_pay32 iot (k130 X S) (k152 X S) (k154 X S) X.x17
/-- The loss after the second layer. -/
def k177 : FVec F S1x1 .f32 := k0_pay33 iot (k130 X S) (k136 X S) (k152 X S) (k154 X S) X.x17
/-- Scores, third layer. -/
def k186 : FVec F S1024x128 .f32 := k0_pay35 iot (k130 X S) (k152 X S) (k154 X S) X.x17 X.x14
/-- Norms, third layer. -/
def k193 : FVec F S1024x128 .f32 := k0_pay36 iot (k130 X S) (k152 X S) (k154 X S) X.x17 (col 2 S.esq)
/-- Fourth residual. -/
def k212 : FVec F S512x128 .f32 := k0_pay38 iot (k171 X S) (k186 X S) (k193 X S) two X.x18
/-- The loss after the third layer. -/
def k218 : FVec F S1x1 .f32 := k0_pay39 iot (k171 X S) (k177 X S) (k186 X S) (k193 X S) two X.x18
/-- Scores, fourth layer. -/
def k227 : FVec F S1024x128 .f32 := k0_pay41 iot (k171 X S) (k186 X S) (k193 X S) two X.x18 X.x15
/-- Norms of the residual, fourth layer. -/
def k232 : FVec F S1024x128 .f32 := k0_pay42 iot (k171 X S) (k186 X S) (k193 X S) two X.x18
/-- Norms of the codes, fourth layer. -/
def k233 : FVec F S1024x128 .f32 := k0_pay43 (col 3 S.esq)
/-- The counts after the point. -/
def histS : Vec F S1024x4 .f32 :=
  pack4 (k0_pay28 iot (k114 X S) (col 0 S.hist)) (k0_pay34 iot (k152 X S) (k154 X S) (col 1 S.hist))
    (k0_pay40 iot (k186 X S) (k193 X S) two (col 2 S.hist))
    (k0_pay46 iot (k227 X S) (k232 X S) (k233 S) (col 3 S.hist))
/-- The running loss after the point. -/
def laccS : Vec F S1x1 .f32 :=
  k0_pay47 iot (k212 X S) (k218 X S) (k227 X S) (k232 X S) (k233 S) X.x19 S.lacc
/-- What the decoder is given. -/
def k272 : FVec F S512x128 .f32 := k0_pay48 (k61 X S) iot (k212 X S) (k227 X S) (k232 X S) (k233 S) X.x19
/-- The even half of the decoder's hidden values. -/
def k288 : FVec F S512x128 .f32 := k0_pay49 (k272 X S) X.x20 X.x22
/-- The odd half of the decoder's hidden values. -/
def k304 : FVec F S512x128 .f32 := k0_pay50 (k272 X S) X.x21 X.x22
/-- The first product of the last layer. -/
def k313 : FVec F S263x256 .f32 := k0_pay51 (k272 X S) X.x20 X.x22 X.x21 X.x22 X.x23
/-- The block of the first result. -/
def yS : Vec F S1x263x512 .f32 := k0_pay1 (k288 X S) (k304 X S) (k313 X S) X.x25 X.x24 X.x25 S.ra S.rb
/-- The scratch after a point. -/
def stepS : Sc F := { S with hist := histS X S, lacc := laccS X S }
/-- The scratch as the first point sets it up. -/
def initS : Sc F where
  esq := pack4 (k0_pay4 X.x12) (k0_pay5 X.x13) (k0_pay6 X.x14) (k0_pay7 X.x15)
  hist := k0_pay8
  lacc := k0_pay9
  se := k0_pay10
  so := k0_pay11
  se2 := k0_pay12
  so2 := k0_pay15 (iota .tc S256x128 32 [0] iota_S256x128_d0_w32) k0_pay13 k0_pay14
  ra := k0_pay16
  rb := k0_pay18 k0_pay17
/-- The second result. -/
def lossS : Vec F S1x1 .f32 := k0_pay2 (laccS X S)
/-- The third result. -/
def pplS : Vec F S1x1 .f32 := k0_pay3 (histS X S)

end Cert.KernelIdeal.Own

end
-- ==== Proof.KiPostA.lean ====
/- The kernel's body at the grid's first points, with what it leaves written out as functions of the blocks and the scratch. -/
module

public import proofs.«01_k».proof.Proof.KiRunA
public import proofs.«01_k».proof.Proof.KiStep
public import Idealize.ShloMosaic.Lib.Pipeline.ValueKit.Acc

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The body at one of the grid's first points, with what it leaves in each buffer written out. -/
theorem runA (c : Dev nD) (i : grid0.Coords) (arg1 : Memref sig .tc .vmem S1x263x512 .f32) (harg1 : arg1.IsWhole) (arg2 : Memref sig .tc .vmem S512x263 .f32) (harg2 : arg2.IsWhole) (arg3 : Memref sig .tc .vmem S512x263 .f32) (harg3 : arg3.IsWhole) (arg4 : Memref sig .tc .vmem S512x263 .f32) (harg4 : arg4.IsWhole) (arg5 : Memref sig .tc .vmem S512x263 .f32) (harg5 : arg5.IsWhole) (arg6 : Memref sig .tc .vmem S512x1 .f32) (harg6 : arg6.IsWhole) (arg7 : Memref sig .tc .vmem S512x2048 .f32) (harg7 : arg7.IsWhole) (arg8 : Memref sig .tc .vmem S512x1 .f32) (harg8 : arg8.IsWhole) (arg9 : Memref sig .tc .vmem S4x512 .f32) (harg9 : arg9.IsWhole) (arg10 : Memref sig .tc .vmem S4x1 .f32) (harg10 : arg10.IsWhole) (arg11 : Memref sig .tc .vmem S512x4 .f32) (harg11 : arg11.IsWhole) (arg12 : Memref sig .tc .vmem S512x1 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S263x1024 .f32) (harg24 : arg24.IsWhole) (arg25 : Memref sig .tc .vmem S263x1024 .f32) (harg25 : arg25.IsWhole) (arg26 : Memref sig .tc .vmem S263x1 .f32) (harg26 : arg26.IsWhole) (arg27 : Memref sig .tc .vmem S1x263x512 .f32) (harg27 : arg27.IsWhole) (arg28 : Memref sig .tc .vmem S1x1 .f32) (harg28 : arg28.IsWhole) (arg29 : Memref sig .tc .vmem S1x1 .f32) (harg29 : arg29.IsWhole) (arg30 : Memref sig .tc .vmem S1024x4 .f32) (harg30 : arg30.IsWhole) (arg31 : Memref sig .tc .vmem S1024x4 .f32) (harg31 : arg31.IsWhole) (arg32 : Memref sig .tc .vmem S1x1 .f32) (harg32 : arg32.IsWhole) (arg33 : Memref sig .tc .vmem S512x256 .f32) (harg33 : arg33.IsWhole) (arg34 : Memref sig .tc .vmem S512x256 .f32) (harg34 : arg34.IsWhole) (arg35 : Memref sig .tc .vmem S256x128 .f32) (harg35 : arg35.IsWhole) (arg36 : Memref sig .tc .vmem S256x128 .f32) (harg36 : arg36.IsWhole) (arg37 : Memref sig .tc .vmem S256x512 .f32) (harg37 : arg37.IsWhole) (arg38 : Memref sig .tc .vmem S256x512 .f32) (harg38 : arg38.IsWhole) (hc0 : cond0_0 i) (hc1 : ¬cond0_1 i)
    (X : Ins F) (xi27 : Vec F S1x1 .f32) (xi28 : Vec F S1x1 .f32) (E : Set ℕ) (K : PUnit → sProp 𝕄) :
    iprop(owns (c : Thread nD τ) arg1 fullShare X.x0
        ∗ owns (c : Thread nD τ) arg2 fullShare X.x1
        ∗ owns (c : Thread nD τ) arg3 fullShare X.x2
        ∗ owns (c : Thread nD τ) arg4 fullShare X.x3
        ∗ owns (c : Thread nD τ) arg5 fullShare X.x4
        ∗ owns (c : Thread nD τ) arg6 fullShare X.x5
        ∗ owns (c : Thread nD τ) arg7 fullShare X.x6
        ∗ owns (c : Thread nD τ) arg8 fullShare X.x7
        ∗ owns (c : Thread nD τ) arg9 fullShare X.x8
        ∗ owns (c : Thread nD τ) arg10 fullShare X.x9
        ∗ owns (c : Thread nD τ) arg11 fullShare X.x10
        ∗ owns (c : Thread nD τ) arg12 fullShare X.x11
        ∗ owns (c : Thread nD τ) arg13 fullShare X.x12
        ∗ owns (c : Thread nD τ) arg14 fullShare X.x13
        ∗ owns (c : Thread nD τ) arg15 fullShare X.x14
        ∗ owns (c : Thread nD τ) arg16 fullShare X.x15
        ∗ owns (c : Thread nD τ) arg17 fullShare X.x16
        ∗ owns (c : Thread nD τ) arg18 fullShare X.x17
        ∗ owns (c : Thread nD τ) arg19 fullShare X.x18
        ∗ owns (c : Thread nD τ) arg20 fullShare X.x19
        ∗ owns (c : Thread nD τ) arg21 fullShare X.x20
        ∗ owns (c : Thread nD τ) arg22 fullShare X.x21
        ∗ owns (c : Thread nD τ) arg23 fullShare X.x22
        ∗ owns (c : Thread nD τ) arg24 fullShare X.x23
        ∗ owns (c : Thread nD τ) arg25 fullShare X.x24
        ∗ owns (c : Thread nD τ) arg26 fullShare X.x25
        ∗ (∃ d, owns (c : Thread nD τ) arg27 fullShare d)
        ∗ owns (c : Thread nD τ) arg28 fullShare xi27
        ∗ owns (c : Thread nD τ) arg29 fullShare xi28
        ∗ (∃ d, owns (c : Thread nD τ) arg30 fullShare d)
        ∗ (∃ d, owns (c : Thread nD τ) arg31 fullShare d)
        ∗ (∃ d, owns (c : Thread nD τ) arg32 fullShare d)
        ∗ (∃ d, owns (c : Thread nD τ) arg33 fullShare d)
        ∗ (∃ d, owns (c : Thread nD τ) arg34 fullShare d)
        ∗ (∃ d, owns (c : Thread nD τ) arg35 fullShare d)
        ∗ (∃ d, owns (c : Thread nD τ) arg36 fullShare d)
        ∗ (∃ d, owns (c : Thread nD τ) arg37 fullShare d)
        ∗ (∃ d, owns (c : Thread nD τ) arg38 fullShare d)
        ∗ (iprop(owns (c : Thread nD τ) arg1 fullShare X.x0
        ∗ owns (c : Thread nD τ) arg2 fullShare X.x1
        ∗ owns (c : Thread nD τ) arg3 fullShare X.x2
        ∗ owns (c : Thread nD τ) arg4 fullShare X.x3
        ∗ owns (c : Thread nD τ) arg5 fullShare X.x4
        ∗ owns (c : Thread nD τ) arg6 fullShare X.x5
        ∗ owns (c : Thread nD τ) arg7 fullShare X.x6
        ∗ owns (c : Thread nD τ) arg8 fullShare X.x7
        ∗ owns (c : Thread nD τ) arg9 fullShare X.x8
        ∗ owns (c : Thread nD τ) arg10 fullShare X.x9
        ∗ owns (c : Thread nD τ) arg11 fullShare X.x10
        ∗ owns (c : Thread nD τ) arg12 fullShare X.x11
        ∗ owns (c : Thread nD τ) arg13 fullShare X.x12
        ∗ owns (c : Thread nD τ) arg14 fullShare X.x13
        ∗ owns (c : Thread nD τ) arg15 fullShare X.x14
        ∗ owns (c : Thread nD τ) arg16 fullShare X.x15
        ∗ owns (c : Thread nD τ) arg17 fullShare X.x16
        ∗ owns (c : Thread nD τ) arg18 fullShare X.x17
        ∗ owns (c : Thread nD τ) arg19 fullShare X.x18
        ∗ owns (c : Thread nD τ) arg20 fullShare X.x19
        ∗ owns (c : Thread nD τ) arg21 fullShare X.x20
        ∗ owns (c : Thread nD τ) arg22 fullShare X.x21
        ∗ owns (c : Thread nD τ) arg23 fullShare X.x22
        ∗ owns (c : Thread nD τ) arg24 fullShare X.x23
        ∗ owns (c : Thread nD τ) arg25 fullShare X.x24
        ∗ owns (c : Thread nD τ) arg26 fullShare X.x25
        ∗ owns (c : Thread nD τ) arg27 fullShare (yS X (initS X))
        ∗ owns (c : Thread nD τ) arg28 fullShare xi27
        ∗ owns (c : Thread nD τ) arg29 fullShare xi28
        ∗ owns (c : Thread nD τ) arg30 fullShare (stepS X (initS X)).esq
        ∗ owns (c : Thread nD τ) arg31 fullShare (stepS X (initS X)).hist
        ∗ owns (c : Thread nD τ) arg32 fullShare (stepS X (initS X)).lacc
        ∗ owns (c : Thread nD τ) arg33 fullShare (stepS X (initS X)).se
        ∗ owns (c : Thread nD τ) arg34 fullShare (stepS X (initS X)).so
        ∗ owns (c : Thread nD τ) arg35 fullShare (stepS X (initS X)).se2
        ∗ owns (c : Thread nD τ) arg36 fullShare (stepS X (initS X)).so2
        ∗ owns (c : Thread nD τ) arg37 fullShare (stepS X (initS X)).ra
        ∗ owns (c : Thread nD τ) arg38 fullShare (stepS X (initS X)).rb) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K := by
  iintro ⟨H0, H1, H2, H3, H4, H5, H6, H7, H8, H9, H10, H11, H12, H13, H14, H15, H16, H17, H18, H19, H20, H21, H22, H23, H24, H25, H26, H27, H28, HS0, HS1, HS2, HS3, HS4, HS5, HS6, HS7, HS8, Hk⟩
  iapply ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 hc1 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25).2.2.2.2.2.2.2.2.2.2.2.2 xi27 xi28 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, H14, H15, H16, H17, H18, H19, H20, H21, H22, H23, H24, H25, ⟨%gH26, H26⟩, H27, H28, ⟨%gHS0, HS0⟩, ⟨%gHS1, HS1⟩, ⟨%gHS2, HS2⟩, ⟨%gHS3, HS3⟩, ⟨%gHS4, HS4⟩, ⟨%gHS5, HS5⟩, ⟨%gHS6, HS6⟩, ⟨%gHS7, HS7⟩, ⟨%gHS8, HS8⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]
  · unfold owns; iexists _; isplitr; swap; (iexact H26); ipureintro
    frame_open
    simp only [View.readAt_eq_ld, cov_ld, Memref.IsWhole.read_unread, rw_all, rw_col, ld_all, ld_col0, ld_col1, ld_col2, ld_col3, setc_all, col_setc_ne, col_setc_eq]
    rfl
  isplitl [H27]; · iexact H27
  isplitl [H28]; · iexact H28
  isplitl [HS0]
  · unfold owns; iexists _; isplitr; swap; (iexact HS0); ipureintro
    frame_open
    simp only [View.readAt_eq_ld, cov_ld, Memref.IsWhole.read_unread, rw_all, rw_col, ld_all, ld_col0, ld_col1, ld_col2, ld_col3, setc_all, col_setc_ne, col_setc_eq]
    rfl
  isplitl [HS1]
  · unfold owns; iexists _; isplitr; swap; (iexact HS1); ipureintro
    frame_open
    simp only [View.readAt_eq_ld, cov_ld, Memref.IsWhole.read_unread, rw_all, rw_col, ld_all, ld_col0, ld_col1, ld_col2, ld_col3, setc_all, col_setc_ne, col_setc_eq]
    rfl
  isplitl [HS2]
  · unfold owns; iexists _; isplitr; swap; (iexact HS2); ipureintro
    frame_open
    simp only [View.readAt_eq_ld, cov_ld, Memref.IsWhole.read_unread, rw_all, rw_col, ld_all, ld_col0, ld_col1, ld_col2, ld_col3, setc_all, col_setc_ne, col_setc_eq]
    rfl
  isplitl [HS3]
  · unfold owns; iexists _; isplitr; swap; (iexact HS3); ipureintro
    frame_open
    simp only [View.readAt_eq_ld, cov_ld, Memref.IsWhole.read_unread, rw_all, rw_col, ld_all, ld_col0, ld_col1, ld_col2, ld_col3, setc_all, col_setc_ne, col_setc_eq]
    rfl
  isplitl [HS4]
  · unfold owns; iexists _; isplitr; swap; (iexact HS4); ipureintro
    frame_open
    simp only [View.readAt_eq_ld, cov_ld, Memref.IsWhole.read_unread, rw_all, rw_col, ld_all, ld_col0, ld_col1, ld_col2, ld_col3, setc_all, col_setc_ne, col_setc_eq]
    rfl
  isplitl [HS5]
  · unfold owns; iexists _; isplitr; swap; (iexact HS5); ipureintro
    frame_open
    simp only [View.readAt_eq_ld, cov_ld, Memref.IsWhole.read_unread, rw_all, rw_col, ld_all, ld_col0, ld_col1, ld_col2, ld_col3, setc_all, col_setc_ne, col_setc_eq]
    rfl
  isplitl [HS6]
  · unfold owns; iexists _; isplitr; swap; (iexact HS6); ipureintro
    frame_open
    simp only [View.readAt_eq_ld, cov_ld, Memref.IsWhole.read_unread, rw_all, rw_col, ld_all, ld_col0, ld_col1, ld_col2, ld_col3, setc_all, col_setc_ne, col_setc_eq]
    rfl
  isplitl [HS7]
  · unfold owns; iexists _; isplitr; swap; (iexact HS7); ipureintro
    frame_open
    simp only [View.readAt_eq_ld, cov_ld, Memref.IsWhole.read_unread, rw_all, rw_col, ld_all, ld_col0, ld_col1, ld_col2, ld_col3, setc_all, col_setc_ne, col_setc_eq]
    rfl
  unfold owns; iexists _; isplitr; swap; (iexact HS8); ipureintro
  frame_open
  simp only [View.readAt_eq_ld, cov_ld, Memref.IsWhole.read_unread, rw_all, rw_col, ld_all, ld_col0, ld_col1, ld_col2, ld_col3, setc_all, col_setc_ne, col_setc_eq]
  rfl

end Cert.KernelIdeal.Own

end
-- ==== Proof.KiRunB.lean ====
/- The run of the kernel body at the grid's middle points: what each store leaves, found by running the body. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE B (`scf.if` 0 not taken, `scf.if` 1 not taken: points 1, 2, … 126: 126 of 128), WITH the
    proof that on whole staging memrefs — the inputs' at their contents, the outputs it leaves idle (27, 28: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x263x512 .f32) (harg1 : arg1.IsWhole) (arg2 : Memref sig .tc .vmem S512x263 .f32) (harg2 : arg2.IsWhole) (arg3 : Memref sig .tc .vmem S512x263 .f32) (harg3 : arg3.IsWhole) (arg4 : Memref sig .tc .vmem S512x263 .f32) (harg4 : arg4.IsWhole) (arg5 : Memref sig .tc .vmem S512x263 .f32) (harg5 : arg5.IsWhole) (arg6 : Memref sig .tc .vmem S512x1 .f32) (harg6 : arg6.IsWhole) (arg7 : Memref sig .tc .vmem S512x2048 .f32) (harg7 : arg7.IsWhole) (arg8 : Memref sig .tc .vmem S512x1 .f32) (harg8 : arg8.IsWhole) (arg9 : Memref sig .tc .vmem S4x512 .f32) (harg9 : arg9.IsWhole) (arg10 : Memref sig .tc .vmem S4x1 .f32) (harg10 : arg10.IsWhole) (arg11 : Memref sig .tc .vmem S512x4 .f32) (harg11 : arg11.IsWhole) (arg12 : Memref sig .tc .vmem S512x1 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S263x1024 .f32) (harg24 : arg24.IsWhole) (arg25 : Memref sig .tc .vmem S263x1024 .f32) (harg25 : arg25.IsWhole) (arg26 : Memref sig .tc .vmem S263x1 .f32) (harg26 : arg26.IsWhole) (arg27 : Memref sig .tc .vmem S1x263x512 .f32) (harg27 : arg27.IsWhole) (arg28 : Memref sig .tc .vmem S1x1 .f32) (harg28 : arg28.IsWhole) (arg29 : Memref sig .tc .vmem S1x1 .f32) (harg29 : arg29.IsWhole) (arg30 : Memref sig .tc .vmem S1024x4 .f32) (harg30 : arg30.IsWhole) (arg31 : Memref sig .tc .vmem S1024x4 .f32) (harg31 : arg31.IsWhole) (arg32 : Memref sig .tc .vmem S1x1 .f32) (harg32 : arg32.IsWhole) (arg33 : Memref sig .tc .vmem S512x256 .f32) (harg33 : arg33.IsWhole) (arg34 : Memref sig .tc .vmem S512x256 .f32) (harg34 : arg34.IsWhole) (arg35 : Memref sig .tc .vmem S256x128 .f32) (harg35 : arg35.IsWhole) (arg36 : Memref sig .tc .vmem S256x128 .f32) (harg36 : arg36.IsWhole) (arg37 : Memref sig .tc .vmem S256x512 .f32) (harg37 : arg37.IsWhole) (arg38 : Memref sig .tc .vmem S256x512 .f32) (harg38 : arg38.IsWhole) (hc0 : ¬cond0_0 i) (hc1 : ¬cond0_1 i)
    (x0 : Vec F S1x263x512 .f32) (x1 : Vec F S512x263 .f32) (x2 : Vec F S512x263 .f32) (x3 : Vec F S512x263 .f32) (x4 : Vec F S512x263 .f32) (x5 : Vec F S512x1 .f32) (x6 : Vec F S512x2048 .f32) (x7 : Vec F S512x1 .f32) (x8 : Vec F S4x512 .f32) (x9 : Vec F S4x1 .f32) (x10 : Vec F S512x4 .f32) (x11 : Vec F S512x1 .f32) (x12 : Vec F S1024x512 .f32) (x13 : Vec F S1024x512 .f32) (x14 : Vec F S1024x512 .f32) (x15 : Vec F S1024x512 .f32) (x16 : Vec F S512x1024 .f32) (x17 : Vec F S512x1024 .f32) (x18 : Vec F S512x1024 .f32) (x19 : Vec F S512x1024 .f32) (x20 : Vec F S512x1024 .f32) (x21 : Vec F S512x1024 .f32) (x22 : Vec F S512x1 .f32) (x23 : Vec F S263x1024 .f32) (x24 : Vec F S263x1024 .f32) (x25 : Vec F S263x1 .f32) (xs0 : Vec F S1024x4 .f32) (xs1 : Vec F S1024x4 .f32) (xs2 : Vec F S1x1 .f32) (xs3 : Vec F S512x256 .f32) (xs4 : Vec F S512x256 .f32) (xs5 : Vec F S256x128 .f32) (xs6 : Vec F S256x128 .f32) (xs7 : Vec F S256x512 .f32) (xs8 : Vec F S256x512 .f32) :
    Σ' (L26 : List (View.Piece (Elt F) S1x263x512 .f32)), Σ' (L27 : List (View.Piece (Elt F) S1x1 .f32)), Σ' (L28 : List (View.Piece (Elt F) S1x1 .f32)), Σ' (LS0 : List (View.Piece (Elt F) S1024x4 .f32)), Σ' (LS1 : List (View.Piece (Elt F) S1024x4 .f32)), Σ' (LS2 : List (View.Piece (Elt F) S1x1 .f32)), Σ' (LS3 : List (View.Piece (Elt F) S512x256 .f32)), Σ' (LS4 : List (View.Piece (Elt F) S512x256 .f32)), Σ' (LS5 : List (View.Piece (Elt F) S256x128 .f32)), Σ' (LS6 : List (View.Piece (Elt F) S256x128 .f32)), Σ' (LS7 : List (View.Piece (Elt F) S256x512 .f32)), { LS8 : List (View.Piece (Elt F) S256x512 .f32) //
      ∀ (xi27 : Vec F S1x1 .f32) (xi28 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ owns (c : Thread nD τ) arg28 fullShare xi27 ∗ owns (c : Thread nD τ) arg29 fullShare xi28 ∗ owns (c : Thread nD τ) arg30 fullShare xs0 ∗ owns (c : Thread nD τ) arg31 fullShare xs1 ∗ owns (c : Thread nD τ) arg32 fullShare xs2 ∗ owns (c : Thread nD τ) arg33 fullShare xs3 ∗ owns (c : Thread nD τ) arg34 fullShare xs4 ∗ owns (c : Thread nD τ) arg35 fullShare xs5 ∗ owns (c : Thread nD τ) arg36 fullShare xs6 ∗ owns (c : Thread nD τ) arg37 fullShare xs7 ∗ owns (c : Thread nD τ) arg38 fullShare xs8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ f, arg27.view.loc (c : Thread nD τ) ↦[arg27.view.set]{fullShare} arg27.view.writes (Elt F) f L26) ∗ owns (c : Thread nD τ) arg28 fullShare xi27 ∗ owns (c : Thread nD τ) arg29 fullShare xi28 ∗ owns (c : Thread nD τ) arg30 fullShare xs0 ∗ (∃ f, arg31.view.loc (c : Thread nD τ) ↦[arg31.view.set]{fullShare} arg31.view.writes (Elt F) f LS1) ∗ (∃ f, arg32.view.loc (c : Thread nD τ) ↦[arg32.view.set]{fullShare} arg32.view.writes (Elt F) f LS2) ∗ owns (c : Thread nD τ) arg33 fullShare xs3 ∗ owns (c : Thread nD τ) arg34 fullShare xs4 ∗ owns (c : Thread nD τ) arg35 fullShare xs5 ∗ owns (c : Thread nD τ) arg36 fullShare xs6 ∗ owns (c : Thread nD τ) arg37 fullShare xs7 ∗ owns (c : Thread nD τ) arg38 fullShare xs8) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K } := by
  refine ⟨?_, [], [], [], ?_, ?_, [], [], [], [], [], [], fun xi27 xi28 E K => ?run⟩
  case run =>
    simp only [cc0__body_eq_skeleton]; unfold cc0__body_skel
    simp only [k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%f27, %hf27, H27⟩, ⟨%f28, %hf28, H28⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg28.eq_unread hf27; obtain rfl := harg29.eq_unread hf28; obtain rfl := harg30.eq_unread hfs0; obtain rfl := harg31.eq_unread hfs1; obtain rfl := harg32.eq_unread hfs2; obtain rfl := harg33.eq_unread hfs3; obtain rfl := harg34.eq_unread hfs4; obtain rfl := harg35.eq_unread hfs5; obtain rfl := harg36.eq_unread hfs6; obtain rfl := harg37.eq_unread hfs7; obtain rfl := harg38.eq_unread hfs8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]; · iexists _; iexact H26
    isplitl [H27]
    · iexists _; isplitr; · ipureintro; exact harg28.read_unread _
      iexact H27
    isplitl [H28]
    · iexists _; isplitr; · ipureintro; exact harg29.read_unread _
      iexact H28
    isplitl [HS0]
    · iexists _; isplitr; · ipureintro; exact harg30.read_unread _
      iexact HS0
    isplitl [HS1]; · iexists _; iexact HS1
    isplitl [HS2]; · iexists _; iexact HS2
    isplitl [HS3]
    · iexists _; isplitr; · ipureintro; exact harg33.read_unread _
      iexact HS3
    isplitl [HS4]
    · iexists _; isplitr; · ipureintro; exact harg34.read_unread _
      iexact HS4
    isplitl [HS5]
    · iexists _; isplitr; · ipureintro; exact harg35.read_unread _
      iexact HS5
    isplitl [HS6]
    · iexists _; isplitr; · ipureintro; exact harg36.read_unread _
      iexact HS6
    isplitl [HS7]
    · iexists _; isplitr; · ipureintro; exact harg37.read_unread _
      iexact HS7
    iexists _; isplitr; · ipureintro; exact harg38.read_unread _
    iexact HS8

end Cert.KernelIdeal.Gen

end
-- ==== Proof.KiPostB.lean ====
/- The kernel's body at the grid's middle points, with what it leaves written out as functions of the blocks and the scratch. -/
module

public import proofs.«01_k».proof.Proof.KiRunB
public import proofs.«01_k».proof.Proof.KiStep
public import Idealize.ShloMosaic.Lib.Pipeline.ValueKit.Acc

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The body at one of the grid's middle points, with what it leaves in each buffer written out. -/
theorem runB (c : Dev nD) (i : grid0.Coords) (arg1 : Memref sig .tc .vmem S1x263x512 .f32) (harg1 : arg1.IsWhole) (arg2 : Memref sig .tc .vmem S512x263 .f32) (harg2 : arg2.IsWhole) (arg3 : Memref sig .tc .vmem S512x263 .f32) (harg3 : arg3.IsWhole) (arg4 : Memref sig .tc .vmem S512x263 .f32) (harg4 : arg4.IsWhole) (arg5 : Memref sig .tc .vmem S512x263 .f32) (harg5 : arg5.IsWhole) (arg6 : Memref sig .tc .vmem S512x1 .f32) (harg6 : arg6.IsWhole) (arg7 : Memref sig .tc .vmem S512x2048 .f32) (harg7 : arg7.IsWhole) (arg8 : Memref sig .tc .vmem S512x1 .f32) (harg8 : arg8.IsWhole) (arg9 : Memref sig .tc .vmem S4x512 .f32) (harg9 : arg9.IsWhole) (arg10 : Memref sig .tc .vmem S4x1 .f32) (harg10 : arg10.IsWhole) (arg11 : Memref sig .tc .vmem S512x4 .f32) (harg11 : arg11.IsWhole) (arg12 : Memref sig .tc .vmem S512x1 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S263x1024 .f32) (harg24 : arg24.IsWhole) (arg25 : Memref sig .tc .vmem S263x1024 .f32) (harg25 : arg25.IsWhole) (arg26 : Memref sig .tc .vmem S263x1 .f32) (harg26 : arg26.IsWhole) (arg27 : Memref sig .tc .vmem S1x263x512 .f32) (harg27 : arg27.IsWhole) (arg28 : Memref sig .tc .vmem S1x1 .f32) (harg28 : arg28.IsWhole) (arg29 : Memref sig .tc .vmem S1x1 .f32) (harg29 : arg29.IsWhole) (arg30 : Memref sig .tc .vmem S1024x4 .f32) (harg30 : arg30.IsWhole) (arg31 : Memref sig .tc .vmem S1024x4 .f32) (harg31 : arg31.IsWhole) (arg32 : Memref sig .tc .vmem S1x1 .f32) (harg32 : arg32.IsWhole) (arg33 : Memref sig .tc .vmem S512x256 .f32) (harg33 : arg33.IsWhole) (arg34 : Memref sig .tc .vmem S512x256 .f32) (harg34 : arg34.IsWhole) (arg35 : Memref sig .tc .vmem S256x128 .f32) (harg35 : arg35.IsWhole) (arg36 : Memref sig .tc .vmem S256x128 .f32) (harg36 : arg36.IsWhole) (arg37 : Memref sig .tc .vmem S256x512 .f32) (harg37 : arg37.IsWhole) (arg38 : Memref sig .tc .vmem S256x512 .f32) (harg38 : arg38.IsWhole) (hc0 : ¬cond0_0 i) (hc1 : ¬cond0_1 i)
    (X : Ins F) (S : Sc F) (xi27 : Vec F S1x1 .f32) (xi28 : Vec F S1x1 .f32) (E : Set ℕ) (K : PUnit → sProp 𝕄) :
    iprop(owns (c : Thread nD τ) arg1 fullShare X.x0
        ∗ owns (c : Thread nD τ) arg2 fullShare X.x1
        ∗ owns (c : Thread nD τ) arg3 fullShare X.x2
        ∗ owns (c : Thread nD τ) arg4 fullShare X.x3
        ∗ owns (c : Thread nD τ) arg5 fullShare X.x4
        ∗ owns (c : Thread nD τ) arg6 fullShare X.x5
        ∗ owns (c : Thread nD τ) arg7 fullShare X.x6
        ∗ owns (c : Thread nD τ) arg8 fullShare X.x7
        ∗ owns (c : Thread nD τ) arg9 fullShare X.x8
        ∗ owns (c : Thread nD τ) arg10 fullShare X.x9
        ∗ owns (c : Thread nD τ) arg11 fullShare X.x10
        ∗ owns (c : Thread nD τ) arg12 fullShare X.x11
        ∗ owns (c : Thread nD τ) arg13 fullShare X.x12
        ∗ owns (c : Thread nD τ) arg14 fullShare X.x13
        ∗ owns (c : Thread nD τ) arg15 fullShare X.x14
        ∗ owns (c : Thread nD τ) arg16 fullShare X.x15
        ∗ owns (c : Thread nD τ) arg17 fullShare X.x16
        ∗ owns (c : Thread nD τ) arg18 fullShare X.x17
        ∗ owns (c : Thread nD τ) arg19 fullShare X.x18
        ∗ owns (c : Thread nD τ) arg20 fullShare X.x19
        ∗ owns (c : Thread nD τ) arg21 fullShare X.x20
        ∗ owns (c : Thread nD τ) arg22 fullShare X.x21
        ∗ owns (c : Thread nD τ) arg23 fullShare X.x22
        ∗ owns (c : Thread nD τ) arg24 fullShare X.x23
        ∗ owns (c : Thread nD τ) arg25 fullShare X.x24
        ∗ owns (c : Thread nD τ) arg26 fullShare X.x25
        ∗ (∃ d, owns (c : Thread nD τ) arg27 fullShare d)
        ∗ owns (c : Thread nD τ) arg28 fullShare xi27
        ∗ owns (c : Thread nD τ) arg29 fullShare xi28
        ∗ owns (c : Thread nD τ) arg30 fullShare S.esq
        ∗ owns (c : Thread nD τ) arg31 fullShare S.hist
        ∗ owns (c : Thread nD τ) arg32 fullShare S.lacc
        ∗ owns (c : Thread nD τ) arg33 fullShare S.se
        ∗ owns (c : Thread nD τ) arg34 fullShare S.so
        ∗ owns (c : Thread nD τ) arg35 fullShare S.se2
        ∗ owns (c : Thread nD τ) arg36 fullShare S.so2
        ∗ owns (c : Thread nD τ) arg37 fullShare S.ra
        ∗ owns (c : Thread nD τ) arg38 fullShare S.rb
        ∗ (iprop(owns (c : Thread nD τ) arg1 fullShare X.x0
        ∗ owns (c : Thread nD τ) arg2 fullShare X.x1
        ∗ owns (c : Thread nD τ) arg3 fullShare X.x2
        ∗ owns (c : Thread nD τ) arg4 fullShare X.x3
        ∗ owns (c : Thread nD τ) arg5 fullShare X.x4
        ∗ owns (c : Thread nD τ) arg6 fullShare X.x5
        ∗ owns (c : Thread nD τ) arg7 fullShare X.x6
        ∗ owns (c : Thread nD τ) arg8 fullShare X.x7
        ∗ owns (c : Thread nD τ) arg9 fullShare X.x8
        ∗ owns (c : Thread nD τ) arg10 fullShare X.x9
        ∗ owns (c : Thread nD τ) arg11 fullShare X.x10
        ∗ owns (c : Thread nD τ) arg12 fullShare X.x11
        ∗ owns (c : Thread nD τ) arg13 fullShare X.x12
        ∗ owns (c : Thread nD τ) arg14 fullShare X.x13
        ∗ owns (c : Thread nD τ) arg15 fullShare X.x14
        ∗ owns (c : Thread nD τ) arg16 fullShare X.x15
        ∗ owns (c : Thread nD τ) arg17 fullShare X.x16
        ∗ owns (c : Thread nD τ) arg18 fullShare X.x17
        ∗ owns (c : Thread nD τ) arg19 fullShare X.x18
        ∗ owns (c : Thread nD τ) arg20 fullShare X.x19
        ∗ owns (c : Thread nD τ) arg21 fullShare X.x20
        ∗ owns (c : Thread nD τ) arg22 fullShare X.x21
        ∗ owns (c : Thread nD τ) arg23 fullShare X.x22
        ∗ owns (c : Thread nD τ) arg24 fullShare X.x23
        ∗ owns (c : Thread nD τ) arg25 fullShare X.x24
        ∗ owns (c : Thread nD τ) arg26 fullShare X.x25
        ∗ owns (c : Thread nD τ) arg27 fullShare (yS X S)
        ∗ owns (c : Thread nD τ) arg28 fullShare xi27
        ∗ owns (c : Thread nD τ) arg29 fullShare xi28
        ∗ owns (c : Thread nD τ) arg30 fullShare (stepS X S).esq
        ∗ owns (c : Thread nD τ) arg31 fullShare (stepS X S).hist
        ∗ owns (c : Thread nD τ) arg32 fullShare (stepS X S).lacc
        ∗ owns (c : Thread nD τ) arg33 fullShare (stepS X S).se
        ∗ owns (c : Thread nD τ) arg34 fullShare (stepS X S).so
        ∗ owns (c : Thread nD τ) arg35 fullShare (stepS X S).se2
        ∗ owns (c : Thread nD τ) arg36 fullShare (stepS X S).so2
        ∗ owns (c : Thread nD τ) arg37 fullShare (stepS X S).ra
        ∗ owns (c : Thread nD τ) arg38 fullShare (stepS X S).rb) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K := by
  iintro ⟨H0, H1, H2, H3, H4, H5, H6, H7, H8, H9, H10, H11, H12, H13, H14, H15, H16, H17, H18, H19, H20, H21, H22, H23, H24, H25, H26, H27, H28, HS0, HS1, HS2, HS3, HS4, HS5, HS6, HS7, HS8, Hk⟩
  iapply ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 hc1 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 S.esq S.hist S.lacc S.se S.so S.se2 S.so2 S.ra S.rb).2.2.2.2.2.2.2.2.2.2.2.2 xi27 xi28 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, H14, H15, H16, H17, H18, H19, H20, H21, H22, H23, H24, H25, ⟨%gH26, H26⟩, H27, H28, HS0, ⟨%gHS1, HS1⟩, ⟨%gHS2, HS2⟩, HS3, HS4, HS5, HS6, HS7, HS8⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]
  · unfold owns; iexists _; isplitr; swap; (iexact H26); ipureintro
    frame_open
    simp only [View.readAt_eq_ld, cov_ld, Memref.IsWhole.read_unread, rw_all, rw_col, ld_all, ld_col0, ld_col1, ld_col2, ld_col3, setc_all, col_setc_ne, col_setc_eq]
    rfl
  isplitl [H27]; · iexact H27
  isplitl [H28]; · iexact H28
  isplitl [HS0]; · iexact HS0
  isplitl [HS1]
  · unfold owns; iexists _; isplitr; swap; (iexact HS1); ipureintro
    frame_open
    simp only [View.readAt_eq_ld, cov_ld, Memref.IsWhole.read_unread, rw_all, rw_col, ld_all, ld_col0, ld_col1, ld_col2, ld_col3, setc_all, col_setc_ne, col_setc_eq]
    rfl
  isplitl [HS2]
  · unfold owns; iexists _; isplitr; swap; (iexact HS2); ipureintro
    frame_open
    simp only [View.readAt_eq_ld, cov_ld, Memref.IsWhole.read_unread, rw_all, rw_col, ld_all, ld_col0, ld_col1, ld_col2, ld_col3, setc_all, col_setc_ne, col_setc_eq]
    rfl
  isplitl [HS3]; · iexact HS3
  isplitl [HS4]; · iexact HS4
  isplitl [HS5]; · iexact HS5
  isplitl [HS6]; · iexact HS6
  isplitl [HS7]; · iexact HS7
  iexact HS8

end Cert.KernelIdeal.Own

end
-- ==== Proof.KiRunC.lean ====
/- The run of the kernel body at the grid's last points: what each store leaves, found by running the body. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE C (`scf.if` 0 not taken, `scf.if` 1 taken: points 127), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1x263x512 .f32) (harg1 : arg1.IsWhole) (arg2 : Memref sig .tc .vmem S512x263 .f32) (harg2 : arg2.IsWhole) (arg3 : Memref sig .tc .vmem S512x263 .f32) (harg3 : arg3.IsWhole) (arg4 : Memref sig .tc .vmem S512x263 .f32) (harg4 : arg4.IsWhole) (arg5 : Memref sig .tc .vmem S512x263 .f32) (harg5 : arg5.IsWhole) (arg6 : Memref sig .tc .vmem S512x1 .f32) (harg6 : arg6.IsWhole) (arg7 : Memref sig .tc .vmem S512x2048 .f32) (harg7 : arg7.IsWhole) (arg8 : Memref sig .tc .vmem S512x1 .f32) (harg8 : arg8.IsWhole) (arg9 : Memref sig .tc .vmem S4x512 .f32) (harg9 : arg9.IsWhole) (arg10 : Memref sig .tc .vmem S4x1 .f32) (harg10 : arg10.IsWhole) (arg11 : Memref sig .tc .vmem S512x4 .f32) (harg11 : arg11.IsWhole) (arg12 : Memref sig .tc .vmem S512x1 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S263x1024 .f32) (harg24 : arg24.IsWhole) (arg25 : Memref sig .tc .vmem S263x1024 .f32) (harg25 : arg25.IsWhole) (arg26 : Memref sig .tc .vmem S263x1 .f32) (harg26 : arg26.IsWhole) (arg27 : Memref sig .tc .vmem S1x263x512 .f32) (harg27 : arg27.IsWhole) (arg28 : Memref sig .tc .vmem S1x1 .f32) (harg28 : arg28.IsWhole) (arg29 : Memref sig .tc .vmem S1x1 .f32) (harg29 : arg29.IsWhole) (arg30 : Memref sig .tc .vmem S1024x4 .f32) (harg30 : arg30.IsWhole) (arg31 : Memref sig .tc .vmem S1024x4 .f32) (harg31 : arg31.IsWhole) (arg32 : Memref sig .tc .vmem S1x1 .f32) (harg32 : arg32.IsWhole) (arg33 : Memref sig .tc .vmem S512x256 .f32) (harg33 : arg33.IsWhole) (arg34 : Memref sig .tc .vmem S512x256 .f32) (harg34 : arg34.IsWhole) (arg35 : Memref sig .tc .vmem S256x128 .f32) (harg35 : arg35.IsWhole) (arg36 : Memref sig .tc .vmem S256x128 .f32) (harg36 : arg36.IsWhole) (arg37 : Memref sig .tc .vmem S256x512 .f32) (harg37 : arg37.IsWhole) (arg38 : Memref sig .tc .vmem S256x512 .f32) (harg38 : arg38.IsWhole) (hc0 : ¬cond0_0 i) (hc1 : cond0_1 i)
    (x0 : Vec F S1x263x512 .f32) (x1 : Vec F S512x263 .f32) (x2 : Vec F S512x263 .f32) (x3 : Vec F S512x263 .f32) (x4 : Vec F S512x263 .f32) (x5 : Vec F S512x1 .f32) (x6 : Vec F S512x2048 .f32) (x7 : Vec F S512x1 .f32) (x8 : Vec F S4x512 .f32) (x9 : Vec F S4x1 .f32) (x10 : Vec F S512x4 .f32) (x11 : Vec F S512x1 .f32) (x12 : Vec F S1024x512 .f32) (x13 : Vec F S1024x512 .f32) (x14 : Vec F S1024x512 .f32) (x15 : Vec F S1024x512 .f32) (x16 : Vec F S512x1024 .f32) (x17 : Vec F S512x1024 .f32) (x18 : Vec F S512x1024 .f32) (x19 : Vec F S512x1024 .f32) (x20 : Vec F S512x1024 .f32) (x21 : Vec F S512x1024 .f32) (x22 : Vec F S512x1 .f32) (x23 : Vec F S263x1024 .f32) (x24 : Vec F S263x1024 .f32) (x25 : Vec F S263x1 .f32) (xs0 : Vec F S1024x4 .f32) (xs1 : Vec F S1024x4 .f32) (xs2 : Vec F S1x1 .f32) (xs3 : Vec F S512x256 .f32) (xs4 : Vec F S512x256 .f32) (xs5 : Vec F S256x128 .f32) (xs6 : Vec F S256x128 .f32) (xs7 : Vec F S256x512 .f32) (xs8 : Vec F S256x512 .f32) :
    Σ' (L26 : List (View.Piece (Elt F) S1x263x512 .f32)), Σ' (L27 : List (View.Piece (Elt F) S1x1 .f32)), Σ' (L28 : List (View.Piece (Elt F) S1x1 .f32)), Σ' (LS0 : List (View.Piece (Elt F) S1024x4 .f32)), Σ' (LS1 : List (View.Piece (Elt F) S1024x4 .f32)), Σ' (LS2 : List (View.Piece (Elt F) S1x1 .f32)), Σ' (LS3 : List (View.Piece (Elt F) S512x256 .f32)), Σ' (LS4 : List (View.Piece (Elt F) S512x256 .f32)), Σ' (LS5 : List (View.Piece (Elt F) S256x128 .f32)), Σ' (LS6 : List (View.Piece (Elt F) S256x128 .f32)), Σ' (LS7 : List (View.Piece (Elt F) S256x512 .f32)), { LS8 : List (View.Piece (Elt F) S256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ (∃ d, owns (c : Thread nD τ) arg28 fullShare d) ∗ (∃ d, owns (c : Thread nD τ) arg29 fullShare d) ∗ owns (c : Thread nD τ) arg30 fullShare xs0 ∗ owns (c : Thread nD τ) arg31 fullShare xs1 ∗ owns (c : Thread nD τ) arg32 fullShare xs2 ∗ owns (c : Thread nD τ) arg33 fullShare xs3 ∗ owns (c : Thread nD τ) arg34 fullShare xs4 ∗ owns (c : Thread nD τ) arg35 fullShare xs5 ∗ owns (c : Thread nD τ) arg36 fullShare xs6 ∗ owns (c : Thread nD τ) arg37 fullShare xs7 ∗ owns (c : Thread nD τ) arg38 fullShare xs8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ owns (c : Thread nD τ) arg30 fullShare xs0 ∗ (∃ f, arg31.view.loc (c : Thread nD τ) ↦[arg31.view.set]{fullShare} arg31.view.writes (Elt F) f LS1) ∗ (∃ f, arg32.view.loc (c : Thread nD τ) ↦[arg32.view.set]{fullShare} arg32.view.writes (Elt F) f LS2) ∗ owns (c : Thread nD τ) arg33 fullShare xs3 ∗ owns (c : Thread nD τ) arg34 fullShare xs4 ∗ owns (c : Thread nD τ) arg35 fullShare xs5 ∗ owns (c : Thread nD τ) arg36 fullShare xs6 ∗ owns (c : Thread nD τ) arg37 fullShare xs7 ∗ owns (c : Thread nD τ) arg38 fullShare xs8) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K } := by
  refine ⟨?_, ?_, ?_, [], ?_, ?_, [], [], [], [], [], [], fun E K => ?run⟩
  case run =>
    simp only [cc0__body_eq_skeleton]; unfold cc0__body_skel
    simp only [k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, ⟨%d28, %f28, -, H28⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg30.eq_unread hfs0; obtain rfl := harg31.eq_unread hfs1; obtain rfl := harg32.eq_unread hfs2; obtain rfl := harg33.eq_unread hfs3; obtain rfl := harg34.eq_unread hfs4; obtain rfl := harg35.eq_unread hfs5; obtain rfl := harg36.eq_unread hfs6; obtain rfl := harg37.eq_unread hfs7; obtain rfl := harg38.eq_unread hfs8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]; · iexists _; iexact H26
    isplitl [H27]; · iexists _; iexact H27
    isplitl [H28]; · iexists _; iexact H28
    isplitl [HS0]
    · iexists _; isplitr; · ipureintro; exact harg30.read_unread _
      iexact HS0
    isplitl [HS1]; · iexists _; iexact HS1
    isplitl [HS2]; · iexists _; iexact HS2
    isplitl [HS3]
    · iexists _; isplitr; · ipureintro; exact harg33.read_unread _
      iexact HS3
    isplitl [HS4]
    · iexists _; isplitr; · ipureintro; exact harg34.read_unread _
      iexact HS4
    isplitl [HS5]
    · iexists _; isplitr; · ipureintro; exact harg35.read_unread _
      iexact HS5
    isplitl [HS6]
    · iexists _; isplitr; · ipureintro; exact harg36.read_unread _
      iexact HS6
    isplitl [HS7]
    · iexists _; isplitr; · ipureintro; exact harg37.read_unread _
      iexact HS7
    iexists _; isplitr; · ipureintro; exact harg38.read_unread _
    iexact HS8

end Cert.KernelIdeal.Gen

end
-- ==== Proof.KiPostC.lean ====
/- The kernel's body at the grid's last points, with what it leaves written out as functions of the blocks and the scratch. -/
module

public import proofs.«01_k».proof.Proof.KiRunC
public import proofs.«01_k».proof.Proof.KiStep
public import Idealize.ShloMosaic.Lib.Pipeline.ValueKit.Acc

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The body at one of the grid's last points, with what it leaves in each buffer written out. -/
theorem runC (c : Dev nD) (i : grid0.Coords) (arg1 : Memref sig .tc .vmem S1x263x512 .f32) (harg1 : arg1.IsWhole) (arg2 : Memref sig .tc .vmem S512x263 .f32) (harg2 : arg2.IsWhole) (arg3 : Memref sig .tc .vmem S512x263 .f32) (harg3 : arg3.IsWhole) (arg4 : Memref sig .tc .vmem S512x263 .f32) (harg4 : arg4.IsWhole) (arg5 : Memref sig .tc .vmem S512x263 .f32) (harg5 : arg5.IsWhole) (arg6 : Memref sig .tc .vmem S512x1 .f32) (harg6 : arg6.IsWhole) (arg7 : Memref sig .tc .vmem S512x2048 .f32) (harg7 : arg7.IsWhole) (arg8 : Memref sig .tc .vmem S512x1 .f32) (harg8 : arg8.IsWhole) (arg9 : Memref sig .tc .vmem S4x512 .f32) (harg9 : arg9.IsWhole) (arg10 : Memref sig .tc .vmem S4x1 .f32) (harg10 : arg10.IsWhole) (arg11 : Memref sig .tc .vmem S512x4 .f32) (harg11 : arg11.IsWhole) (arg12 : Memref sig .tc .vmem S512x1 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S263x1024 .f32) (harg24 : arg24.IsWhole) (arg25 : Memref sig .tc .vmem S263x1024 .f32) (harg25 : arg25.IsWhole) (arg26 : Memref sig .tc .vmem S263x1 .f32) (harg26 : arg26.IsWhole) (arg27 : Memref sig .tc .vmem S1x263x512 .f32) (harg27 : arg27.IsWhole) (arg28 : Memref sig .tc .vmem S1x1 .f32) (harg28 : arg28.IsWhole) (arg29 : Memref sig .tc .vmem S1x1 .f32) (harg29 : arg29.IsWhole) (arg30 : Memref sig .tc .vmem S1024x4 .f32) (harg30 : arg30.IsWhole) (arg31 : Memref sig .tc .vmem S1024x4 .f32) (harg31 : arg31.IsWhole) (arg32 : Memref sig .tc .vmem S1x1 .f32) (harg32 : arg32.IsWhole) (arg33 : Memref sig .tc .vmem S512x256 .f32) (harg33 : arg33.IsWhole) (arg34 : Memref sig .tc .vmem S512x256 .f32) (harg34 : arg34.IsWhole) (arg35 : Memref sig .tc .vmem S256x128 .f32) (harg35 : arg35.IsWhole) (arg36 : Memref sig .tc .vmem S256x128 .f32) (harg36 : arg36.IsWhole) (arg37 : Memref sig .tc .vmem S256x512 .f32) (harg37 : arg37.IsWhole) (arg38 : Memref sig .tc .vmem S256x512 .f32) (harg38 : arg38.IsWhole) (hc0 : ¬cond0_0 i) (hc1 : cond0_1 i)
    (X : Ins F) (S : Sc F) (E : Set ℕ) (K : PUnit → sProp 𝕄) :
    iprop(owns (c : Thread nD τ) arg1 fullShare X.x0
        ∗ owns (c : Thread nD τ) arg2 fullShare X.x1
        ∗ owns (c : Thread nD τ) arg3 fullShare X.x2
        ∗ owns (c : Thread nD τ) arg4 fullShare X.x3
        ∗ owns (c : Thread nD τ) arg5 fullShare X.x4
        ∗ owns (c : Thread nD τ) arg6 fullShare X.x5
        ∗ owns (c : Thread nD τ) arg7 fullShare X.x6
        ∗ owns (c : Thread nD τ) arg8 fullShare X.x7
        ∗ owns (c : Thread nD τ) arg9 fullShare X.x8
        ∗ owns (c : Thread nD τ) arg10 fullShare X.x9
        ∗ owns (c : Thread nD τ) arg11 fullShare X.x10
        ∗ owns (c : Thread nD τ) arg12 fullShare X.x11
        ∗ owns (c : Thread nD τ) arg13 fullShare X.x12
        ∗ owns (c : Thread nD τ) arg14 fullShare X.x13
        ∗ owns (c : Thread nD τ) arg15 fullShare X.x14
        ∗ owns (c : Thread nD τ) arg16 fullShare X.x15
        ∗ owns (c : Thread nD τ) arg17 fullShare X.x16
        ∗ owns (c : Thread nD τ) arg18 fullShare X.x17
        ∗ owns (c : Thread nD τ) arg19 fullShare X.x18
        ∗ owns (c : Thread nD τ) arg20 fullShare X.x19
        ∗ owns (c : Thread nD τ) arg21 fullShare X.x20
        ∗ owns (c : Thread nD τ) arg22 fullShare X.x21
        ∗ owns (c : Thread nD τ) arg23 fullShare X.x22
        ∗ owns (c : Thread nD τ) arg24 fullShare X.x23
        ∗ owns (c : Thread nD τ) arg25 fullShare X.x24
        ∗ owns (c : Thread nD τ) arg26 fullShare X.x25
        ∗ (∃ d, owns (c : Thread nD τ) arg27 fullShare d)
        ∗ (∃ d, owns (c : Thread nD τ) arg28 fullShare d)
        ∗ (∃ d, owns (c : Thread nD τ) arg29 fullShare d)
        ∗ owns (c : Thread nD τ) arg30 fullShare S.esq
        ∗ owns (c : Thread nD τ) arg31 fullShare S.hist
        ∗ owns (c : Thread nD τ) arg32 fullShare S.lacc
        ∗ owns (c : Thread nD τ) arg33 fullShare S.se
        ∗ owns (c : Thread nD τ) arg34 fullShare S.so
        ∗ owns (c : Thread nD τ) arg35 fullShare S.se2
        ∗ owns (c : Thread nD τ) arg36 fullShare S.so2
        ∗ owns (c : Thread nD τ) arg37 fullShare S.ra
        ∗ owns (c : Thread nD τ) arg38 fullShare S.rb
        ∗ (iprop(owns (c : Thread nD τ) arg1 fullShare X.x0
        ∗ owns (c : Thread nD τ) arg2 fullShare X.x1
        ∗ owns (c : Thread nD τ) arg3 fullShare X.x2
        ∗ owns (c : Thread nD τ) arg4 fullShare X.x3
        ∗ owns (c : Thread nD τ) arg5 fullShare X.x4
        ∗ owns (c : Thread nD τ) arg6 fullShare X.x5
        ∗ owns (c : Thread nD τ) arg7 fullShare X.x6
        ∗ owns (c : Thread nD τ) arg8 fullShare X.x7
        ∗ owns (c : Thread nD τ) arg9 fullShare X.x8
        ∗ owns (c : Thread nD τ) arg10 fullShare X.x9
        ∗ owns (c : Thread nD τ) arg11 fullShare X.x10
        ∗ owns (c : Thread nD τ) arg12 fullShare X.x11
        ∗ owns (c : Thread nD τ) arg13 fullShare X.x12
        ∗ owns (c : Thread nD τ) arg14 fullShare X.x13
        ∗ owns (c : Thread nD τ) arg15 fullShare X.x14
        ∗ owns (c : Thread nD τ) arg16 fullShare X.x15
        ∗ owns (c : Thread nD τ) arg17 fullShare X.x16
        ∗ owns (c : Thread nD τ) arg18 fullShare X.x17
        ∗ owns (c : Thread nD τ) arg19 fullShare X.x18
        ∗ owns (c : Thread nD τ) arg20 fullShare X.x19
        ∗ owns (c : Thread nD τ) arg21 fullShare X.x20
        ∗ owns (c : Thread nD τ) arg22 fullShare X.x21
        ∗ owns (c : Thread nD τ) arg23 fullShare X.x22
        ∗ owns (c : Thread nD τ) arg24 fullShare X.x23
        ∗ owns (c : Thread nD τ) arg25 fullShare X.x24
        ∗ owns (c : Thread nD τ) arg26 fullShare X.x25
        ∗ owns (c : Thread nD τ) arg27 fullShare (yS X S)
        ∗ owns (c : Thread nD τ) arg28 fullShare (lossS X S)
        ∗ owns (c : Thread nD τ) arg29 fullShare (pplS X S)
        ∗ owns (c : Thread nD τ) arg30 fullShare (stepS X S).esq
        ∗ owns (c : Thread nD τ) arg31 fullShare (stepS X S).hist
        ∗ owns (c : Thread nD τ) arg32 fullShare (stepS X S).lacc
        ∗ owns (c : Thread nD τ) arg33 fullShare (stepS X S).se
        ∗ owns (c : Thread nD τ) arg34 fullShare (stepS X S).so
        ∗ owns (c : Thread nD τ) arg35 fullShare (stepS X S).se2
        ∗ owns (c : Thread nD τ) arg36 fullShare (stepS X S).so2
        ∗ owns (c : Thread nD τ) arg37 fullShare (stepS X S).ra
        ∗ owns (c : Thread nD τ) arg38 fullShare (stepS X S).rb) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K := by
  iintro ⟨H0, H1, H2, H3, H4, H5, H6, H7, H8, H9, H10, H11, H12, H13, H14, H15, H16, H17, H18, H19, H20, H21, H22, H23, H24, H25, H26, H27, H28, HS0, HS1, HS2, HS3, HS4, HS5, HS6, HS7, HS8, Hk⟩
  iapply ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 hc1 X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 S.esq S.hist S.lacc S.se S.so S.se2 S.so2 S.ra S.rb).2.2.2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, H14, H15, H16, H17, H18, H19, H20, H21, H22, H23, H24, H25, ⟨%gH26, H26⟩, ⟨%gH27, H27⟩, ⟨%gH28, H28⟩, HS0, ⟨%gHS1, HS1⟩, ⟨%gHS2, HS2⟩, HS3, HS4, HS5, HS6, HS7, HS8⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]
  · unfold owns; iexists _; isplitr; swap; (iexact H26); ipureintro
    frame_open
    simp only [View.readAt_eq_ld, cov_ld, Memref.IsWhole.read_unread, rw_all, rw_col, ld_all, ld_col0, ld_col1, ld_col2, ld_col3, setc_all, col_setc_ne, col_setc_eq]
    rfl
  isplitl [H27]
  · unfold owns; iexists _; isplitr; swap; (iexact H27); ipureintro
    frame_open
    simp only [View.readAt_eq_ld, cov_ld, Memref.IsWhole.read_unread, rw_all, rw_col, ld_all, ld_col0, ld_col1, ld_col2, ld_col3, setc_all, col_setc_ne, col_setc_eq]
    rfl
  isplitl [H28]
  · unfold owns; iexists _; isplitr; swap; (iexact H28); ipureintro
    frame_open
    simp only [View.readAt_eq_ld, cov_ld, Memref.IsWhole.read_unread, rw_all, rw_col, ld_all, ld_col0, ld_col1, ld_col2, ld_col3, setc_all, col_setc_ne, col_setc_eq]
    rfl
  isplitl [HS0]; · iexact HS0
  isplitl [HS1]
  · unfold owns; iexists _; isplitr; swap; (iexact HS1); ipureintro
    frame_open
    simp only [View.readAt_eq_ld, cov_ld, Memref.IsWhole.read_unread, rw_all, rw_col, ld_all, ld_col0, ld_col1, ld_col2, ld_col3, setc_all, col_setc_ne, col_setc_eq]
    rfl
  isplitl [HS2]
  · unfold owns; iexists _; isplitr; swap; (iexact HS2); ipureintro
    frame_open
    simp only [View.readAt_eq_ld, cov_ld, Memref.IsWhole.read_unread, rw_all, rw_col, ld_all, ld_col0, ld_col1, ld_col2, ld_col3, setc_all, col_setc_ne, col_setc_eq]
    rfl
  isplitl [HS3]; · iexact HS3
  isplitl [HS4]; · iexact HS4
  isplitl [HS5]; · iexact HS5
  isplitl [HS6]; · iexact HS6
  isplitl [HS7]; · iexact HS7
  iexact HS8

end Cert.KernelIdeal.Own

end
-- ==== Proof.KiBody.lean ====
/- The kernel point by point: what each buffer and the scratch hold, and that the body leaves it so. -/
module

public import proofs.«01_k».proof.Proof.KiPostA
public import proofs.«01_k».proof.Proof.KiPostB
public import proofs.«01_k».proof.Proof.KiPostC
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the body is given at a point. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t, iblk m c 25 t⟩

/-- The scratch a point computes from: set up at the first point, then what the point before left. -/
def scB (c : Dev nD) : (n : ℕ) → n < cfg0.N → Sc F
  | 0, h => initS (insAt m c ⟨0, h⟩)
  | n + 1, h => stepS (insAt m c ⟨n, Nat.lt_of_succ_lt h⟩) (scB c n (Nat.lt_of_succ_lt h))

/-- The scratch a point leaves. -/
def scA (c : Dev nD) (n : ℕ) (h : n < cfg0.N) : Sc F := stepS (insAt m c ⟨n, h⟩) (scB m c n h)

/-- At the first point the scratch is set up. -/
theorem scB_zero (c : Dev nD) (t : Fin cfg0.N) (hz : t.val = 0) : scB m c t.val t.isLt = initS (insAt m c t) := by
  obtain ⟨n, hn⟩ := t
  cases n with
  | zero => rfl
  | succ n => exact absurd hz (Nat.succ_ne_zero n)

/-- At a later point it is what the point before left. -/
theorem scB_pos (c : Dev nD) (t : Fin cfg0.N) (hz : t.val ≠ 0) :
    scB m c t.val t.isLt = scA m c (t.val - 1) (Nat.lt_of_le_of_lt (Nat.sub_le _ _) t.isLt) := by
  obtain ⟨n, hn⟩ := t
  cases n with
  | zero => exact absurd rfl hz
  | succ n => rfl

/-- What is held before a point: at first what the launch hands over, afterwards the scratch at what the point before left. -/
def PhiS (c : Dev nD) : (n : ℕ) → n ≤ cfg0.N → sProp 𝕄
  | 0, _ => Pipeline.ΦA spec0 c
  | n + 1, hn => iprop(iprop(owns (c : Thread nD τ) scM0_0 fullShare (scA m c n hn).esq ∗ owns (c : Thread nD τ) scM0_1 fullShare (scA m c n hn).hist ∗ owns (c : Thread nD τ) scM0_2 fullShare (scA m c n hn).lacc ∗ owns (c : Thread nD τ) scM0_3 fullShare (scA m c n hn).se ∗ owns (c : Thread nD τ) scM0_4 fullShare (scA m c n hn).so ∗ owns (c : Thread nD τ) scM0_5 fullShare (scA m c n hn).se2 ∗ owns (c : Thread nD τ) scM0_6 fullShare (scA m c n hn).so2 ∗ owns (c : Thread nD τ) scM0_7 fullShare (scA m c n hn).ra ∗ owns (c : Thread nD τ) scM0_8 fullShare (scA m c n hn).rb) ∗ (∃ r, prngReg c r))

/-- Before the first point. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (scA m c n hn).esq ∗ owns (c : Thread nD τ) scM0_1 fullShare (scA m c n hn).hist ∗ owns (c : Thread nD τ) scM0_2 fullShare (scA m c n hn).lacc ∗ owns (c : Thread nD τ) scM0_3 fullShare (scA m c n hn).se ∗ owns (c : Thread nD τ) scM0_4 fullShare (scA m c n hn).so ∗ owns (c : Thread nD τ) scM0_5 fullShare (scA m c n hn).se2 ∗ owns (c : Thread nD τ) scM0_6 fullShare (scA m c n hn).so2 ∗ owns (c : Thread nD τ) scM0_7 fullShare (scA m c n hn).ra ∗ owns (c : Thread nD τ) scM0_8 fullShare (scA m c n hn).rb) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (scA m c (n - 1) (by omega)).esq ∗ owns (c : Thread nD τ) scM0_1 fullShare (scA m c (n - 1) (by omega)).hist ∗ owns (c : Thread nD τ) scM0_2 fullShare (scA m c (n - 1) (by omega)).lacc ∗ owns (c : Thread nD τ) scM0_3 fullShare (scA m c (n - 1) (by omega)).se ∗ owns (c : Thread nD τ) scM0_4 fullShare (scA m c (n - 1) (by omega)).so ∗ owns (c : Thread nD τ) scM0_5 fullShare (scA m c (n - 1) (by omega)).se2 ∗ owns (c : Thread nD τ) scM0_6 fullShare (scA m c (n - 1) (by omega)).so2 ∗ owns (c : Thread nD τ) scM0_7 fullShare (scA m c (n - 1) (by omega)).ra ∗ owns (c : Thread nD τ) scM0_8 fullShare (scA m c (n - 1) (by omega)).rb) ∗ (∃ r, prngReg c r)) := by
  cases n with
  | zero => exact absurd rfl hz
  | succ n => rfl

/-- The data of the one pipeline: its arrays as the region finds them, and what each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => yS (insAt m c t) (scB m c t.val t.isLt)
    | ⟨27, _⟩ => lossS (insAt m c t) (scB m c t.val t.isLt)
    | ⟨28, _⟩ => pplS (insAt m c t) (scB m c t.val t.isLt)
    | ⟨_ + 29, h⟩ => absurd h (Nat.not_lt.2 (Nat.le_add_left _ _))
  Φ t := PhiS m c t.val (Nat.le_of_lt_succ t.isLt)
  q _ := fullShare
  owed _ := 0

/-- The arrays are those found at entry. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Window 0 after a point. -/
theorem after0_0 (c : Dev nD) (t : Fin cfg0.N) : (dats m 0 c).after 0 t = iblk m c 0 t := by dsimp only [dats]
/-- Window 1 after a point. -/
theorem after0_1 (c : Dev nD) (t : Fin cfg0.N) : (dats m 0 c).after 1 t = iblk m c 1 t := by dsimp only [dats]
/-- Window 2 after a point. -/
theorem after0_2 (c : Dev nD) (t : Fin cfg0.N) : (dats m 0 c).after 2 t = iblk m c 2 t := by dsimp only [dats]
/-- Window 3 after a point. -/
theorem after0_3 (c : Dev nD) (t : Fin cfg0.N) : (dats m 0 c).after 3 t = iblk m c 3 t := by dsimp only [dats]
/-- Window 4 after a point. -/
theorem after0_4 (c : Dev nD) (t : Fin cfg0.N) : (dats m 0 c).after 4 t = iblk m c 4 t := by dsimp only [dats]
/-- Window 5 after a point. -/
theorem after0_5 (c : Dev nD) (t : Fin cfg0.N) : (dats m 0 c).after 5 t = iblk m c 5 t := by dsimp only [dats]
/-- Window 6 after a point. -/
theorem after0_6 (c : Dev nD) (t : Fin cfg0.N) : (dats m 0 c).after 6 t = iblk m c 6 t := by dsimp only [dats]
/-- Window 7 after a point. -/
theorem after0_7 (c : Dev nD) (t : Fin cfg0.N) : (dats m 0 c).after 7 t = iblk m c 7 t := by dsimp only [dats]
/-- Window 8 after a point. -/
theorem after0_8 (c : Dev nD) (t : Fin cfg0.N) : (dats m 0 c).after 8 t = iblk m c 8 t := by dsimp only [dats]
/-- Window 9 after a point. -/
theorem after0_9 (c : Dev nD) (t : Fin cfg0.N) : (dats m 0 c).after 9 t = iblk m c 9 t := by dsimp only [dats]
/-- Window 10 after a point. -/
theorem after0_10 (c : Dev nD) (t : Fin cfg0.N) : (dats m 0 c).after 10 t = iblk m c 10 t := by dsimp only [dats]
/-- Window 11 after a point. -/
theorem after0_11 (c : Dev nD) (t : Fin cfg0.N) : (dats m 0 c).after 11 t = iblk m c 11 t := by dsimp only [dats]
/-- Window 12 after a point. -/
theorem after0_12 (c : Dev nD) (t : Fin cfg0.N) : (dats m 0 c).after 12 t = iblk m c 12 t := by dsimp only [dats]
/-- Window 13 after a point. -/
theorem after0_13 (c : Dev nD) (t : Fin cfg0.N) : (dats m 0 c).after 13 t = iblk m c 13 t := by dsimp only [dats]
/-- Window 14 after a point. -/
theorem after0_14 (c : Dev nD) (t : Fin cfg0.N) : (dats m 0 c).after 14 t = iblk m c 14 t := by dsimp only [dats]
/-- Window 15 after a point. -/
theorem after0_15 (c : Dev nD) (t : Fin cfg0.N) : (dats m 0 c).after 15 t = iblk m c 15 t := by dsimp only [dats]
/-- Window 16 after a point. -/
theorem after0_16 (c : Dev nD) (t : Fin cfg0.N) : (dats m 0 c).after 16 t = iblk m c 16 t := by dsimp only [dats]
/-- Window 17 after a point. -/
theorem after0_17 (c : Dev nD) (t : Fin cfg0.N) : (dats m 0 c).after 17 t = iblk m c 17 t := by dsimp only [dats]
/-- Window 18 after a point. -/
theorem after0_18 (c : Dev nD) (t : Fin cfg0.N) : (dats m 0 c).after 18 t = iblk m c 18 t := by dsimp only [dats]
/-- Window 19 after a point. -/
theorem after0_19 (c : Dev nD) (t : Fin cfg0.N) : (dats m 0 c).after 19 t = iblk m c 19 t := by dsimp only [dats]
/-- Window 20 after a point. -/
theorem after0_20 (c : Dev nD) (t : Fin cfg0.N) : (dats m 0 c).after 20 t = iblk m c 20 t := by dsimp only [dats]
/-- Window 21 after a point. -/
theorem after0_21 (c : Dev nD) (t : Fin cfg0.N) : (dats m 0 c).after 21 t = iblk m c 21 t := by dsimp only [dats]
/-- Window 22 after a point. -/
theorem after0_22 (c : Dev nD) (t : Fin cfg0.N) : (dats m 0 c).after 22 t = iblk m c 22 t := by dsimp only [dats]
/-- Window 23 after a point. -/
theorem after0_23 (c : Dev nD) (t : Fin cfg0.N) : (dats m 0 c).after 23 t = iblk m c 23 t := by dsimp only [dats]
/-- Window 24 after a point. -/
theorem after0_24 (c : Dev nD) (t : Fin cfg0.N) : (dats m 0 c).after 24 t = iblk m c 24 t := by dsimp only [dats]
/-- Window 25 after a point. -/
theorem after0_25 (c : Dev nD) (t : Fin cfg0.N) : (dats m 0 c).after 25 t = iblk m c 25 t := by dsimp only [dats]
/-- Window 26 after a point. -/
theorem after0_26 (c : Dev nD) (t : Fin cfg0.N) : (dats m 0 c).after 26 t = yS (insAt m c t) (scB m c t.val t.isLt) := by dsimp only [dats]
/-- Window 27 after a point. -/
theorem after0_27 (c : Dev nD) (t : Fin cfg0.N) : (dats m 0 c).after 27 t = lossS (insAt m c t) (scB m c t.val t.isLt) := by dsimp only [dats]
/-- Window 28 after a point. -/
theorem after0_28 (c : Dev nD) (t : Fin cfg0.N) : (dats m 0 c).after 28 t = pplS (insAt m c t) (scB m c t.val t.isLt) := by dsimp only [dats]

/-- Window 0 before a point. -/
theorem before0_0 (c : Dev nD) (t : Fin cfg0.N) (d) : (dats m 0 c).before 0 t d = iblk m c 0 t :=
  before0_0_of m (dats m 0 c) (A_eq m c 0) (after0_0 m c) t d
/-- Window 1 before a point. -/
theorem before0_1 (c : Dev nD) (t : Fin cfg0.N) (d) : (dats m 0 c).before 1 t d = iblk m c 1 t :=
  before0_1_of m (dats m 0 c) (A_eq m c 1) (after0_1 m c) t d
/-- Window 2 before a point. -/
theorem before0_2 (c : Dev nD) (t : Fin cfg0.N) (d) : (dats m 0 c).before 2 t d = iblk m c 2 t :=
  before0_2_of m (dats m 0 c) (A_eq m c 2) (after0_2 m c) t d
/-- Window 3 before a point. -/
theorem before0_3 (c : Dev nD) (t : Fin cfg0.N) (d) : (dats m 0 c).before 3 t d = iblk m c 3 t :=
  before0_3_of m (dats m 0 c) (A_eq m c 3) (after0_3 m c) t d
/-- Window 4 before a point. -/
theorem before0_4 (c : Dev nD) (t : Fin cfg0.N) (d) : (dats m 0 c).before 4 t d = iblk m c 4 t :=
  before0_4_of m (dats m 0 c) (A_eq m c 4) (after0_4 m c) t d
/-- Window 5 before a point. -/
theorem before0_5 (c : Dev nD) (t : Fin cfg0.N) (d) : (dats m 0 c).before 5 t d = iblk m c 5 t :=
  before0_5_of m (dats m 0 c) (A_eq m c 5) (after0_5 m c) t d
/-- Window 6 before a point. -/
theorem before0_6 (c : Dev nD) (t : Fin cfg0.N) (d) : (dats m 0 c).before 6 t d = iblk m c 6 t :=
  before0_6_of m (dats m 0 c) (A_eq m c 6) (after0_6 m c) t d
/-- Window 7 before a point. -/
theorem before0_7 (c : Dev nD) (t : Fin cfg0.N) (d) : (dats m 0 c).before 7 t d = iblk m c 7 t :=
  before0_7_of m (dats m 0 c) (A_eq m c 7) (after0_7 m c) t d
/-- Window 8 before a point. -/
theorem before0_8 (c : Dev nD) (t : Fin cfg0.N) (d) : (dats m 0 c).before 8 t d = iblk m c 8 t :=
  before0_8_of m (dats m 0 c) (A_eq m c 8) (after0_8 m c) t d
/-- Window 9 before a point. -/
theorem before0_9 (c : Dev nD) (t : Fin cfg0.N) (d) : (dats m 0 c).before 9 t d = iblk m c 9 t :=
  before0_9_of m (dats m 0 c) (A_eq m c 9) (after0_9 m c) t d
/-- Window 10 before a point. -/
theorem before0_10 (c : Dev nD) (t : Fin cfg0.N) (d) : (dats m 0 c).before 10 t d = iblk m c 10 t :=
  before0_10_of m (dats m 0 c) (A_eq m c 10) (after0_10 m c) t d
/-- Window 11 before a point. -/
theorem before0_11 (c : Dev nD) (t : Fin cfg0.N) (d) : (dats m 0 c).before 11 t d = iblk m c 11 t :=
  before0_11_of m (dats m 0 c) (A_eq m c 11) (after0_11 m c) t d
/-- Window 12 before a point. -/
theorem before0_12 (c : Dev nD) (t : Fin cfg0.N) (d) : (dats m 0 c).before 12 t d = iblk m c 12 t :=
  before0_12_of m (dats m 0 c) (A_eq m c 12) (after0_12 m c) t d
/-- Window 13 before a point. -/
theorem before0_13 (c : Dev nD) (t : Fin cfg0.N) (d) : (dats m 0 c).before 13 t d = iblk m c 13 t :=
  before0_13_of m (dats m 0 c) (A_eq m c 13) (after0_13 m c) t d
/-- Window 14 before a point. -/
theorem before0_14 (c : Dev nD) (t : Fin cfg0.N) (d) : (dats m 0 c).before 14 t d = iblk m c 14 t :=
  before0_14_of m (dats m 0 c) (A_eq m c 14) (after0_14 m c) t d
/-- Window 15 before a point. -/
theorem before0_15 (c : Dev nD) (t : Fin cfg0.N) (d) : (dats m 0 c).before 15 t d = iblk m c 15 t :=
  before0_15_of m (dats m 0 c) (A_eq m c 15) (after0_15 m c) t d
/-- Window 16 before a point. -/
theorem before0_16 (c : Dev nD) (t : Fin cfg0.N) (d) : (dats m 0 c).before 16 t d = iblk m c 16 t :=
  before0_16_of m (dats m 0 c) (A_eq m c 16) (after0_16 m c) t d
/-- Window 17 before a point. -/
theorem before0_17 (c : Dev nD) (t : Fin cfg0.N) (d) : (dats m 0 c).before 17 t d = iblk m c 17 t :=
  before0_17_of m (dats m 0 c) (A_eq m c 17) (after0_17 m c) t d
/-- Window 18 before a point. -/
theorem before0_18 (c : Dev nD) (t : Fin cfg0.N) (d) : (dats m 0 c).before 18 t d = iblk m c 18 t :=
  before0_18_of m (dats m 0 c) (A_eq m c 18) (after0_18 m c) t d
/-- Window 19 before a point. -/
theorem before0_19 (c : Dev nD) (t : Fin cfg0.N) (d) : (dats m 0 c).before 19 t d = iblk m c 19 t :=
  before0_19_of m (dats m 0 c) (A_eq m c 19) (after0_19 m c) t d
/-- Window 20 before a point. -/
theorem before0_20 (c : Dev nD) (t : Fin cfg0.N) (d) : (dats m 0 c).before 20 t d = iblk m c 20 t :=
  before0_20_of m (dats m 0 c) (A_eq m c 20) (after0_20 m c) t d
/-- Window 21 before a point. -/
theorem before0_21 (c : Dev nD) (t : Fin cfg0.N) (d) : (dats m 0 c).before 21 t d = iblk m c 21 t :=
  before0_21_of m (dats m 0 c) (A_eq m c 21) (after0_21 m c) t d
/-- Window 22 before a point. -/
theorem before0_22 (c : Dev nD) (t : Fin cfg0.N) (d) : (dats m 0 c).before 22 t d = iblk m c 22 t :=
  before0_22_of m (dats m 0 c) (A_eq m c 22) (after0_22 m c) t d
/-- Window 23 before a point. -/
theorem before0_23 (c : Dev nD) (t : Fin cfg0.N) (d) : (dats m 0 c).before 23 t d = iblk m c 23 t :=
  before0_23_of m (dats m 0 c) (A_eq m c 23) (after0_23 m c) t d
/-- Window 24 before a point. -/
theorem before0_24 (c : Dev nD) (t : Fin cfg0.N) (d) : (dats m 0 c).before 24 t d = iblk m c 24 t :=
  before0_24_of m (dats m 0 c) (A_eq m c 24) (after0_24 m c) t d
/-- Window 25 before a point. -/
theorem before0_25 (c : Dev nD) (t : Fin cfg0.N) (d) : (dats m 0 c).before 25 t d = iblk m c 25 t :=
  before0_25_of m (dats m 0 c) (A_eq m c 25) (after0_25 m c) t d

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- What the body hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t)

/-- Window 0 is handed back with what the data say. -/
theorem leaves_0 (c : Dev nD) (t : Fin cfg0.N) : (dats m 0 c).leavesExact 0 t = owns (c : Thread nD τ) (ms0_0 t) fullShare (iblk m c 0 t) := by
  unfold Dat.leavesExact; rw [liveAt0_0 t, after0_0]
/-- Window 1 is handed back with what the data say. -/
theorem leaves_1 (c : Dev nD) (t : Fin cfg0.N) : (dats m 0 c).leavesExact 1 t = owns (c : Thread nD τ) (ms0_1 t) fullShare (iblk m c 1 t) := by
  unfold Dat.leavesExact; rw [liveAt0_1 t, after0_1]
/-- Window 2 is handed back with what the data say. -/
theorem leaves_2 (c : Dev nD) (t : Fin cfg0.N) : (dats m 0 c).leavesExact 2 t = owns (c : Thread nD τ) (ms0_2 t) fullShare (iblk m c 2 t) := by
  unfold Dat.leavesExact; rw [liveAt0_2 t, after0_2]
/-- Window 3 is handed back with what the data say. -/
theorem leaves_3 (c : Dev nD) (t : Fin cfg0.N) : (dats m 0 c).leavesExact 3 t = owns (c : Thread nD τ) (ms0_3 t) fullShare (iblk m c 3 t) := by
  unfold Dat.leavesExact; rw [liveAt0_3 t, after0_3]
/-- Window 4 is handed back with what the data say. -/
theorem leaves_4 (c : Dev nD) (t : Fin cfg0.N) : (dats m 0 c).leavesExact 4 t = owns (c : Thread nD τ) (ms0_4 t) fullShare (iblk m c 4 t) := by
  unfold Dat.leavesExact; rw [liveAt0_4 t, after0_4]
/-- Window 5 is handed back with what the data say. -/
theorem leaves_5 (c : Dev nD) (t : Fin cfg0.N) : (dats m 0 c).leavesExact 5 t = owns (c : Thread nD τ) (ms0_5 t) fullShare (iblk m c 5 t) := by
  unfold Dat.leavesExact; rw [liveAt0_5 t, after0_5]
/-- Window 6 is handed back with what the data say. -/
theorem leaves_6 (c : Dev nD) (t : Fin cfg0.N) : (dats m 0 c).leavesExact 6 t = owns (c : Thread nD τ) (ms0_6 t) fullShare (iblk m c 6 t) := by
  unfold Dat.leavesExact; rw [liveAt0_6 t, after0_6]
/-- Window 7 is handed back with what the data say. -/
theorem leaves_7 (c : Dev nD) (t : Fin cfg0.N) : (dats m 0 c).leavesExact 7 t = owns (c : Thread nD τ) (ms0_7 t) fullShare (iblk m c 7 t) := by
  unfold Dat.leavesExact; rw [liveAt0_7 t, after0_7]
/-- Window 8 is handed back with what the data say. -/
theorem leaves_8 (c : Dev nD) (t : Fin cfg0.N) : (dats m 0 c).leavesExact 8 t = owns (c : Thread nD τ) (ms0_8 t) fullShare (iblk m c 8 t) := by
  unfold Dat.leavesExact; rw [liveAt0_8 t, after0_8]
/-- Window 9 is handed back with what the data say. -/
theorem leaves_9 (c : Dev nD) (t : Fin cfg0.N) : (dats m 0 c).leavesExact 9 t = owns (c : Thread nD τ) (ms0_9 t) fullShare (iblk m c 9 t) := by
  unfold Dat.leavesExact; rw [liveAt0_9 t, after0_9]
/-- Window 10 is handed back with what the data say. -/
theorem leaves_10 (c : Dev nD) (t : Fin cfg0.N) : (dats m 0 c).leavesExact 10 t = owns (c : Thread nD τ) (ms0_10 t) fullShare (iblk m c 10 t) := by
  unfold Dat.leavesExact; rw [liveAt0_10 t, after0_10]
/-- Window 11 is handed back with what the data say. -/
theorem leaves_11 (c : Dev nD) (t : Fin cfg0.N) : (dats m 0 c).leavesExact 11 t = owns (c : Thread nD τ) (ms0_11 t) fullShare (iblk m c 11 t) := by
  unfold Dat.leavesExact; rw [liveAt0_11 t, after0_11]
/-- Window 12 is handed back with what the data say. -/
theorem leaves_12 (c : Dev nD) (t : Fin cfg0.N) : (dats m 0 c).leavesExact 12 t = owns (c : Thread nD τ) (ms0_12 t) fullShare (iblk m c 12 t) := by
  unfold Dat.leavesExact; rw [liveAt0_12 t, after0_12]
/-- Window 13 is handed back with what the data say. -/
theorem leaves_13 (c : Dev nD) (t : Fin cfg0.N) : (dats m 0 c).leavesExact 13 t = owns (c : Thread nD τ) (ms0_13 t) fullShare (iblk m c 13 t) := by
  unfold Dat.leavesExact; rw [liveAt0_13 t, after0_13]
/-- Window 14 is handed back with what the data say. -/
theorem leaves_14 (c : Dev nD) (t : Fin cfg0.N) : (dats m 0 c).leavesExact 14 t = owns (c : Thread nD τ) (ms0_14 t) fullShare (iblk m c 14 t) := by
  unfold Dat.leavesExact; rw [liveAt0_14 t, after0_14]
/-- Window 15 is handed back with what the data say. -/
theorem leaves_15 (c : Dev nD) (t : Fin cfg0.N) : (dats m 0 c).leavesExact 15 t = owns (c : Thread nD τ) (ms0_15 t) fullShare (iblk m c 15 t) := by
  unfold Dat.leavesExact; rw [liveAt0_15 t, after0_15]
/-- Window 16 is handed back with what the data say. -/
theorem leaves_16 (c : Dev nD) (t : Fin cfg0.N) : (dats m 0 c).leavesExact 16 t = owns (c : Thread nD τ) (ms0_16 t) fullShare (iblk m c 16 t) := by
  unfold Dat.leavesExact; rw [liveAt0_16 t, after0_16]
/-- Window 17 is handed back with what the data say. -/
theorem leaves_17 (c : Dev nD) (t : Fin cfg0.N) : (dats m 0 c).leavesExact 17 t = owns (c : Thread nD τ) (ms0_17 t) fullShare (iblk m c 17 t) := by
  unfold Dat.leavesExact; rw [liveAt0_17 t, after0_17]
/-- Window 18 is handed back with what the data say. -/
theorem leaves_18 (c : Dev nD) (t : Fin cfg0.N) : (dats m 0 c).leavesExact 18 t = owns (c : Thread nD τ) (ms0_18 t) fullShare (iblk m c 18 t) := by
  unfold Dat.leavesExact; rw [liveAt0_18 t, after0_18]
/-- Window 19 is handed back with what the data say. -/
theorem leaves_19 (c : Dev nD) (t : Fin cfg0.N) : (dats m 0 c).leavesExact 19 t = owns (c : Thread nD τ) (ms0_19 t) fullShare (iblk m c 19 t) := by
  unfold Dat.leavesExact; rw [liveAt0_19 t, after0_19]
/-- Window 20 is handed back with what the data say. -/
theorem leaves_20 (c : Dev nD) (t : Fin cfg0.N) : (dats m 0 c).leavesExact 20 t = owns (c : Thread nD τ) (ms0_20 t) fullShare (iblk m c 20 t) := by
  unfold Dat.leavesExact; rw [liveAt0_20 t, after0_20]
/-- Window 21 is handed back with what the data say. -/
theorem leaves_21 (c : Dev nD) (t : Fin cfg0.N) : (dats m 0 c).leavesExact 21 t = owns (c : Thread nD τ) (ms0_21 t) fullShare (iblk m c 21 t) := by
  unfold Dat.leavesExact; rw [liveAt0_21 t, after0_21]
/-- Window 22 is handed back with what the data say. -/
theorem leaves_22 (c : Dev nD) (t : Fin cfg0.N) : (dats m 0 c).leavesExact 22 t = owns (c : Thread nD τ) (ms0_22 t) fullShare (iblk m c 22 t) := by
  unfold Dat.leavesExact; rw [liveAt0_22 t, after0_22]
/-- Window 23 is handed back with what the data say. -/
theorem leaves_23 (c : Dev nD) (t : Fin cfg0.N) : (dats m 0 c).leavesExact 23 t = owns (c : Thread nD τ) (ms0_23 t) fullShare (iblk m c 23 t) := by
  unfold Dat.leavesExact; rw [liveAt0_23 t, after0_23]
/-- Window 24 is handed back with what the data say. -/
theorem leaves_24 (c : Dev nD) (t : Fin cfg0.N) : (dats m 0 c).leavesExact 24 t = owns (c : Thread nD τ) (ms0_24 t) fullShare (iblk m c 24 t) := by
  unfold Dat.leavesExact; rw [liveAt0_24 t, after0_24]
/-- Window 25 is handed back with what the data say. -/
theorem leaves_25 (c : Dev nD) (t : Fin cfg0.N) : (dats m 0 c).leavesExact 25 t = owns (c : Thread nD τ) (ms0_25 t) fullShare (iblk m c 25 t) := by
  unfold Dat.leavesExact; rw [liveAt0_25 t, after0_25]
/-- Window 26 is handed back with what the data say. -/
theorem leaves_26 (c : Dev nD) (t : Fin cfg0.N) : (dats m 0 c).leavesExact 26 t = owns (c : Thread nD τ) (ms0_26 t) fullShare (yS (insAt m c t) (scB m c t.val t.isLt)) := by
  unfold Dat.leavesExact; rw [liveAt0_26 t, after0_26]

set_option maxHeartbeats 43200000 in
/-- The body at any point hands back what the data say: at the first, a middle or the last point its run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 128 = 0
  · have h1 : ¬t.val % 128 = 127 := by omega
    rw [leaves_0 m c t]
    rw [leaves_1 m c t]
    rw [leaves_2 m c t]
    rw [leaves_3 m c t]
    rw [leaves_4 m c t]
    rw [leaves_5 m c t]
    rw [leaves_6 m c t]
    rw [leaves_7 m c t]
    rw [leaves_8 m c t]
    rw [leaves_9 m c t]
    rw [leaves_10 m c t]
    rw [leaves_11 m c t]
    rw [leaves_12 m c t]
    rw [leaves_13 m c t]
    rw [leaves_14 m c t]
    rw [leaves_15 m c t]
    rw [leaves_16 m c t]
    rw [leaves_17 m c t]
    rw [leaves_18 m c t]
    rw [leaves_19 m c t]
    rw [leaves_20 m c t]
    rw [leaves_21 m c t]
    rw [leaves_22 m c t]
    rw [leaves_23 m c t]
    rw [leaves_24 m c t]
    rw [leaves_25 m c t]
    rw [leaves_26 m c t]
    rw [Dat.leavesExact_idle (dats m 0 c) 27 t (idleAt0_27_A t ((hcond0_0 t).mpr h0) (fun h => h1 ((hcond0_1 t).mp h))) (noFlush0_27_A t ((hcond0_0 t).mpr h0) (fun h => h1 ((hcond0_1 t).mp h)))]
    rw [Dat.leavesExact_idle (dats m 0 c) 28 t (idleAt0_28_A t ((hcond0_0 t).mpr h0) (fun h => h1 ((hcond0_1 t).mp h))) (noFlush0_28_A t ((hcond0_0 t).mpr h0) (fun h => h1 ((hcond0_1 t).mp h)))]
    have hz : t.val = 0 := by omega
    rw [PhiS_castSucc m c t, PhiS_zero m c _ _ hz, PhiA0_eq, scA, scB_zero m c t hz]
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply (runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (insAt m c t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexists _; iexact H26
    isplitl [H27]; · iexact H27
    isplitl [H28]; · iexact H28
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H9, H10, H11, H12, H13, H14, H15, H16, H17, H18, H19, H20, H21, H22, H23, H24, H25, H26, H27, H28, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexists _; iexact H27
    iexists _; iexact H28
  · by_cases h1 : t.val % 128 = 127
    · rw [leaves_0 m c t]
      rw [leaves_1 m c t]
      rw [leaves_2 m c t]
      rw [leaves_3 m c t]
      rw [leaves_4 m c t]
      rw [leaves_5 m c t]
      rw [leaves_6 m c t]
      rw [leaves_7 m c t]
      rw [leaves_8 m c t]
      rw [leaves_9 m c t]
      rw [leaves_10 m c t]
      rw [leaves_11 m c t]
      rw [leaves_12 m c t]
      rw [leaves_13 m c t]
      rw [leaves_14 m c t]
      rw [leaves_15 m c t]
      rw [leaves_16 m c t]
      rw [leaves_17 m c t]
      rw [leaves_18 m c t]
      rw [leaves_19 m c t]
      rw [leaves_20 m c t]
      rw [leaves_21 m c t]
      rw [leaves_22 m c t]
      rw [leaves_23 m c t]
      rw [leaves_24 m c t]
      rw [leaves_25 m c t]
      rw [leaves_26 m c t]
      rw [show (dats m 0 c).leavesExact 27 t = owns (c : Thread nD τ) (ms0_27 t) fullShare ((dats m 0 c).after 27 t) from by
        unfold Dat.leavesExact; rw [liveAt0_27_C t (fun h => h0 ((hcond0_0 t).mp h)) ((hcond0_1 t).mpr h1)], after0_27]
      rw [show (dats m 0 c).leavesExact 28 t = owns (c : Thread nD τ) (ms0_28 t) fullShare ((dats m 0 c).after 28 t) from by
        unfold Dat.leavesExact; rw [liveAt0_28_C t (fun h => h0 ((hcond0_0 t).mp h)) ((hcond0_1 t).mpr h1)], after0_28]
      have hz : t.val ≠ 0 := by omega
      rw [PhiS_castSucc m c t, PhiS_pos m c _ _ hz, ← scB_pos m c t hz, scA]
      generalize scB m c t.val t.isLt = S
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
      iapply (runC c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (insAt m c t) S Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexists _; iexact H26
      isplitl [H27]; · iexists _; iexact H27
      isplitl [H28]; · iexists _; iexact H28
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, H7, H8, H9, H10, H11, H12, H13, H14, H15, H16, H17, H18, H19, H20, H21, H22, H23, H24, H25, H26, H27, H28, HS0, HS1, HS2, HS3, HS4, HS5, HS6, HS7, HS8⟩
      isplitl [HS0 HS1 HS2 HS3 HS4 HS5 HS6 HS7 HS8 Hg]
      · isplitl [HS0 HS1 HS2 HS3 HS4 HS5 HS6 HS7 HS8]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      iexact H28
    · rw [leaves_0 m c t]
      rw [leaves_1 m c t]
      rw [leaves_2 m c t]
      rw [leaves_3 m c t]
      rw [leaves_4 m c t]
      rw [leaves_5 m c t]
      rw [leaves_6 m c t]
      rw [leaves_7 m c t]
      rw [leaves_8 m c t]
      rw [leaves_9 m c t]
      rw [leaves_10 m c t]
      rw [leaves_11 m c t]
      rw [leaves_12 m c t]
      rw [leaves_13 m c t]
      rw [leaves_14 m c t]
      rw [leaves_15 m c t]
      rw [leaves_16 m c t]
      rw [leaves_17 m c t]
      rw [leaves_18 m c t]
      rw [leaves_19 m c t]
      rw [leaves_20 m c t]
      rw [leaves_21 m c t]
      rw [leaves_22 m c t]
      rw [leaves_23 m c t]
      rw [leaves_24 m c t]
      rw [leaves_25 m c t]
      rw [leaves_26 m c t]
      rw [Dat.leavesExact_idle (dats m 0 c) 27 t (idleAt0_27_B t (fun h => h0 ((hcond0_0 t).mp h)) (fun h => h1 ((hcond0_1 t).mp h))) (noFlush0_27_B t (fun h => h0 ((hcond0_0 t).mp h)) (fun h => h1 ((hcond0_1 t).mp h)))]
      rw [Dat.leavesExact_idle (dats m 0 c) 28 t (idleAt0_28_B t (fun h => h0 ((hcond0_0 t).mp h)) (fun h => h1 ((hcond0_1 t).mp h))) (noFlush0_28_B t (fun h => h0 ((hcond0_0 t).mp h)) (fun h => h1 ((hcond0_1 t).mp h)))]
      have hz : t.val ≠ 0 := by omega
      rw [PhiS_castSucc m c t, PhiS_pos m c _ _ hz, ← scB_pos m c t hz, scA]
      generalize scB m c t.val t.isLt = S
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
      iapply (runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (insAt m c t) S _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexists _; iexact H26
      isplitl [H27]; · iexact H27
      isplitl [H28]; · iexact H28
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, H7, H8, H9, H10, H11, H12, H13, H14, H15, H16, H17, H18, H19, H20, H21, H22, H23, H24, H25, H26, H27, H28, HS0, HS1, HS2, HS3, HS4, HS5, HS6, HS7, HS8⟩
      isplitl [HS0 HS1 HS2 HS3 HS4 HS5 HS6 HS7 HS8 Hg]
      · isplitl [HS0 HS1 HS2 HS3 HS4 HS5 HS6 HS7 HS8]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexists _; iexact H27
      iexists _; iexact H28

end Cert.KernelIdeal.Own

end
-- ==== Proof.KiFrame.lean ====
/- The run over the whole grid, and the frame. -/
module

public import proofs.«01_k».proof.Proof.KiBody

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 16000000 in
/-- The body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8⟩, Hg⟩
  isplitl [HS0 HS1 HS2 HS3 HS4 HS5 HS6 HS7 HS8]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexists _; iexact HS6
    isplitl [HS7]
    · iexists _; iexact HS7
    iexists _; iexact HS8
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- The launch: every run ends with the arrays as the data say and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- The frame: every run ends, with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.KernelIdeal.Own

end
-- ==== Proof.RefOps.lean ====
module

public import proofs.«01_k».proof.Proof.Gen.ReferenceIdeal
public import Idealize.ShloMosaic.Lib.StableHlo.Run
public import Idealize.ShloMosaic.Lib.StableHlo.RunRead
public import Idealize.ShloMosaic.Lib.Pipeline.Frame

@[expose] public section

set_option Elab.async false
set_option maxRecDepth 16384

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The four perplexities laid side by side, as one function of the four. -/
def fourSide (u0 u1 u2 u3 : (⟨S1, .f32⟩ : BufTy).Contents (Elt F)) : (⟨S4, .f32⟩ : BufTy).Contents (Elt F) :=
  concatenate S4 0 [⟨S1, u0⟩, ⟨S1, u1⟩, ⟨S1, u2⟩, ⟨S1, u3⟩] concatenates_S1_S1_S1_S1_S4_d0

/-- The reference's host operations 1 to 39 of 421. -/
abbrev line0 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S128x263x512, .f32⟩) main_arg0) (TRef.of (T := ⟨S_, .f32⟩) main_call0_v0) (TRef.of (T := ⟨S128x263x514, .f32⟩) main_v0) (fun x v => pad S128x263x514 ![0, 0, 1] ![0, 0, 1] ![0, 0, 0] x v pads_S128x263x512_S128x263x514_000_000_110 h_S_),
    unary main_v0 main_v1 ((Host.slice S128x263x256 ![0, 0, 0] ![1, 1, 2] · slicesBy_S128x263x514_S128x263x256_0s1_0s1_0s2) : (⟨S128x263x514, .f32⟩ : BufTy).Contents (Elt F) → (⟨S128x263x256, .f32⟩ : BufTy).Contents (Elt F)),
    unary main_arg1 main_v2 ((extractStridedSlice S512x263x1 ![0, 0, 0] · slices_S512x263x4_S512x263x1_0_0_0) : (⟨S512x263x4, .f32⟩ : BufTy).Contents (Elt F) → (⟨S512x263x1, .f32⟩ : BufTy).Contents (Elt F)),
    reshape main_v2 main_v3 (rfl : (.f32 : EltTy) = .f32) shapeCasts_S512x263x1_S512x263,
    binary main_v3 main_v1 main_v4 ((fun l r => Host.dotGeneral dot_S512x263_S128x263x256_S512x128x256_1_1_0_02_n_n none l r) : (⟨S512x263, .f32⟩ : BufTy).Contents (Elt F) → (⟨S128x263x256, .f32⟩ : BufTy).Contents (Elt F) → (⟨S512x128x256, .f32⟩ : BufTy).Contents (Elt F)),
    unary main_v4 main_v5 ((transpose S128x512x256 [1, 0, 2] · transposes_S512x128x256_S128x512x256_1_0_2) : (⟨S512x128x256, .f32⟩ : BufTy).Contents (Elt F) → (⟨S128x512x256, .f32⟩ : BufTy).Contents (Elt F)),
    nullary main_cst (constant S_ .f32 0x00000000#32),
    unary main_cst main_v6 (broadcastInDim S128x512x256 ![] bcast_S_S128x512x256 : (⟨S_, .f32⟩ : BufTy).Contents (Elt F) → (⟨S128x512x256, .f32⟩ : BufTy).Contents (Elt F)),
    binary main_v6 main_v5 main_v7 (addf : (⟨S128x512x256, .f32⟩ : BufTy).Contents (Elt F) → (⟨S128x512x256, .f32⟩ : BufTy).Contents (Elt F) → (⟨S128x512x256, .f32⟩ : BufTy).Contents (Elt F)),
    unary main_v0 main_v8 ((Host.slice S128x263x256 ![0, 0, 1] ![1, 1, 2] · slicesBy_S128x263x514_S128x263x256_0s1_0s1_1s2) : (⟨S128x263x514, .f32⟩ : BufTy).Contents (Elt F) → (⟨S128x263x256, .f32⟩ : BufTy).Contents (Elt F)),
    unary main_arg1 main_v9 ((extractStridedSlice S512x263x1 ![0, 0, 1] · slices_S512x263x4_S512x263x1_0_0_1) : (⟨S512x263x4, .f32⟩ : BufTy).Contents (Elt F) → (⟨S512x263x1, .f32⟩ : BufTy).Contents (Elt F)),
    reshape main_v9 main_v10 (rfl : (.f32 : EltTy) = .f32) shapeCasts_S512x263x1_S512x263,
    binary main_v10 main_v8 main_v11 ((fun l r => Host.dotGeneral dot_S512x263_S128x263x256_S512x128x256_1_1_0_02_n_n none l r) : (⟨S512x263, .f32⟩ : BufTy).Contents (Elt F) → (⟨S128x263x256, .f32⟩ : BufTy).Contents (Elt F) → (⟨S512x128x256, .f32⟩ : BufTy).Contents (Elt F)),
    unary main_v11 main_v12 ((transpose S128x512x256 [1, 0, 2] · transposes_S512x128x256_S128x512x256_1_0_2) : (⟨S512x128x256, .f32⟩ : BufTy).Contents (Elt F) → (⟨S128x512x256, .f32⟩ : BufTy).Contents (Elt F)),
    binary main_v7 main_v12 main_v13 (addf : (⟨S128x512x256, .f32⟩ : BufTy).Contents (Elt F) → (⟨S128x512x256, .f32⟩ : BufTy).Contents (Elt F) → (⟨S128x512x256, .f32⟩ : BufTy).Contents (Elt F)),
    unary main_v0 main_v14 ((Host.slice S128x263x256 ![0, 0, 2] ![1, 1, 2] · slicesBy_S128x263x514_S128x263x256_0s1_0s1_2s2) : (⟨S128x263x514, .f32⟩ : BufTy).Contents (Elt F) → (⟨S128x263x256, .f32⟩ : BufTy).Contents (Elt F)),
    unary main_arg1 main_v15 ((extractStridedSlice S512x263x1 ![0, 0, 2] · slices_S512x263x4_S512x263x1_0_0_2) : (⟨S512x263x4, .f32⟩ : BufTy).Contents (Elt F) → (⟨S512x263x1, .f32⟩ : BufTy).Contents (Elt F)),
    reshape main_v15 main_v16 (rfl : (.f32 : EltTy) = .f32) shapeCasts_S512x263x1_S512x263,
    binary main_v16 main_v14 main_v17 ((fun l r => Host.dotGeneral dot_S512x263_S128x263x256_S512x128x256_1_1_0_02_n_n none l r) : (⟨S512x263, .f32⟩ : BufTy).Contents (Elt F) → (⟨S128x263x256, .f32⟩ : BufTy).Contents (Elt F) → (⟨S512x128x256, .f32⟩ : BufTy).Contents (Elt F)),
    unary main_v17 main_v18 ((transpose S128x512x256 [1, 0, 2] · transposes_S512x128x256_S128x512x256_1_0_2) : (⟨S512x128x256, .f32⟩ : BufTy).Contents (Elt F) → (⟨S128x512x256, .f32⟩ : BufTy).Contents (Elt F)),
    binary main_v13 main_v18 main_v19 (addf : (⟨S128x512x256, .f32⟩ : BufTy).Contents (Elt F) → (⟨S128x512x256, .f32⟩ : BufTy).Contents (Elt F) → (⟨S128x512x256, .f32⟩ : BufTy).Contents (Elt F)),
    unary main_v0 main_v20 ((Host.slice S128x263x256 ![0, 0, 3] ![1, 1, 2] · slicesBy_S128x263x514_S128x263x256_0s1_0s1_3s2) : (⟨S128x263x514, .f32⟩ : BufTy).Contents (Elt F) → (⟨S128x263x256, .f32⟩ : BufTy).Contents (Elt F)),
    unary main_arg1 main_v21 ((extractStridedSlice S512x263x1 ![0, 0, 3] · slices_S512x263x4_S512x263x1_0_0_3) : (⟨S512x263x4, .f32⟩ : BufTy).Contents (Elt F) → (⟨S512x263x1, .f32⟩ : BufTy).Contents (Elt F)),
    reshape main_v21 main_v22 (rfl : (.f32 : EltTy) = .f32) shapeCasts_S512x263x1_S512x263,
    binary main_v22 main_v20 main_v23 ((fun l r => Host.dotGeneral dot_S512x263_S128x263x256_S512x128x256_1_1_0_02_n_n none l r) : (⟨S512x263, .f32⟩ : BufTy).Contents (Elt F) → (⟨S128x263x256, .f32⟩ : BufTy).Contents (Elt F) → (⟨S512x128x256, .f32⟩ : BufTy).Contents (Elt F)),
    unary main_v23 main_v24 ((transpose S128x512x256 [1, 0, 2] · transposes_S512x128x256_S128x512x256_1_0_2) : (⟨S512x128x256, .f32⟩ : BufTy).Contents (Elt F) → (⟨S128x512x256, .f32⟩ : BufTy).Contents (Elt F)),
    binary main_v19 main_v24 main_v25 (addf : (⟨S128x512x256, .f32⟩ : BufTy).Contents (Elt F) → (⟨S128x512x256, .f32⟩ : BufTy).Contents (Elt F) → (⟨S128x512x256, .f32⟩ : BufTy).Contents (Elt F)),
    unary main_arg2 main_v26 (broadcastInDim S1x512x1 ![1] bcast_S512_S1x512x1_1 : (⟨S512, .f32⟩ : BufTy).Contents (Elt F) → (⟨S1x512x1, .f32⟩ : BufTy).Contents (Elt F)),
    unary main_v26 main_v27 (broadcastInDim S128x512x256 ![0, 1, 2] bcast_S1x512x1_S128x512x256_0_1_2 : (⟨S1x512x1, .f32⟩ : BufTy).Contents (Elt F) → (⟨S128x512x256, .f32⟩ : BufTy).Contents (Elt F)),
    binary main_v25 main_v27 main_v28 (addf : (⟨S128x512x256, .f32⟩ : BufTy).Contents (Elt F) → (⟨S128x512x256, .f32⟩ : BufTy).Contents (Elt F) → (⟨S128x512x256, .f32⟩ : BufTy).Contents (Elt F)),
    nullary main_cst_0 (constant S_ .f32 0x00000000#32),
    unary main_cst_0 main_v29 (broadcastInDim S128x512x256 ![] bcast_S_S128x512x256 : (⟨S_, .f32⟩ : BufTy).Contents (Elt F) → (⟨S128x512x256, .f32⟩ : BufTy).Contents (Elt F)),
    binary main_v28 main_v29 main_v30 (cmpf .oge : (⟨S128x512x256, .f32⟩ : BufTy).Contents (Elt F) → (⟨S128x512x256, .f32⟩ : BufTy).Contents (Elt F) → (⟨S128x512x256, .i1⟩ : BufTy).Contents (Elt F)),
    nullary main_cst_1 (constant S_ .f32 0x3E4CCCCD#32),
    unary main_cst_1 main_v31 (broadcastInDim S128x512x256 ![] bcast_S_S128x512x256 : (⟨S_, .f32⟩ : BufTy).Contents (Elt F) → (⟨S128x512x256, .f32⟩ : BufTy).Contents (Elt F)),
    binary main_v31 main_v28 main_v32 (mulf : (⟨S128x512x256, .f32⟩ : BufTy).Contents (Elt F) → (⟨S128x512x256, .f32⟩ : BufTy).Contents (Elt F) → (⟨S128x512x256, .f32⟩ : BufTy).Contents (Elt F)),
    TRef.ternary (TRef.of (T := ⟨S128x512x256, .i1⟩) main_v30) (TRef.of (T := ⟨S128x512x256, .f32⟩) main_v28) (TRef.of (T := ⟨S128x512x256, .f32⟩) main_v32) (TRef.of (T := ⟨S128x512x256, .f32⟩) main_v33) select ]

/-- The buffers `line0` writes, in order. -/
abbrev outs0 : List (Ref sig .tc) := [main_c, main_call0_v0, main_v0, main_v1, main_v2, main_v3, main_v4, main_v5, main_cst, main_v6, main_v7, main_v8, main_v9, main_v10, main_v11, main_v12, main_v13, main_v14, main_v15, main_v16, main_v17, main_v18, main_v19, main_v20, main_v21, main_v22, main_v23, main_v24, main_v25, main_v26, main_v27, main_v28, main_cst_0, main_v29, main_v30, main_cst_1, main_v31, main_v32, main_v33]

/-- The reference's host operations 40 to 62 of 421. -/
abbrev line1 : List (HloOp τ sig (Elt F)) :=
  [ nullary main_c_2 (constantI S_ 32 0#32),
    TRef.unary (TRef.of (T := ⟨S_, .i32⟩) main_c_2) (TRef.of (T := ⟨S_, .f32⟩) main_call2_v0) (sitofp .f32),
    TRef.binary (TRef.of (T := ⟨S128x512x256, .f32⟩) main_v33) (TRef.of (T := ⟨S_, .f32⟩) main_call2_v0) (TRef.of (T := ⟨S128x512x258, .f32⟩) main_v34) (fun x v => pad S128x512x258 ![0, 0, 1] ![0, 0, 1] ![0, 0, 0] x v pads_S128x512x256_S128x512x258_000_000_110 h_S_),
    unary main_v34 main_v35 ((Host.slice S128x512x128 ![0, 0, 0] ![1, 1, 2] · slicesBy_S128x512x258_S128x512x128_0s1_0s1_0s2) : (⟨S128x512x258, .f32⟩ : BufTy).Contents (Elt F) → (⟨S128x512x128, .f32⟩ : BufTy).Contents (Elt F)),
    unary main_arg3 main_v36 ((extractStridedSlice S512x512x1 ![0, 0, 0] · slices_S512x512x4_S512x512x1_0_0_0) : (⟨S512x512x4, .f32⟩ : BufTy).Contents (Elt F) → (⟨S512x512x1, .f32⟩ : BufTy).Contents (Elt F)),
    reshape main_v36 main_v37 (rfl : (.f32 : EltTy) = .f32) shapeCasts_S512x512x1_S512x512,
    binary main_v37 main_v35 main_v38 ((fun l r => Host.dotGeneral dot_S512x512_S128x512x128_S512x128x128_1_1_0_02_n_n none l r) : (⟨S512x512, .f32⟩ : BufTy).Contents (Elt F) → (⟨S128x512x128, .f32⟩ : BufTy).Contents (Elt F) → (⟨S512x128x128, .f32⟩ : BufTy).Contents (Elt F)),
    unary main_v38 main_v39 ((transpose S128x512x128 [1, 0, 2] · transposes_S512x128x128_S128x512x128_1_0_2) : (⟨S512x128x128, .f32⟩ : BufTy).Contents (Elt F) → (⟨S128x512x128, .f32⟩ : BufTy).Contents (Elt F)),
    nullary main_cst_3 (constant S_ .f32 0x00000000#32),
    unary main_cst_3 main_v40 (broadcastInDim S128x512x128 ![] bcast_S_S128x512x128 : (⟨S_, .f32⟩ : BufTy).Contents (Elt F) → (⟨S128x512x128, .f32⟩ : BufTy).Contents (Elt F)),
    binary main_v40 main_v39 main_v41 (addf : (⟨S128x512x128, .f32⟩ : BufTy).Contents (Elt F) → (⟨S128x512x128, .f32⟩ : BufTy).Contents (Elt F) → (⟨S128x512x128, .f32⟩ : BufTy).Contents (Elt F)),
    unary main_v34 main_v42 ((Host.slice S128x512x128 ![0, 0, 1] ![1, 1, 2] · slicesBy_S128x512x258_S128x512x128_0s1_0s1_1s2) : (⟨S128x512x258, .f32⟩ : BufTy).Contents (Elt F) → (⟨S128x512x128, .f32⟩ : BufTy).Contents (Elt F)),
    unary main_arg3 main_v43 ((extractStridedSlice S512x512x1 ![0, 0, 1] · slices_S512x512x4_S512x512x1_0_0_1) : (⟨S512x512x4, .f32⟩ : BufTy).Contents (Elt F) → (⟨S512x512x1, .f32⟩ : BufTy).Contents (Elt F)),
    reshape main_v43 main_v44 (rfl : (.f32 : EltTy) = .f32) shapeCasts_S512x512x1_S512x512,
    binary main_v44 main_v42 main_v45 ((fun l r => Host.dotGeneral dot_S512x512_S128x512x128_S512x128x128_1_1_0_02_n_n none l r) : (⟨S512x512, .f32⟩ : BufTy).Contents (Elt F) → (⟨S128x512x128, .f32⟩ : BufTy).Contents (Elt F) → (⟨S512x128x128, .f32⟩ : BufTy).Contents (Elt F)),
    unary main_v45 main_v46 ((transpose S128x512x128 [1, 0, 2] · transposes_S512x128x128_S128x512x128_1_0_2) : (⟨S512x128x128, .f32⟩ : BufTy).Contents (Elt F) → (⟨S128x512x128, .f32⟩ : BufTy).Contents (Elt F)),
    binary main_v41 main_v46 main_v47 (addf : (⟨S128x512x128, .f32⟩ : BufTy).Contents (Elt F) → (⟨S128x512x128, .f32⟩ : BufTy).Contents (Elt F) → (⟨S128x512x128, .f32⟩ : BufTy).Contents (Elt F)),
    unary main_v34 main_v48 ((Host.slice S128x512x128 ![0, 0, 2] ![1, 1, 2] · slicesBy_S128x512x258_S128x512x128_0s1_0s1_2s2) : (⟨S128x512x258, .f32⟩ : BufTy).Contents (Elt F) → (⟨S128x512x128, .f32⟩ : BufTy).Contents (Elt F)),
    unary main_arg3 main_v49 ((extractStridedSlice S512x512x1 ![0, 0, 2] · slices_S512x512x4_S512x512x1_0_0_2) : (⟨S512x512x4, .f32⟩ : BufTy).Contents (Elt F) → (⟨S512x512x1, .f32⟩ : BufTy).Contents (Elt F)),
    reshape main_v49 main_v50 (rfl : (.f32 : EltTy) = .f32) shapeCasts_S512x512x1_S512x512,
    binary main_v50 main_v48 main_v51 ((fun l r => Host.dotGeneral dot_S512x512_S128x512x128_S512x128x128_1_1_0_02_n_n none l r) : (⟨S512x512, .f32⟩ : BufTy).Contents (Elt F) → (⟨S128x512x128, .f32⟩ : BufTy).Contents (Elt F) → (⟨S512x128x128, .f32⟩ : BufTy).Contents (Elt F)),
    unary main_v51 main_v52 ((transpose S128x512x128 [1, 0, 2] · transposes_S512x128x128_S128x512x128_1_0_2) : (⟨S512x128x128, .f32⟩ : BufTy).Contents (Elt F) → (⟨S128x512x128, .f32⟩ : BufTy).Contents (Elt F)),
    binary main_v47 main_v52 main_v53 (addf : (⟨S128x512x128, .f32⟩ : BufTy).Contents (Elt F) → (⟨S128x512x128, .f32⟩ : BufTy).Contents (Elt F) → (⟨S128x512x128, .f32⟩ : BufTy).Contents (Elt F)) ]

/-- The buffers `line1` writes, in order. -/
abbrev outs1 : List (Ref sig .tc) := [main_c_2, main_call2_v0, main_v34, main_v35, main_v36, main_v37, main_v38, main_v39, main_cst_3, main_v40, main_v41, main_v42, main_v43, main_v44, main_v45, main_v46, main_v47, main_v48, main_v49, main_v50, main_v51, main_v52, main_v53]

/-- The reference's host operations 63 to 78 of 421. -/
abbrev line2 : List (HloOp τ sig (Elt F)) :=
  [ unary main_v34 main_v54 ((Host.slice S128x512x128 ![0, 0, 3] ![1, 1, 2] · slicesBy_S128x512x258_S128x512x128_0s1_0s1_3s2) : (⟨S128x512x258, .f32⟩ : BufTy).Contents (Elt F) → (⟨S128x512x128, .f32⟩ : BufTy).Contents (Elt F)),
    unary main_arg3 main_v55 ((extractStridedSlice S512x512x1 ![0, 0, 3] · slices_S512x512x4_S512x512x1_0_0_3) : (⟨S512x512x4, .f32⟩ : BufTy).Contents (Elt F) → (⟨S512x512x1, .f32⟩ : BufTy).Contents (Elt F)),
    reshape main_v55 main_v56 (rfl : (.f32 : EltTy) = .f32) shapeCasts_S512x512x1_S512x512,
    binary main_v56 main_v54 main_v57 ((fun l r => Host.dotGeneral dot_S512x512_S128x512x128_S512x128x128_1_1_0_02_n_n none l r) : (⟨S512x512, .f32⟩ : BufTy).Contents (Elt F) → (⟨S128x512x128, .f32⟩ : BufTy).Contents (Elt F) → (⟨S512x128x128, .f32⟩ : BufTy).Contents (Elt F)),
    unary main_v57 main_v58 ((transpose S128x512x128 [1, 0, 2] · transposes_S512x128x128_S128x512x128_1_0_2) : (⟨S512x128x128, .f32⟩ : BufTy).Contents (Elt F) → (⟨S128x512x128, .f32⟩ : BufTy).Contents (Elt F)),
    binary main_v53 main_v58 main_v59 (addf : (⟨S128x512x128, .f32⟩ : BufTy).Contents (Elt F) → (⟨S128x512x128, .f32⟩ : BufTy).Contents (Elt F) → (⟨S128x512x128, .f32⟩ : BufTy).Contents (Elt F)),
    unary main_arg4 main_v60 (broadcastInDim S1x512x1 ![1] bcast_S512_S1x512x1_1 : (⟨S512, .f32⟩ : BufTy).Contents (Elt F) → (⟨S1x512x1, .f32⟩ : BufTy).Contents (Elt F)),
    unary main_v60 main_v61 (broadcastInDim S128x512x128 ![0, 1, 2] bcast_S1x512x1_S128x512x128_0_1_2 : (⟨S1x512x1, .f32⟩ : BufTy).Contents (Elt F) → (⟨S128x512x128, .f32⟩ : BufTy).Contents (Elt F)),
    binary main_v59 main_v61 main_v62 (addf : (⟨S128x512x128, .f32⟩ : BufTy).Contents (Elt F) → (⟨S128x512x128, .f32⟩ : BufTy).Contents (Elt F) → (⟨S128x512x128, .f32⟩ : BufTy).Contents (Elt F)),
    nullary main_cst_4 (constant S_ .f32 0x00000000#32),
    unary main_cst_4 main_v63 (broadcastInDim S128x512x128 ![] bcast_S_S128x512x128 : (⟨S_, .f32⟩ : BufTy).Contents (Elt F) → (⟨S128x512x128, .f32⟩ : BufTy).Contents (Elt F)),
    binary main_v62 main_v63 main_v64 (cmpf .oge : (⟨S128x512x128, .f32⟩ : BufTy).Contents (Elt F) → (⟨S128x512x128, .f32⟩ : BufTy).Contents (Elt F) → (⟨S128x512x128, .i1⟩ : BufTy).Contents (Elt F)),
    nullary main_cst_5 (constant S_ .f32 0x3E4CCCCD#32),
    unary main_cst_5 main_v65 (broadcastInDim S128x512x128 ![] bcast_S_S128x512x128 : (⟨S_, .f32⟩ : BufTy).Contents (Elt F) → (⟨S128x512x128, .f32⟩ : BufTy).Contents (Elt F)),
    binary main_v65 main_v62 main_v66 (mulf : (⟨S128x512x128, .f32⟩ : BufTy).Contents (Elt F) → (⟨S128x512x128, .f32⟩ : BufTy).Contents (Elt F) → (⟨S128x512x128, .f32⟩ : BufTy).Contents (Elt F)),
    TRef.ternary (TRef.of (T := ⟨S128x512x128, .i1⟩) main_v64) (TRef.of (T := ⟨S128x512x128, .f32⟩) main_v62) (TRef.of (T := ⟨S128x512x128, .f32⟩) main_v66) (TRef.of (T := ⟨S128x512x128, .f32⟩) main_v67) select ]

/-- The buffers `line2` writes, in order. -/
abbrev outs2 : List (Ref sig .tc) := [main_v54, main_v55, main_v56, main_v57, main_v58, main_v59, main_v60, main_v61, main_v62, main_cst_4, main_v63, main_v64, main_cst_5, main_v65, main_v66, main_v67]

/-- The reference's host operations 79 to 95 of 421. -/
abbrev line3 : List (HloOp τ sig (Elt F)) :=
  [ binary main_arg5 main_v67 main_v68 ((fun l r => Host.dotGeneral dot_S4x512_S128x512x128_S4x128x128_1_1_0_02_n_n none l r) : (⟨S4x512, .f32⟩ : BufTy).Contents (Elt F) → (⟨S128x512x128, .f32⟩ : BufTy).Contents (Elt F) → (⟨S4x128x128, .f32⟩ : BufTy).Contents (Elt F)),
    unary main_v68 main_v69 ((transpose S128x4x128 [1, 0, 2] · transposes_S4x128x128_S128x4x128_1_0_2) : (⟨S4x128x128, .f32⟩ : BufTy).Contents (Elt F) → (⟨S128x4x128, .f32⟩ : BufTy).Contents (Elt F)),
    unary main_arg6 main_v70 (broadcastInDim S1x4x1 ![1] bcast_S4_S1x4x1_1 : (⟨S4, .f32⟩ : BufTy).Contents (Elt F) → (⟨S1x4x1, .f32⟩ : BufTy).Contents (Elt F)),
    unary main_v70 main_v71 (broadcastInDim S128x4x128 ![0, 1, 2] bcast_S1x4x1_S128x4x128_0_1_2 : (⟨S1x4x1, .f32⟩ : BufTy).Contents (Elt F) → (⟨S128x4x128, .f32⟩ : BufTy).Contents (Elt F)),
    binary main_v69 main_v71 main_v72 (addf : (⟨S128x4x128, .f32⟩ : BufTy).Contents (Elt F) → (⟨S128x4x128, .f32⟩ : BufTy).Contents (Elt F) → (⟨S128x4x128, .f32⟩ : BufTy).Contents (Elt F)),
    unary main_v72 main_v73 ((transpose S128x128x4 [0, 2, 1] · transposes_S128x4x128_S128x128x4_0_2_1) : (⟨S128x4x128, .f32⟩ : BufTy).Contents (Elt F) → (⟨S128x128x4, .f32⟩ : BufTy).Contents (Elt F)),
    TRef.unary (TRef.of (T := ⟨S128x128x4, .f32⟩) main_v73) (TRef.of (T := ⟨S128x128x4, .f32⟩) main_v74) Host.roundeven,
    binary main_v74 main_v73 main_v75 (subf : (⟨S128x128x4, .f32⟩ : BufTy).Contents (Elt F) → (⟨S128x128x4, .f32⟩ : BufTy).Contents (Elt F) → (⟨S128x128x4, .f32⟩ : BufTy).Contents (Elt F)),
    binary main_v73 main_v75 main_v76 (addf : (⟨S128x128x4, .f32⟩ : BufTy).Contents (Elt F) → (⟨S128x128x4, .f32⟩ : BufTy).Contents (Elt F) → (⟨S128x128x4, .f32⟩ : BufTy).Contents (Elt F)),
    binary main_arg7 main_v76 main_v77 ((fun l r => Host.dotGeneral dot_S512x4_S128x128x4_S512x128x128_1_2_0_01_n_n none l r) : (⟨S512x4, .f32⟩ : BufTy).Contents (Elt F) → (⟨S128x128x4, .f32⟩ : BufTy).Contents (Elt F) → (⟨S512x128x128, .f32⟩ : BufTy).Contents (Elt F)),
    unary main_v77 main_v78 ((transpose S128x512x128 [1, 0, 2] · transposes_S512x128x128_S128x512x128_1_0_2) : (⟨S512x128x128, .f32⟩ : BufTy).Contents (Elt F) → (⟨S128x512x128, .f32⟩ : BufTy).Contents (Elt F)),
    unary main_arg8 main_v79 (broadcastInDim S1x512x1 ![1] bcast_S512_S1x512x1_1 : (⟨S512, .f32⟩ : BufTy).Contents (Elt F) → (⟨S1x512x1, .f32⟩ : BufTy).Contents (Elt F)),
    unary main_v79 main_v80 (broadcastInDim S128x512x128 ![0, 1, 2] bcast_S1x512x1_S128x512x128_0_1_2 : (⟨S1x512x1, .f32⟩ : BufTy).Contents (Elt F) → (⟨S128x512x128, .f32⟩ : BufTy).Contents (Elt F)),
    binary main_v78 main_v80 main_v81 (addf : (⟨S128x512x128, .f32⟩ : BufTy).Contents (Elt F) → (⟨S128x512x128, .f32⟩ : BufTy).Contents (Elt F) → (⟨S128x512x128, .f32⟩ : BufTy).Contents (Elt F)),
    binary main_v67 main_v81 main_v82 (subf : (⟨S128x512x128, .f32⟩ : BufTy).Contents (Elt F) → (⟨S128x512x128, .f32⟩ : BufTy).Contents (Elt F) → (⟨S128x512x128, .f32⟩ : BufTy).Contents (Elt F)),
    nullary main_cst_6 (constant S_ .f32 0x00000000#32),
    unary main_cst_6 main_v83 (broadcastInDim S128x512x128 ![] bcast_S_S128x512x128 : (⟨S_, .f32⟩ : BufTy).Contents (Elt F) → (⟨S128x512x128, .f32⟩ : BufTy).Contents (Elt F)) ]

/-- The buffers `line3` writes, in order. -/
abbrev outs3 : List (Ref sig .tc) := [main_v68, main_v69, main_v70, main_v71, main_v72, main_v73, main_v74, main_v75, main_v76, main_v77, main_v78, main_v79, main_v80, main_v81, main_v82, main_cst_6, main_v83]

/-- The reference's host operations 96 to 125 of 421. -/
abbrev line4 : List (HloOp τ sig (Elt F)) :=
  [ unary main_v82 main_v84 ((transpose S128x128x512 [0, 2, 1] · transposes_S128x512x128_S128x128x512_0_2_1) : (⟨S128x512x128, .f32⟩ : BufTy).Contents (Elt F) → (⟨S128x128x512, .f32⟩ : BufTy).Contents (Elt F)),
    reshape main_v84 main_v85 (rfl : (.f32 : EltTy) = .f32) shapeCasts_S128x128x512_S16384x512,
    binary main_v85 main_v85 main_v86 (mulf : (⟨S16384x512, .f32⟩ : BufTy).Contents (Elt F) → (⟨S16384x512, .f32⟩ : BufTy).Contents (Elt F) → (⟨S16384x512, .f32⟩ : BufTy).Contents (Elt F)),
    nullary main_cst_7 (constant S_ .f32 0x00000000#32),
    binary main_v86 main_cst_7 main_v87 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v87 main_v88 (broadcastInDim S16384x1 ![0] bcast_S16384_S16384x1_0 : (⟨S16384, .f32⟩ : BufTy).Contents (Elt F) → (⟨S16384x1, .f32⟩ : BufTy).Contents (Elt F)),
    binary main_arg9 main_arg9 main_v89 (mulf : (⟨S1024x512, .f32⟩ : BufTy).Contents (Elt F) → (⟨S1024x512, .f32⟩ : BufTy).Contents (Elt F) → (⟨S1024x512, .f32⟩ : BufTy).Contents (Elt F)),
    nullary main_cst_8 (constant S_ .f32 0x00000000#32),
    binary main_v89 main_cst_8 main_v90 ((fun x v => Host.reduceAdd x v reducesTo_S1024x512_S1024_d1 h_S_) : (⟨S1024x512, .f32⟩ : BufTy).Contents (Elt F) → (⟨S_, .f32⟩ : BufTy).Contents (Elt F) → (⟨S1024, .f32⟩ : BufTy).Contents (Elt F)),
    unary main_v90 main_v91 (broadcastInDim S1x1024 ![1] bcast_S1024_S1x1024_1 : (⟨S1024, .f32⟩ : BufTy).Contents (Elt F) → (⟨S1x1024, .f32⟩ : BufTy).Contents (Elt F)),
    unary main_v88 main_v92 (broadcastInDim S16384x1024 ![0, 1] bcast_S16384x1_S16384x1024_0_1 : (⟨S16384x1, .f32⟩ : BufTy).Contents (Elt F) → (⟨S16384x1024, .f32⟩ : BufTy).Contents (Elt F)),
    unary main_v91 main_v93 (broadcastInDim S16384x1024 ![0, 1] bcast_S1x1024_S16384x1024_0_1 : (⟨S1x1024, .f32⟩ : BufTy).Contents (Elt F) → (⟨S16384x1024, .f32⟩ : BufTy).Contents (Elt F)),
    binary main_v92 main_v93 main_v94 (addf : (⟨S16384x1024, .f32⟩ : BufTy).Contents (Elt F) → (⟨S16384x1024, .f32⟩ : BufTy).Contents (Elt F) → (⟨S16384x1024, .f32⟩ : BufTy).Contents (Elt F)),
    nullary main_cst_9 (constant S_ .f32 0x40000000#32),
    unary main_cst_9 main_v95 (broadcastInDim S16384x512 ![] bcast_S_S16384x512 : (⟨S_, .f32⟩ : BufTy).Contents (Elt F) → (⟨S16384x512, .f32⟩ : BufTy).Contents (Elt F)),
    binary main_v95 main_v85 main_v96 (mulf : (⟨S16384x512, .f32⟩ : BufTy).Contents (Elt F) → (⟨S16384x512, .f32⟩ : BufTy).Contents (Elt F) → (⟨S16384x512, .f32⟩ : BufTy).Contents (Elt F)),
    unary main_arg9 main_v97 ((transpose S512x1024 [1, 0] · transposes_S1024x512_S512x1024_1_0) : (⟨S1024x512, .f32⟩ : BufTy).Contents (Elt F) → (⟨S512x1024, .f32⟩ : BufTy).Contents (Elt F)),
    binary main_v96 main_v97 main_v98 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    binary main_v94 main_v98 main_v99 (subf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S16384x1024, .i32⟩) main_call5_v0) (iotaInDim S16384x1024 32 1),
    TRef.nullary (TRef.of (T := ⟨S_, .f32⟩) main_call5_cst) (constant S_ .f32 0x7F800000#32),
    TRef.nullary (TRef.of (T := ⟨S_, .i32⟩) main_call5_c) (constantI S_ 32 0#32),
    TRef.quaternary (TRef.of (T := ⟨S16384x1024, .f32⟩) main_v99) (TRef.of (T := ⟨S16384x1024, .i32⟩) main_call5_v0) (TRef.of (T := ⟨S_, .f32⟩) main_call5_cst) (TRef.of (T := ⟨S_, .i32⟩) main_call5_c) (TRef.of (T := ⟨S16384, .f32⟩) main_call5_v1_0) (fun x y u v j => (Host.argReduce reducer_argmin_f32_i32 x y u v reducesTo_S16384x1024_S16384_d1 h_S_ j).1),
    TRef.quaternary (TRef.of (T := ⟨S16384x1024, .f32⟩) main_v99) (TRef.of (T := ⟨S16384x1024, .i32⟩) main_call5_v0) (TRef.of (T := ⟨S_, .f32⟩) main_call5_cst) (TRef.of (T := ⟨S_, .i32⟩) main_call5_c) (TRef.of (T := ⟨S16384, .i32⟩) main_v100) (fun x y u v j => (Host.argReduce reducer_argmin_f32_i32 x y u v reducesTo_S16384x1024_S16384_d1 h_S_ j).2),
    TRef.unary (TRef.of (T := ⟨S16384, .i32⟩) main_v100) (TRef.of (T := ⟨S16384x1, .i32⟩) main_call6_v0) (broadcastInDim S16384x1 ![0] bcast_S16384_S16384x1_0),
    TRef.nullary (TRef.of (T := ⟨S1x1024, .i32⟩) main_call6_v1) (iotaInDim S1x1024 32 1),
    TRef.unary (TRef.of (T := ⟨S16384x1, .i32⟩) main_call6_v0) (TRef.of (T := ⟨S16384x1024, .i32⟩) main_call6_v2) (broadcastInDim S16384x1024 ![0, 1] bcast_S16384x1_S16384x1024_0_1),
    TRef.unary (TRef.of (T := ⟨S1x1024, .i32⟩) main_call6_v1) (TRef.of (T := ⟨S16384x1024, .i32⟩) main_call6_v3) (broadcastInDim S16384x1024 ![0, 1] bcast_S1x1024_S16384x1024_0_1),
    TRef.binary (TRef.of (T := ⟨S16384x1024, .i32⟩) main_call6_v2) (TRef.of (T := ⟨S16384x1024, .i32⟩) main_call6_v3) (TRef.of (T := ⟨S16384x1024, .i1⟩) main_call6_v4) (cmpi .eq),
    TRef.unary (TRef.of (T := ⟨S16384x1024, .i1⟩) main_call6_v4) (TRef.of (T := ⟨S16384x1024, .f32⟩) main_v101) (uitofp .f32) ]

/-- The buffers `line4` writes, in order. -/
abbrev outs4 : List (Ref sig .tc) := [main_v84, main_v85, main_v86, main_cst_7, main_v87, main_v88, main_v89, main_cst_8, main_v90, main_v91, main_v92, main_v93, main_v94, main_cst_9, main_v95, main_v96, main_v97, main_v98, main_v99, main_call5_v0, main_call5_cst, main_call5_c, main_call5_v1_0, main_v100, main_call6_v0, main_call6_v1, main_call6_v2, main_call6_v3, main_call6_v4, main_v101]

/-- The reference's host operations 126 to 131 of 421. -/
abbrev line5 : List (HloOp τ sig (Elt F)) :=
  [ binary main_v101 main_arg9 main_v102 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    reshape main_v102 main_v103 (rfl : (.f32 : EltTy) = .f32) shapeCasts_S16384x512_S128x128x512,
    binary main_v103 main_v84 main_v104 (subf : (⟨S128x128x512, .f32⟩ : BufTy).Contents (Elt F) → (⟨S128x128x512, .f32⟩ : BufTy).Contents (Elt F) → (⟨S128x128x512, .f32⟩ : BufTy).Contents (Elt F)),
    binary main_v104 main_v104 main_v105 (mulf : (⟨S128x128x512, .f32⟩ : BufTy).Contents (Elt F) → (⟨S128x128x512, .f32⟩ : BufTy).Contents (Elt F) → (⟨S128x128x512, .f32⟩ : BufTy).Contents (Elt F)),
    nullary main_cst_10 (constant S_ .f32 0x00000000#32),
    binary main_v105 main_cst_10 main_v106 ((fun x v => Host.reduceAdd x v reducesTo_S128x128x512_S_d0_1_2 h_S_) : (⟨S128x128x512, .f32⟩ : BufTy).Contents (Elt F) → (⟨S_, .f32⟩ : BufTy).Contents (Elt F) → (⟨S_, .f32⟩ : BufTy).Contents (Elt F)) ]

/-- The buffers `line5` writes, in order. -/
abbrev outs5 : List (Ref sig .tc) := [main_v102, main_v103, main_v104, main_v105, main_cst_10, main_v106]

/-- The reference's host operations 132 to 156 of 421. -/
abbrev line6 : List (HloOp τ sig (Elt F)) :=
  [ nullary main_cst_11 (constant S_ .f32 0x4B000000#32),
    binary main_v106 main_cst_11 main_v107 (Host.divf : (⟨S_, .f32⟩ : BufTy).Contents (Elt F) → (⟨S_, .f32⟩ : BufTy).Contents (Elt F) → (⟨S_, .f32⟩ : BufTy).Contents (Elt F)),
    nullary main_cst_12 (constant S_ .f32 0x3E800000#32),
    binary main_cst_12 main_v107 main_v108 (mulf : (⟨S_, .f32⟩ : BufTy).Contents (Elt F) → (⟨S_, .f32⟩ : BufTy).Contents (Elt F) → (⟨S_, .f32⟩ : BufTy).Contents (Elt F)),
    nullary main_cst_13 (constant S_ .f32 0x00000000#32),
    binary main_cst_13 main_v108 main_v109 (addf : (⟨S_, .f32⟩ : BufTy).Contents (Elt F) → (⟨S_, .f32⟩ : BufTy).Contents (Elt F) → (⟨S_, .f32⟩ : BufTy).Contents (Elt F)),
    binary main_v103 main_v84 main_v110 (subf : (⟨S128x128x512, .f32⟩ : BufTy).Contents (Elt F) → (⟨S128x128x512, .f32⟩ : BufTy).Contents (Elt F) → (⟨S128x128x512, .f32⟩ : BufTy).Contents (Elt F)),
    binary main_v84 main_v110 main_v111 (addf : (⟨S128x128x512, .f32⟩ : BufTy).Contents (Elt F) → (⟨S128x128x512, .f32⟩ : BufTy).Contents (Elt F) → (⟨S128x128x512, .f32⟩ : BufTy).Contents (Elt F)),
    nullary main_cst_14 (constant S_ .f32 0x00000000#32),
    binary main_v101 main_cst_14 main_v112 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_15 (constant S_ .f32 0x46800000#32),
    unary main_cst_15 main_v113 (broadcastInDim S1024 ![] bcast_S_S1024 : (⟨S_, .f32⟩ : BufTy).Contents (Elt F) → (⟨S1024, .f32⟩ : BufTy).Contents (Elt F)),
    binary main_v112 main_v113 main_v114 (Host.divf : (⟨S1024, .f32⟩ : BufTy).Contents (Elt F) → (⟨S1024, .f32⟩ : BufTy).Contents (Elt F) → (⟨S1024, .f32⟩ : BufTy).Contents (Elt F)),
    nullary main_cst_16 (constant S_ .f32 0x2EDBE6FF#32),
    unary main_cst_16 main_v115 (broadcastInDim S1024 ![] bcast_S_S1024 : (⟨S_, .f32⟩ : BufTy).Contents (Elt F) → (⟨S1024, .f32⟩ : BufTy).Contents (Elt F)),
    binary main_v114 main_v115 main_v116 (addf : (⟨S1024, .f32⟩ : BufTy).Contents (Elt F) → (⟨S1024, .f32⟩ : BufTy).Contents (Elt F) → (⟨S1024, .f32⟩ : BufTy).Contents (Elt F)),
    unary main_v116 main_v117 (Host.log : (⟨S1024, .f32⟩ : BufTy).Contents (Elt F) → (⟨S1024, .f32⟩ : BufTy).Contents (Elt F)),
    binary main_v114 main_v117 main_v118 (mulf : (⟨S1024, .f32⟩ : BufTy).Contents (Elt F) → (⟨S1024, .f32⟩ : BufTy).Contents (Elt F) → (⟨S1024, .f32⟩ : BufTy).Contents (Elt F)),
    nullary main_cst_17 (constant S_ .f32 0x00000000#32),
    binary main_v118 main_cst_17 main_v119 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v119 main_v120 (Host.negf : (⟨S_, .f32⟩ : BufTy).Contents (Elt F) → (⟨S_, .f32⟩ : BufTy).Contents (Elt F)),
    unary main_v120 main_v121 (Host.exp : (⟨S_, .f32⟩ : BufTy).Contents (Elt F) → (⟨S_, .f32⟩ : BufTy).Contents (Elt F)),
    unary main_v111 main_v122 ((transpose S128x512x128 [0, 2, 1] · transposes_S128x128x512_S128x512x128_0_2_1) : (⟨S128x128x512, .f32⟩ : BufTy).Contents (Elt F) → (⟨S128x512x128, .f32⟩ : BufTy).Contents (Elt F)),
    binary main_v82 main_v122 main_v123 (subf : (⟨S128x512x128, .f32⟩ : BufTy).Contents (Elt F) → (⟨S128x512x128, .f32⟩ : BufTy).Contents (Elt F) → (⟨S128x512x128, .f32⟩ : BufTy).Contents (Elt F)),
    binary main_v83 main_v122 main_v124 (addf : (⟨S128x512x128, .f32⟩ : BufTy).Contents (Elt F) → (⟨S128x512x128, .f32⟩ : BufTy).Contents (Elt F) → (⟨S128x512x128, .f32⟩ : BufTy).Contents (Elt F)) ]

/-- The buffers `line6` writes, in order. -/
abbrev outs6 : List (Ref sig .tc) := [main_cst_11, main_v107, main_cst_12, main_v108, main_cst_13, main_v109, main_v110, main_v111, main_cst_14, main_v112, main_cst_15, main_v113, main_v114, main_cst_16, main_v115, main_v116, main_v117, main_v118, main_cst_17, main_v119, main_v120, main_v121, main_v122, main_v123, main_v124]

/-- The reference's host operations 157 to 186 of 421. -/
abbrev line7 : List (HloOp τ sig (Elt F)) :=
  [ unary main_v123 main_v125 ((transpose S128x128x512 [0, 2, 1] · transposes_S128x512x128_S128x128x512_0_2_1) : (⟨S128x512x128, .f32⟩ : BufTy).Contents (Elt F) → (⟨S128x128x512, .f32⟩ : BufTy).Contents (Elt F)),
    reshape main_v125 main_v126 (rfl : (.f32 : EltTy) = .f32) shapeCasts_S128x128x512_S16384x512,
    binary main_v126 main_v126 main_v127 (mulf : (⟨S16384x512, .f32⟩ : BufTy).Contents (Elt F) → (⟨S16384x512, .f32⟩ : BufTy).Contents (Elt F) → (⟨S16384x512, .f32⟩ : BufTy).Contents (Elt F)),
    nullary main_cst_18 (constant S_ .f32 0x00000000#32),
    binary main_v127 main_cst_18 main_v128 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v128 main_v129 (broadcastInDim S16384x1 ![0] bcast_S16384_S16384x1_0 : (⟨S16384, .f32⟩ : BufTy).Contents (Elt F) → (⟨S16384x1, .f32⟩ : BufTy).Contents (Elt F)),
    binary main_arg10 main_arg10 main_v130 (mulf : (⟨S1024x512, .f32⟩ : BufTy).Contents (Elt F) → (⟨S1024x512, .f32⟩ : BufTy).Contents (Elt F) → (⟨S1024x512, .f32⟩ : BufTy).Contents (Elt F)),
    nullary main_cst_19 (constant S_ .f32 0x00000000#32),
    binary main_v130 main_cst_19 main_v131 ((fun x v => Host.reduceAdd x v reducesTo_S1024x512_S1024_d1 h_S_) : (⟨S1024x512, .f32⟩ : BufTy).Contents (Elt F) → (⟨S_, .f32⟩ : BufTy).Contents (Elt F) → (⟨S1024, .f32⟩ : BufTy).Contents (Elt F)),
    unary main_v131 main_v132 (broadcastInDim S1x1024 ![1] bcast_S1024_S1x1024_1 : (⟨S1024, .f32⟩ : BufTy).Contents (Elt F) → (⟨S1x1024, .f32⟩ : BufTy).Contents (Elt F)),
    unary main_v129 main_v133 (broadcastInDim S16384x1024 ![0, 1] bcast_S16384x1_S16384x1024_0_1 : (⟨S16384x1, .f32⟩ : BufTy).Contents (Elt F) → (⟨S16384x1024, .f32⟩ : BufTy).Contents (Elt F)),
    unary main_v132 main_v134 (broadcastInDim S16384x1024 ![0, 1] bcast_S1x1024_S16384x1024_0_1 : (⟨S1x1024, .f32⟩ : BufTy).Contents (Elt F) → (⟨S16384x1024, .f32⟩ : BufTy).Contents (Elt F)),
    binary main_v133 main_v134 main_v135 (addf : (⟨S16384x1024, .f32⟩ : BufTy).Contents (Elt F) → (⟨S16384x1024, .f32⟩ : BufTy).Contents (Elt F) → (⟨S16384x1024, .f32⟩ : BufTy).Contents (Elt F)),
    nullary main_cst_20 (constant S_ .f32 0x40000000#32),
    unary main_cst_20 main_v136 (broadcastInDim S16384x512 ![] bcast_S_S16384x512 : (⟨S_, .f32⟩ : BufTy).Contents (Elt F) → (⟨S16384x512, .f32⟩ : BufTy).Contents (Elt F)),
    binary main_v136 main_v126 main_v137 (mulf : (⟨S16384x512, .f32⟩ : BufTy).Contents (Elt F) → (⟨S16384x512, .f32⟩ : BufTy).Contents (Elt F) → (⟨S16384x512, .f32⟩ : BufTy).Contents (Elt F)),
    unary main_arg10 main_v138 ((transpose S512x1024 [1, 0] · transposes_S1024x512_S512x1024_1_0) : (⟨S1024x512, .f32⟩ : BufTy).Contents (Elt F) → (⟨S512x1024, .f32⟩ : BufTy).Contents (Elt F)),
    binary main_v137 main_v138 main_v139 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    binary main_v135 main_v139 main_v140 (subf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S16384x1024, .i32⟩) main_call7_v0) (iotaInDim S16384x1024 32 1),
    TRef.nullary (TRef.of (T := ⟨S_, .f32⟩) main_call7_cst) (constant S_ .f32 0x7F800000#32),
    TRef.nullary (TRef.of (T := ⟨S_, .i32⟩) main_call7_c) (constantI S_ 32 0#32),
    TRef.quaternary (TRef.of (T := ⟨S16384x1024, .f32⟩) main_v140) (TRef.of (T := ⟨S16384x1024, .i32⟩) main_call7_v0) (TRef.of (T := ⟨S_, .f32⟩) main_call7_cst) (TRef.of (T := ⟨S_, .i32⟩) main_call7_c) (TRef.of (T := ⟨S16384, .f32⟩) main_call7_v1_0) (fun x y u v j => (Host.argReduce reducer_argmin_f32_i32 x y u v reducesTo_S16384x1024_S16384_d1 h_S_ j).1),
    TRef.quaternary (TRef.of (T := ⟨S16384x1024, .f32⟩) main_v140) (TRef.of (T := ⟨S16384x1024, .i32⟩) main_call7_v0) (TRef.of (T := ⟨S_, .f32⟩) main_call7_cst) (TRef.of (T := ⟨S_, .i32⟩) main_call7_c) (TRef.of (T := ⟨S16384, .i32⟩) main_v141) (fun x y u v j => (Host.argReduce reducer_argmin_f32_i32 x y u v reducesTo_S16384x1024_S16384_d1 h_S_ j).2),
    TRef.unary (TRef.of (T := ⟨S16384, .i32⟩) main_v141) (TRef.of (T := ⟨S16384x1, .i32⟩) main_call8_v0) (broadcastInDim S16384x1 ![0] bcast_S16384_S16384x1_0),
    TRef.nullary (TRef.of (T := ⟨S1x1024, .i32⟩) main_call8_v1) (iotaInDim S1x1024 32 1),
    TRef.unary (TRef.of (T := ⟨S16384x1, .i32⟩) main_call8_v0) (TRef.of (T := ⟨S16384x1024, .i32⟩) main_call8_v2) (broadcastInDim S16384x1024 ![0, 1] bcast_S16384x1_S16384x1024_0_1),
    TRef.unary (TRef.of (T := ⟨S1x1024, .i32⟩) main_call8_v1) (TRef.of (T := ⟨S16384x1024, .i32⟩) main_call8_v3) (broadcastInDim S16384x1024 ![0, 1] bcast_S1x1024_S16384x1024_0_1),
    TRef.binary (TRef.of (T := ⟨S16384x1024, .i32⟩) main_call8_v2) (TRef.of (T := ⟨S16384x1024, .i32⟩) main_call8_v3) (TRef.of (T := ⟨S16384x1024, .i1⟩) main_call8_v4) (cmpi .eq),
    TRef.unary (TRef.of (T := ⟨S16384x1024, .i1⟩) main_call8_v4) (TRef.of (T := ⟨S16384x1024, .f32⟩) main_v142) (uitofp .f32) ]

/-- The buffers `line7` writes, in order. -/
abbrev outs7 : List (Ref sig .tc) := [main_v125, main_v126, main_v127, main_cst_18, main_v128, main_v129, main_v130, main_cst_19, main_v131, main_v132, main_v133, main_v134, main_v135, main_cst_20, main_v136, main_v137, main_v138, main_v139, main_v140, main_call7_v0, main_call7_cst, main_call7_c, main_call7_v1_0, main_v141, main_call8_v0, main_call8_v1, main_call8_v2, main_call8_v3, main_call8_v4, main_v142]

/-- The reference's host operations 187 to 200 of 421. -/
abbrev line8 : List (HloOp τ sig (Elt F)) :=
  [ binary main_v142 main_arg10 main_v143 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    reshape main_v143 main_v144 (rfl : (.f32 : EltTy) = .f32) shapeCasts_S16384x512_S128x128x512,
    binary main_v144 main_v125 main_v145 (subf : (⟨S128x128x512, .f32⟩ : BufTy).Contents (Elt F) → (⟨S128x128x512, .f32⟩ : BufTy).Contents (Elt F) → (⟨S128x128x512, .f32⟩ : BufTy).Contents (Elt F)),
    binary main_v145 main_v145 main_v146 (mulf : (⟨S128x128x512, .f32⟩ : BufTy).Contents (Elt F) → (⟨S128x128x512, .f32⟩ : BufTy).Contents (Elt F) → (⟨S128x128x512, .f32⟩ : BufTy).Contents (Elt F)),
    nullary main_cst_21 (constant S_ .f32 0x00000000#32),
    binary main_v146 main_cst_21 main_v147 ((fun x v => Host.reduceAdd x v reducesTo_S128x128x512_S_d0_1_2 h_S_) : (⟨S128x128x512, .f32⟩ : BufTy).Contents (Elt F) → (⟨S_, .f32⟩ : BufTy).Contents (Elt F) → (⟨S_, .f32⟩ : BufTy).Contents (Elt F)),
    nullary main_cst_22 (constant S_ .f32 0x4B000000#32),
    binary main_v147 main_cst_22 main_v148 (Host.divf : (⟨S_, .f32⟩ : BufTy).Contents (Elt F) → (⟨S_, .f32⟩ : BufTy).Contents (Elt F) → (⟨S_, .f32⟩ : BufTy).Contents (Elt F)),
    nullary main_cst_23 (constant S_ .f32 0x3E800000#32),
    binary main_cst_23 main_v148 main_v149 (mulf : (⟨S_, .f32⟩ : BufTy).Contents (Elt F) → (⟨S_, .f32⟩ : BufTy).Contents (Elt F) → (⟨S_, .f32⟩ : BufTy).Contents (Elt F)),
    binary main_v109 main_v149 main_v150 (addf : (⟨S_, .f32⟩ : BufTy).Contents (Elt F) → (⟨S_, .f32⟩ : BufTy).Contents (Elt F) → (⟨S_, .f32⟩ : BufTy).Contents (Elt F)),
    binary main_v144 main_v125 main_v151 (subf : (⟨S128x128x512, .f32⟩ : BufTy).Contents (Elt F) → (⟨S128x128x512, .f32⟩ : BufTy).Contents (Elt F) → (⟨S128x128x512, .f32⟩ : BufTy).Contents (Elt F)),
    binary main_v125 main_v151 main_v152 (addf : (⟨S128x128x512, .f32⟩ : BufTy).Contents (Elt F) → (⟨S128x128x512, .f32⟩ : BufTy).Contents (Elt F) → (⟨S128x128x512, .f32⟩ : BufTy).Contents (Elt F)),
    nullary main_cst_24 (constant S_ .f32 0x00000000#32) ]

/-- The buffers `line8` writes, in order. -/
abbrev outs8 : List (Ref sig .tc) := [main_v143, main_v144, main_v145, main_v146, main_cst_21, main_v147, main_cst_22, main_v148, main_cst_23, main_v149, main_v150, main_v151, main_v152, main_cst_24]

/-- The reference's host operations 201 to 216 of 421. -/
abbrev line9 : List (HloOp τ sig (Elt F)) :=
  [ binary main_v142 main_cst_24 main_v153 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_25 (constant S_ .f32 0x46800000#32),
    unary main_cst_25 main_v154 (broadcastInDim S1024 ![] bcast_S_S1024 : (⟨S_, .f32⟩ : BufTy).Contents (Elt F) → (⟨S1024, .f32⟩ : BufTy).Contents (Elt F)),
    binary main_v153 main_v154 main_v155 (Host.divf : (⟨S1024, .f32⟩ : BufTy).Contents (Elt F) → (⟨S1024, .f32⟩ : BufTy).Contents (Elt F) → (⟨S1024, .f32⟩ : BufTy).Contents (Elt F)),
    nullary main_cst_26 (constant S_ .f32 0x2EDBE6FF#32),
    unary main_cst_26 main_v156 (broadcastInDim S1024 ![] bcast_S_S1024 : (⟨S_, .f32⟩ : BufTy).Contents (Elt F) → (⟨S1024, .f32⟩ : BufTy).Contents (Elt F)),
    binary main_v155 main_v156 main_v157 (addf : (⟨S1024, .f32⟩ : BufTy).Contents (Elt F) → (⟨S1024, .f32⟩ : BufTy).Contents (Elt F) → (⟨S1024, .f32⟩ : BufTy).Contents (Elt F)),
    unary main_v157 main_v158 (Host.log : (⟨S1024, .f32⟩ : BufTy).Contents (Elt F) → (⟨S1024, .f32⟩ : BufTy).Contents (Elt F)),
    binary main_v155 main_v158 main_v159 (mulf : (⟨S1024, .f32⟩ : BufTy).Contents (Elt F) → (⟨S1024, .f32⟩ : BufTy).Contents (Elt F) → (⟨S1024, .f32⟩ : BufTy).Contents (Elt F)),
    nullary main_cst_27 (constant S_ .f32 0x00000000#32),
    binary main_v159 main_cst_27 main_v160 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v160 main_v161 (Host.negf : (⟨S_, .f32⟩ : BufTy).Contents (Elt F) → (⟨S_, .f32⟩ : BufTy).Contents (Elt F)),
    unary main_v161 main_v162 (Host.exp : (⟨S_, .f32⟩ : BufTy).Contents (Elt F) → (⟨S_, .f32⟩ : BufTy).Contents (Elt F)),
    unary main_v152 main_v163 ((transpose S128x512x128 [0, 2, 1] · transposes_S128x128x512_S128x512x128_0_2_1) : (⟨S128x128x512, .f32⟩ : BufTy).Contents (Elt F) → (⟨S128x512x128, .f32⟩ : BufTy).Contents (Elt F)),
    binary main_v123 main_v163 main_v164 (subf : (⟨S128x512x128, .f32⟩ : BufTy).Contents (Elt F) → (⟨S128x512x128, .f32⟩ : BufTy).Contents (Elt F) → (⟨S128x512x128, .f32⟩ : BufTy).Contents (Elt F)),
    binary main_v124 main_v163 main_v165 (addf : (⟨S128x512x128, .f32⟩ : BufTy).Contents (Elt F) → (⟨S128x512x128, .f32⟩ : BufTy).Contents (Elt F) → (⟨S128x512x128, .f32⟩ : BufTy).Contents (Elt F)) ]

/-- The buffers `line9` writes, in order. -/
abbrev outs9 : List (Ref sig .tc) := [main_v153, main_cst_25, main_v154, main_v155, main_cst_26, main_v156, main_v157, main_v158, main_v159, main_cst_27, main_v160, main_v161, main_v162, main_v163, main_v164, main_v165]

/-- The reference's host operations 217 to 246 of 421. -/
abbrev line10 : List (HloOp τ sig (Elt F)) :=
  [ unary main_v164 main_v166 ((transpose S128x128x512 [0, 2, 1] · transposes_S128x512x128_S128x128x512_0_2_1) : (⟨S128x512x128, .f32⟩ : BufTy).Contents (Elt F) → (⟨S128x128x512, .f32⟩ : BufTy).Contents (Elt F)),
    reshape main_v166 main_v167 (rfl : (.f32 : EltTy) = .f32) shapeCasts_S128x128x512_S16384x512,
    binary main_v167 main_v167 main_v168 (mulf : (⟨S16384x512, .f32⟩ : BufTy).Contents (Elt F) → (⟨S16384x512, .f32⟩ : BufTy).Contents (Elt F) → (⟨S16384x512, .f32⟩ : BufTy).Contents (Elt F)),
    nullary main_cst_28 (constant S_ .f32 0x00000000#32),
    binary main_v168 main_cst_28 main_v169 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v169 main_v170 (broadcastInDim S16384x1 ![0] bcast_S16384_S16384x1_0 : (⟨S16384, .f32⟩ : BufTy).Contents (Elt F) → (⟨S16384x1, .f32⟩ : BufTy).Contents (Elt F)),
    binary main_arg11 main_arg11 main_v171 (mulf : (⟨S1024x512, .f32⟩ : BufTy).Contents (Elt F) → (⟨S1024x512, .f32⟩ : BufTy).Contents (Elt F) → (⟨S1024x512, .f32⟩ : BufTy).Contents (Elt F)),
    nullary main_cst_29 (constant S_ .f32 0x00000000#32),
    binary main_v171 main_cst_29 main_v172 ((fun x v => Host.reduceAdd x v reducesTo_S1024x512_S1024_d1 h_S_) : (⟨S1024x512, .f32⟩ : BufTy).Contents (Elt F) → (⟨S_, .f32⟩ : BufTy).Contents (Elt F) → (⟨S1024, .f32⟩ : BufTy).Contents (Elt F)),
    unary main_v172 main_v173 (broadcastInDim S1x1024 ![1] bcast_S1024_S1x1024_1 : (⟨S1024, .f32⟩ : BufTy).Contents (Elt F) → (⟨S1x1024, .f32⟩ : BufTy).Contents (Elt F)),
    unary main_v170 main_v174 (broadcastInDim S16384x1024 ![0, 1] bcast_S16384x1_S16384x1024_0_1 : (⟨S16384x1, .f32⟩ : BufTy).Contents (Elt F) → (⟨S16384x1024, .f32⟩ : BufTy).Contents (Elt F)),
    unary main_v173 main_v175 (broadcastInDim S16384x1024 ![0, 1] bcast_S1x1024_S16384x1024_0_1 : (⟨S1x1024, .f32⟩ : BufTy).Contents (Elt F) → (⟨S16384x1024, .f32⟩ : BufTy).Contents (Elt F)),
    binary main_v174 main_v175 main_v176 (addf : (⟨S16384x1024, .f32⟩ : BufTy).Contents (Elt F) → (⟨S16384x1024, .f32⟩ : BufTy).Contents (Elt F) → (⟨S16384x1024, .f32⟩ : BufTy).Contents (Elt F)),
    nullary main_cst_30 (constant S_ .f32 0x40000000#32),
    unary main_cst_30 main_v177 (broadcastInDim S16384x512 ![] bcast_S_S16384x512 : (⟨S_, .f32⟩ : BufTy).Contents (Elt F) → (⟨S16384x512, .f32⟩ : BufTy).Contents (Elt F)),
    binary main_v177 main_v167 main_v178 (mulf : (⟨S16384x512, .f32⟩ : BufTy).Contents (Elt F) → (⟨S16384x512, .f32⟩ : BufTy).Contents (Elt F) → (⟨S16384x512, .f32⟩ : BufTy).Contents (Elt F)),
    unary main_arg11 main_v179 ((transpose S512x1024 [1, 0] · transposes_S1024x512_S512x1024_1_0) : (⟨S1024x512, .f32⟩ : BufTy).Contents (Elt F) → (⟨S512x1024, .f32⟩ : BufTy).Contents (Elt F)),
    binary main_v178 main_v179 main_v180 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    binary main_v176 main_v180 main_v181 (subf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S16384x1024, .i32⟩) main_call9_v0) (iotaInDim S16384x1024 32 1),
    TRef.nullary (TRef.of (T := ⟨S_, .f32⟩) main_call9_cst) (constant S_ .f32 0x7F800000#32),
    TRef.nullary (TRef.of (T := ⟨S_, .i32⟩) main_call9_c) (constantI S_ 32 0#32),
    TRef.quaternary (TRef.of (T := ⟨S16384x1024, .f32⟩) main_v181) (TRef.of (T := ⟨S16384x1024, .i32⟩) main_call9_v0) (TRef.of (T := ⟨S_, .f32⟩) main_call9_cst) (TRef.of (T := ⟨S_, .i32⟩) main_call9_c) (TRef.of (T := ⟨S16384, .f32⟩) main_call9_v1_0) (fun x y u v j => (Host.argReduce reducer_argmin_f32_i32 x y u v reducesTo_S16384x1024_S16384_d1 h_S_ j).1),
    TRef.quaternary (TRef.of (T := ⟨S16384x1024, .f32⟩) main_v181) (TRef.of (T := ⟨S16384x1024, .i32⟩) main_call9_v0) (TRef.of (T := ⟨S_, .f32⟩) main_call9_cst) (TRef.of (T := ⟨S_, .i32⟩) main_call9_c) (TRef.of (T := ⟨S16384, .i32⟩) main_v182) (fun x y u v j => (Host.argReduce reducer_argmin_f32_i32 x y u v reducesTo_S16384x1024_S16384_d1 h_S_ j).2),
    TRef.unary (TRef.of (T := ⟨S16384, .i32⟩) main_v182) (TRef.of (T := ⟨S16384x1, .i32⟩) main_call10_v0) (broadcastInDim S16384x1 ![0] bcast_S16384_S16384x1_0),
    TRef.nullary (TRef.of (T := ⟨S1x1024, .i32⟩) main_call10_v1) (iotaInDim S1x1024 32 1),
    TRef.unary (TRef.of (T := ⟨S16384x1, .i32⟩) main_call10_v0) (TRef.of (T := ⟨S16384x1024, .i32⟩) main_call10_v2) (broadcastInDim S16384x1024 ![0, 1] bcast_S16384x1_S16384x1024_0_1),
    TRef.unary (TRef.of (T := ⟨S1x1024, .i32⟩) main_call10_v1) (TRef.of (T := ⟨S16384x1024, .i32⟩) main_call10_v3) (broadcastInDim S16384x1024 ![0, 1] bcast_S1x1024_S16384x1024_0_1),
    TRef.binary (TRef.of (T := ⟨S16384x1024, .i32⟩) main_call10_v2) (TRef.of (T := ⟨S16384x1024, .i32⟩) main_call10_v3) (TRef.of (T := ⟨S16384x1024, .i1⟩) main_call10_v4) (cmpi .eq),
    TRef.unary (TRef.of (T := ⟨S16384x1024, .i1⟩) main_call10_v4) (TRef.of (T := ⟨S16384x1024, .f32⟩) main_v183) (uitofp .f32) ]

/-- The buffers `line10` writes, in order. -/
abbrev outs10 : List (Ref sig .tc) := [main_v166, main_v167, main_v168, main_cst_28, main_v169, main_v170, main_v171, main_cst_29, main_v172, main_v173, main_v174, main_v175, main_v176, main_cst_30, main_v177, main_v178, main_v179, main_v180, main_v181, main_call9_v0, main_call9_cst, main_call9_c, main_call9_v1_0, main_v182, main_call10_v0, main_call10_v1, main_call10_v2, main_call10_v3, main_call10_v4, main_v183]

/-- The reference's host operations 247 to 269 of 421. -/
abbrev line11 : List (HloOp τ sig (Elt F)) :=
  [ binary main_v183 main_arg11 main_v184 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    reshape main_v184 main_v185 (rfl : (.f32 : EltTy) = .f32) shapeCasts_S16384x512_S128x128x512,
    binary main_v185 main_v166 main_v186 (subf : (⟨S128x128x512, .f32⟩ : BufTy).Contents (Elt F) → (⟨S128x128x512, .f32⟩ : BufTy).Contents (Elt F) → (⟨S128x128x512, .f32⟩ : BufTy).Contents (Elt F)),
    binary main_v186 main_v186 main_v187 (mulf : (⟨S128x128x512, .f32⟩ : BufTy).Contents (Elt F) → (⟨S128x128x512, .f32⟩ : BufTy).Contents (Elt F) → (⟨S128x128x512, .f32⟩ : BufTy).Contents (Elt F)),
    nullary main_cst_31 (constant S_ .f32 0x00000000#32),
    binary main_v187 main_cst_31 main_v188 ((fun x v => Host.reduceAdd x v reducesTo_S128x128x512_S_d0_1_2 h_S_) : (⟨S128x128x512, .f32⟩ : BufTy).Contents (Elt F) → (⟨S_, .f32⟩ : BufTy).Contents (Elt F) → (⟨S_, .f32⟩ : BufTy).Contents (Elt F)),
    nullary main_cst_32 (constant S_ .f32 0x4B000000#32),
    binary main_v188 main_cst_32 main_v189 (Host.divf : (⟨S_, .f32⟩ : BufTy).Contents (Elt F) → (⟨S_, .f32⟩ : BufTy).Contents (Elt F) → (⟨S_, .f32⟩ : BufTy).Contents (Elt F)),
    nullary main_cst_33 (constant S_ .f32 0x3E800000#32),
    binary main_cst_33 main_v189 main_v190 (mulf : (⟨S_, .f32⟩ : BufTy).Contents (Elt F) → (⟨S_, .f32⟩ : BufTy).Contents (Elt F) → (⟨S_, .f32⟩ : BufTy).Contents (Elt F)),
    binary main_v150 main_v190 main_v191 (addf : (⟨S_, .f32⟩ : BufTy).Contents (Elt F) → (⟨S_, .f32⟩ : BufTy).Contents (Elt F) → (⟨S_, .f32⟩ : BufTy).Contents (Elt F)),
    binary main_v185 main_v166 main_v192 (subf : (⟨S128x128x512, .f32⟩ : BufTy).Contents (Elt F) → (⟨S128x128x512, .f32⟩ : BufTy).Contents (Elt F) → (⟨S128x128x512, .f32⟩ : BufTy).Contents (Elt F)),
    binary main_v166 main_v192 main_v193 (addf : (⟨S128x128x512, .f32⟩ : BufTy).Contents (Elt F) → (⟨S128x128x512, .f32⟩ : BufTy).Contents (Elt F) → (⟨S128x128x512, .f32⟩ : BufTy).Contents (Elt F)),
    nullary main_cst_34 (constant S_ .f32 0x00000000#32),
    binary main_v183 main_cst_34 main_v194 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_35 (constant S_ .f32 0x46800000#32),
    unary main_cst_35 main_v195 (broadcastInDim S1024 ![] bcast_S_S1024 : (⟨S_, .f32⟩ : BufTy).Contents (Elt F) → (⟨S1024, .f32⟩ : BufTy).Contents (Elt F)),
    binary main_v194 main_v195 main_v196 (Host.divf : (⟨S1024, .f32⟩ : BufTy).Contents (Elt F) → (⟨S1024, .f32⟩ : BufTy).Contents (Elt F) → (⟨S1024, .f32⟩ : BufTy).Contents (Elt F)),
    nullary main_cst_36 (constant S_ .f32 0x2EDBE6FF#32),
    unary main_cst_36 main_v197 (broadcastInDim S1024 ![] bcast_S_S1024 : (⟨S_, .f32⟩ : BufTy).Contents (Elt F) → (⟨S1024, .f32⟩ : BufTy).Contents (Elt F)),
    binary main_v196 main_v197 main_v198 (addf : (⟨S1024, .f32⟩ : BufTy).Contents (Elt F) → (⟨S1024, .f32⟩ : BufTy).Contents (Elt F) → (⟨S1024, .f32⟩ : BufTy).Contents (Elt F)),
    unary main_v198 main_v199 (Host.log : (⟨S1024, .f32⟩ : BufTy).Contents (Elt F) → (⟨S1024, .f32⟩ : BufTy).Contents (Elt F)),
    binary main_v196 main_v199 main_v200 (mulf : (⟨S1024, .f32⟩ : BufTy).Contents (Elt F) → (⟨S1024, .f32⟩ : BufTy).Contents (Elt F) → (⟨S1024, .f32⟩ : BufTy).Contents (Elt F)) ]

/-- The buffers `line11` writes, in order. -/
abbrev outs11 : List (Ref sig .tc) := [main_v184, main_v185, main_v186, main_v187, main_cst_31, main_v188, main_cst_32, main_v189, main_cst_33, main_v190, main_v191, main_v192, main_v193, main_cst_34, main_v194, main_cst_35, main_v195, main_v196, main_cst_36, main_v197, main_v198, main_v199, main_v200]

/-- The reference's host operations 270 to 276 of 421. -/
abbrev line12 : List (HloOp τ sig (Elt F)) :=
  [ nullary main_cst_37 (constant S_ .f32 0x00000000#32),
    binary main_v200 main_cst_37 main_v201 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v201 main_v202 (Host.negf : (⟨S_, .f32⟩ : BufTy).Contents (Elt F) → (⟨S_, .f32⟩ : BufTy).Contents (Elt F)),
    unary main_v202 main_v203 (Host.exp : (⟨S_, .f32⟩ : BufTy).Contents (Elt F) → (⟨S_, .f32⟩ : BufTy).Contents (Elt F)),
    unary main_v193 main_v204 ((transpose S128x512x128 [0, 2, 1] · transposes_S128x128x512_S128x512x128_0_2_1) : (⟨S128x128x512, .f32⟩ : BufTy).Contents (Elt F) → (⟨S128x512x128, .f32⟩ : BufTy).Contents (Elt F)),
    binary main_v164 main_v204 main_v205 (subf : (⟨S128x512x128, .f32⟩ : BufTy).Contents (Elt F) → (⟨S128x512x128, .f32⟩ : BufTy).Contents (Elt F) → (⟨S128x512x128, .f32⟩ : BufTy).Contents (Elt F)),
    binary main_v165 main_v204 main_v206 (addf : (⟨S128x512x128, .f32⟩ : BufTy).Contents (Elt F) → (⟨S128x512x128, .f32⟩ : BufTy).Contents (Elt F) → (⟨S128x512x128, .f32⟩ : BufTy).Contents (Elt F)) ]

/-- The buffers `line12` writes, in order. -/
abbrev outs12 : List (Ref sig .tc) := [main_cst_37, main_v201, main_v202, main_v203, main_v204, main_v205, main_v206]

/-- The reference's host operations 277 to 306 of 421. -/
abbrev line13 : List (HloOp τ sig (Elt F)) :=
  [ unary main_v205 main_v207 ((transpose S128x128x512 [0, 2, 1] · transposes_S128x512x128_S128x128x512_0_2_1) : (⟨S128x512x128, .f32⟩ : BufTy).Contents (Elt F) → (⟨S128x128x512, .f32⟩ : BufTy).Contents (Elt F)),
    reshape main_v207 main_v208 (rfl : (.f32 : EltTy) = .f32) shapeCasts_S128x128x512_S16384x512,
    binary main_v208 main_v208 main_v209 (mulf : (⟨S16384x512, .f32⟩ : BufTy).Contents (Elt F) → (⟨S16384x512, .f32⟩ : BufTy).Contents (Elt F) → (⟨S16384x512, .f32⟩ : BufTy).Contents (Elt F)),
    nullary main_cst_38 (constant S_ .f32 0x00000000#32),
    binary main_v209 main_cst_38 main_v210 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v210 main_v211 (broadcastInDim S16384x1 ![0] bcast_S16384_S16384x1_0 : (⟨S16384, .f32⟩ : BufTy).Contents (Elt F) → (⟨S16384x1, .f32⟩ : BufTy).Contents (Elt F)),
    binary main_arg12 main_arg12 main_v212 (mulf : (⟨S1024x512, .f32⟩ : BufTy).Contents (Elt F) → (⟨S1024x512, .f32⟩ : BufTy).Contents (Elt F) → (⟨S1024x512, .f32⟩ : BufTy).Contents (Elt F)),
    nullary main_cst_39 (constant S_ .f32 0x00000000#32),
    binary main_v212 main_cst_39 main_v213 ((fun x v => Host.reduceAdd x v reducesTo_S1024x512_S1024_d1 h_S_) : (⟨S1024x512, .f32⟩ : BufTy).Contents (Elt F) → (⟨S_, .f32⟩ : BufTy).Contents (Elt F) → (⟨S1024, .f32⟩ : BufTy).Contents (Elt F)),
    unary main_v213 main_v214 (broadcastInDim S1x1024 ![1] bcast_S1024_S1x1024_1 : (⟨S1024, .f32⟩ : BufTy).Contents (Elt F) → (⟨S1x1024, .f32⟩ : BufTy).Contents (Elt F)),
    unary main_v211 main_v215 (broadcastInDim S16384x1024 ![0, 1] bcast_S16384x1_S16384x1024_0_1 : (⟨S16384x1, .f32⟩ : BufTy).Contents (Elt F) → (⟨S16384x1024, .f32⟩ : BufTy).Contents (Elt F)),
    unary main_v214 main_v216 (broadcastInDim S16384x1024 ![0, 1] bcast_S1x1024_S16384x1024_0_1 : (⟨S1x1024, .f32⟩ : BufTy).Contents (Elt F) → (⟨S16384x1024, .f32⟩ : BufTy).Contents (Elt F)),
    binary main_v215 main_v216 main_v217 (addf : (⟨S16384x1024, .f32⟩ : BufTy).Contents (Elt F) → (⟨S16384x1024, .f32⟩ : BufTy).Contents (Elt F) → (⟨S16384x1024, .f32⟩ : BufTy).Contents (Elt F)),
    nullary main_cst_40 (constant S_ .f32 0x40000000#32),
    unary main_cst_40 main_v218 (broadcastInDim S16384x512 ![] bcast_S_S16384x512 : (⟨S_, .f32⟩ : BufTy).Contents (Elt F) → (⟨S16384x512, .f32⟩ : BufTy).Contents (Elt F)),
    binary main_v218 main_v208 main_v219 (mulf : (⟨S16384x512, .f32⟩ : BufTy).Contents (Elt F) → (⟨S16384x512, .f32⟩ : BufTy).Contents (Elt F) → (⟨S16384x512, .f32⟩ : BufTy).Contents (Elt F)),
    unary main_arg12 main_v220 ((transpose S512x1024 [1, 0] · transposes_S1024x512_S512x1024_1_0) : (⟨S1024x512, .f32⟩ : BufTy).Contents (Elt F) → (⟨S512x1024, .f32⟩ : BufTy).Contents (Elt F)),
    binary main_v219 main_v220 main_v221 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    binary main_v217 main_v221 main_v222 (subf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S16384x1024, .i32⟩) main_call11_v0) (iotaInDim S16384x1024 32 1),
    TRef.nullary (TRef.of (T := ⟨S_, .f32⟩) main_call11_cst) (constant S_ .f32 0x7F800000#32),
    TRef.nullary (TRef.of (T := ⟨S_, .i32⟩) main_call11_c) (constantI S_ 32 0#32),
    TRef.quaternary (TRef.of (T := ⟨S16384x1024, .f32⟩) main_v222) (TRef.of (T := ⟨S16384x1024, .i32⟩) main_call11_v0) (TRef.of (T := ⟨S_, .f32⟩) main_call11_cst) (TRef.of (T := ⟨S_, .i32⟩) main_call11_c) (TRef.of (T := ⟨S16384, .f32⟩) main_call11_v1_0) (fun x y u v j => (Host.argReduce reducer_argmin_f32_i32 x y u v reducesTo_S16384x1024_S16384_d1 h_S_ j).1),
    TRef.quaternary (TRef.of (T := ⟨S16384x1024, .f32⟩) main_v222) (TRef.of (T := ⟨S16384x1024, .i32⟩) main_call11_v0) (TRef.of (T := ⟨S_, .f32⟩) main_call11_cst) (TRef.of (T := ⟨S_, .i32⟩) main_call11_c) (TRef.of (T := ⟨S16384, .i32⟩) main_v223) (fun x y u v j => (Host.argReduce reducer_argmin_f32_i32 x y u v reducesTo_S16384x1024_S16384_d1 h_S_ j).2),
    TRef.unary (TRef.of (T := ⟨S16384, .i32⟩) main_v223) (TRef.of (T := ⟨S16384x1, .i32⟩) main_call12_v0) (broadcastInDim S16384x1 ![0] bcast_S16384_S16384x1_0),
    TRef.nullary (TRef.of (T := ⟨S1x1024, .i32⟩) main_call12_v1) (iotaInDim S1x1024 32 1),
    TRef.unary (TRef.of (T := ⟨S16384x1, .i32⟩) main_call12_v0) (TRef.of (T := ⟨S16384x1024, .i32⟩) main_call12_v2) (broadcastInDim S16384x1024 ![0, 1] bcast_S16384x1_S16384x1024_0_1),
    TRef.unary (TRef.of (T := ⟨S1x1024, .i32⟩) main_call12_v1) (TRef.of (T := ⟨S16384x1024, .i32⟩) main_call12_v3) (broadcastInDim S16384x1024 ![0, 1] bcast_S1x1024_S16384x1024_0_1),
    TRef.binary (TRef.of (T := ⟨S16384x1024, .i32⟩) main_call12_v2) (TRef.of (T := ⟨S16384x1024, .i32⟩) main_call12_v3) (TRef.of (T := ⟨S16384x1024, .i1⟩) main_call12_v4) (cmpi .eq),
    TRef.unary (TRef.of (T := ⟨S16384x1024, .i1⟩) main_call12_v4) (TRef.of (T := ⟨S16384x1024, .f32⟩) main_v224) (uitofp .f32) ]

/-- The buffers `line13` writes, in order. -/
abbrev outs13 : List (Ref sig .tc) := [main_v207, main_v208, main_v209, main_cst_38, main_v210, main_v211, main_v212, main_cst_39, main_v213, main_v214, main_v215, main_v216, main_v217, main_cst_40, main_v218, main_v219, main_v220, main_v221, main_v222, main_call11_v0, main_call11_cst, main_call11_c, main_call11_v1_0, main_v223, main_call12_v0, main_call12_v1, main_call12_v2, main_call12_v3, main_call12_v4, main_v224]

/-- The reference's host operations 307 to 336 of 421. -/
abbrev line14 : List (HloOp τ sig (Elt F)) :=
  [ binary main_v224 main_arg12 main_v225 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    reshape main_v225 main_v226 (rfl : (.f32 : EltTy) = .f32) shapeCasts_S16384x512_S128x128x512,
    binary main_v226 main_v207 main_v227 (subf : (⟨S128x128x512, .f32⟩ : BufTy).Contents (Elt F) → (⟨S128x128x512, .f32⟩ : BufTy).Contents (Elt F) → (⟨S128x128x512, .f32⟩ : BufTy).Contents (Elt F)),
    binary main_v227 main_v227 main_v228 (mulf : (⟨S128x128x512, .f32⟩ : BufTy).Contents (Elt F) → (⟨S128x128x512, .f32⟩ : BufTy).Contents (Elt F) → (⟨S128x128x512, .f32⟩ : BufTy).Contents (Elt F)),
    nullary main_cst_41 (constant S_ .f32 0x00000000#32),
    binary main_v228 main_cst_41 main_v229 ((fun x v => Host.reduceAdd x v reducesTo_S128x128x512_S_d0_1_2 h_S_) : (⟨S128x128x512, .f32⟩ : BufTy).Contents (Elt F) → (⟨S_, .f32⟩ : BufTy).Contents (Elt F) → (⟨S_, .f32⟩ : BufTy).Contents (Elt F)),
    nullary main_cst_42 (constant S_ .f32 0x4B000000#32),
    binary main_v229 main_cst_42 main_v230 (Host.divf : (⟨S_, .f32⟩ : BufTy).Contents (Elt F) → (⟨S_, .f32⟩ : BufTy).Contents (Elt F) → (⟨S_, .f32⟩ : BufTy).Contents (Elt F)),
    nullary main_cst_43 (constant S_ .f32 0x3E800000#32),
    binary main_cst_43 main_v230 main_v231 (mulf : (⟨S_, .f32⟩ : BufTy).Contents (Elt F) → (⟨S_, .f32⟩ : BufTy).Contents (Elt F) → (⟨S_, .f32⟩ : BufTy).Contents (Elt F)),
    binary main_v191 main_v231 main_v232 (addf : (⟨S_, .f32⟩ : BufTy).Contents (Elt F) → (⟨S_, .f32⟩ : BufTy).Contents (Elt F) → (⟨S_, .f32⟩ : BufTy).Contents (Elt F)),
    binary main_v226 main_v207 main_v233 (subf : (⟨S128x128x512, .f32⟩ : BufTy).Contents (Elt F) → (⟨S128x128x512, .f32⟩ : BufTy).Contents (Elt F) → (⟨S128x128x512, .f32⟩ : BufTy).Contents (Elt F)),
    binary main_v207 main_v233 main_v234 (addf : (⟨S128x128x512, .f32⟩ : BufTy).Contents (Elt F) → (⟨S128x128x512, .f32⟩ : BufTy).Contents (Elt F) → (⟨S128x128x512, .f32⟩ : BufTy).Contents (Elt F)),
    nullary main_cst_44 (constant S_ .f32 0x00000000#32),
    binary main_v224 main_cst_44 main_v235 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_45 (constant S_ .f32 0x46800000#32),
    unary main_cst_45 main_v236 (broadcastInDim S1024 ![] bcast_S_S1024 : (⟨S_, .f32⟩ : BufTy).Contents (Elt F) → (⟨S1024, .f32⟩ : BufTy).Contents (Elt F)),
    binary main_v235 main_v236 main_v237 (Host.divf : (⟨S1024, .f32⟩ : BufTy).Contents (Elt F) → (⟨S1024, .f32⟩ : BufTy).Contents (Elt F) → (⟨S1024, .f32⟩ : BufTy).Contents (Elt F)),
    nullary main_cst_46 (constant S_ .f32 0x2EDBE6FF#32),
    unary main_cst_46 main_v238 (broadcastInDim S1024 ![] bcast_S_S1024 : (⟨S_, .f32⟩ : BufTy).Contents (Elt F) → (⟨S1024, .f32⟩ : BufTy).Contents (Elt F)),
    binary main_v237 main_v238 main_v239 (addf : (⟨S1024, .f32⟩ : BufTy).Contents (Elt F) → (⟨S1024, .f32⟩ : BufTy).Contents (Elt F) → (⟨S1024, .f32⟩ : BufTy).Contents (Elt F)),
    unary main_v239 main_v240 (Host.log : (⟨S1024, .f32⟩ : BufTy).Contents (Elt F) → (⟨S1024, .f32⟩ : BufTy).Contents (Elt F)),
    binary main_v237 main_v240 main_v241 (mulf : (⟨S1024, .f32⟩ : BufTy).Contents (Elt F) → (⟨S1024, .f32⟩ : BufTy).Contents (Elt F) → (⟨S1024, .f32⟩ : BufTy).Contents (Elt F)),
    nullary main_cst_47 (constant S_ .f32 0x00000000#32),
    binary main_v241 main_cst_47 main_v242 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v242 main_v243 (Host.negf : (⟨S_, .f32⟩ : BufTy).Contents (Elt F) → (⟨S_, .f32⟩ : BufTy).Contents (Elt F)),
    unary main_v243 main_v244 (Host.exp : (⟨S_, .f32⟩ : BufTy).Contents (Elt F) → (⟨S_, .f32⟩ : BufTy).Contents (Elt F)),
    unary main_v234 main_v245 ((transpose S128x512x128 [0, 2, 1] · transposes_S128x128x512_S128x512x128_0_2_1) : (⟨S128x128x512, .f32⟩ : BufTy).Contents (Elt F) → (⟨S128x512x128, .f32⟩ : BufTy).Contents (Elt F)),
    binary main_v205 main_v245 main_v246 (subf : (⟨S128x512x128, .f32⟩ : BufTy).Contents (Elt F) → (⟨S128x512x128, .f32⟩ : BufTy).Contents (Elt F) → (⟨S128x512x128, .f32⟩ : BufTy).Contents (Elt F)),
    binary main_v206 main_v245 main_v247 (addf : (⟨S128x512x128, .f32⟩ : BufTy).Contents (Elt F) → (⟨S128x512x128, .f32⟩ : BufTy).Contents (Elt F) → (⟨S128x512x128, .f32⟩ : BufTy).Contents (Elt F)) ]

/-- The buffers `line14` writes, in order. -/
abbrev outs14 : List (Ref sig .tc) := [main_v225, main_v226, main_v227, main_v228, main_cst_41, main_v229, main_cst_42, main_v230, main_cst_43, main_v231, main_v232, main_v233, main_v234, main_cst_44, main_v235, main_cst_45, main_v236, main_v237, main_cst_46, main_v238, main_v239, main_v240, main_v241, main_cst_47, main_v242, main_v243, main_v244, main_v245, main_v246, main_v247]

/-- The reference's host operations 337 to 338 of 421. -/
abbrev line15 : List (HloOp τ sig (Elt F)) :=
  [ binary main_v81 main_v247 main_v248 (addf : (⟨S128x512x128, .f32⟩ : BufTy).Contents (Elt F) → (⟨S128x512x128, .f32⟩ : BufTy).Contents (Elt F) → (⟨S128x512x128, .f32⟩ : BufTy).Contents (Elt F)),
    TRef.unary (TRef.of (T := ⟨S512x512x4, .f32⟩) main_arg13) (TRef.of (T := ⟨S512x512x4, .f32⟩) main_v249) (Host.reverse [2]) ]

/-- The buffers `line15` writes, in order. -/
abbrev outs15 : List (Ref sig .tc) := [main_v248, main_v249]

/-- The reference's host operations 339 to 377 of 421. -/
abbrev line16 : List (HloOp τ sig (Elt F)) :=
  [ unary main_v249 main_v250 ((transpose S512x512x4 [1, 0, 2] · transposes_S512x512x4_S512x512x4_1_0_2) : (⟨S512x512x4, .f32⟩ : BufTy).Contents (Elt F) → (⟨S512x512x4, .f32⟩ : BufTy).Contents (Elt F)),
    nullary main_cst_48 (constant S_ .f32 0x00000000#32),
    binary main_v248 main_cst_48 main_v251 ((fun x v => pad S128x512x259 ![0, 0, 2] ![0, 0, 2] ![0, 0, 1] x v pads_S128x512x128_S128x512x259_000_000_221 h_S_) : (⟨S128x512x128, .f32⟩ : BufTy).Contents (Elt F) → (⟨S_, .f32⟩ : BufTy).Contents (Elt F) → (⟨S128x512x259, .f32⟩ : BufTy).Contents (Elt F)),
    unary main_v251 main_v252 ((extractStridedSlice S128x512x256 ![0, 0, 0] · slices_S128x512x259_S128x512x256_0_0_0) : (⟨S128x512x259, .f32⟩ : BufTy).Contents (Elt F) → (⟨S128x512x256, .f32⟩ : BufTy).Contents (Elt F)),
    unary main_v250 main_v253 ((extractStridedSlice S512x512x1 ![0, 0, 0] · slices_S512x512x4_S512x512x1_0_0_0) : (⟨S512x512x4, .f32⟩ : BufTy).Contents (Elt F) → (⟨S512x512x1, .f32⟩ : BufTy).Contents (Elt F)),
    reshape main_v253 main_v254 (rfl : (.f32 : EltTy) = .f32) shapeCasts_S512x512x1_S512x512,
    binary main_v254 main_v252 main_v255 ((fun l r => Host.dotGeneral dot_S512x512_S128x512x256_S512x128x256_1_1_0_02_n_n none l r) : (⟨S512x512, .f32⟩ : BufTy).Contents (Elt F) → (⟨S128x512x256, .f32⟩ : BufTy).Contents (Elt F) → (⟨S512x128x256, .f32⟩ : BufTy).Contents (Elt F)),
    unary main_v255 main_v256 ((transpose S128x512x256 [1, 0, 2] · transposes_S512x128x256_S128x512x256_1_0_2) : (⟨S512x128x256, .f32⟩ : BufTy).Contents (Elt F) → (⟨S128x512x256, .f32⟩ : BufTy).Contents (Elt F)),
    nullary main_cst_49 (constant S_ .f32 0x00000000#32),
    unary main_cst_49 main_v257 (broadcastInDim S128x512x256 ![] bcast_S_S128x512x256 : (⟨S_, .f32⟩ : BufTy).Contents (Elt F) → (⟨S128x512x256, .f32⟩ : BufTy).Contents (Elt F)),
    binary main_v257 main_v256 main_v258 (addf : (⟨S128x512x256, .f32⟩ : BufTy).Contents (Elt F) → (⟨S128x512x256, .f32⟩ : BufTy).Contents (Elt F) → (⟨S128x512x256, .f32⟩ : BufTy).Contents (Elt F)),
    unary main_v251 main_v259 ((extractStridedSlice S128x512x256 ![0, 0, 1] · slices_S128x512x259_S128x512x256_0_0_1) : (⟨S128x512x259, .f32⟩ : BufTy).Contents (Elt F) → (⟨S128x512x256, .f32⟩ : BufTy).Contents (Elt F)),
    unary main_v250 main_v260 ((extractStridedSlice S512x512x1 ![0, 0, 1] · slices_S512x512x4_S512x512x1_0_0_1) : (⟨S512x512x4, .f32⟩ : BufTy).Contents (Elt F) → (⟨S512x512x1, .f32⟩ : BufTy).Contents (Elt F)),
    reshape main_v260 main_v261 (rfl : (.f32 : EltTy) = .f32) shapeCasts_S512x512x1_S512x512,
    binary main_v261 main_v259 main_v262 ((fun l r => Host.dotGeneral dot_S512x512_S128x512x256_S512x128x256_1_1_0_02_n_n none l r) : (⟨S512x512, .f32⟩ : BufTy).Contents (Elt F) → (⟨S128x512x256, .f32⟩ : BufTy).Contents (Elt F) → (⟨S512x128x256, .f32⟩ : BufTy).Contents (Elt F)),
    unary main_v262 main_v263 ((transpose S128x512x256 [1, 0, 2] · transposes_S512x128x256_S128x512x256_1_0_2) : (⟨S512x128x256, .f32⟩ : BufTy).Contents (Elt F) → (⟨S128x512x256, .f32⟩ : BufTy).Contents (Elt F)),
    binary main_v258 main_v263 main_v264 (addf : (⟨S128x512x256, .f32⟩ : BufTy).Contents (Elt F) → (⟨S128x512x256, .f32⟩ : BufTy).Contents (Elt F) → (⟨S128x512x256, .f32⟩ : BufTy).Contents (Elt F)),
    unary main_v251 main_v265 ((extractStridedSlice S128x512x256 ![0, 0, 2] · slices_S128x512x259_S128x512x256_0_0_2) : (⟨S128x512x259, .f32⟩ : BufTy).Contents (Elt F) → (⟨S128x512x256, .f32⟩ : BufTy).Contents (Elt F)),
    unary main_v250 main_v266 ((extractStridedSlice S512x512x1 ![0, 0, 2] · slices_S512x512x4_S512x512x1_0_0_2) : (⟨S512x512x4, .f32⟩ : BufTy).Contents (Elt F) → (⟨S512x512x1, .f32⟩ : BufTy).Contents (Elt F)),
    reshape main_v266 main_v267 (rfl : (.f32 : EltTy) = .f32) shapeCasts_S512x512x1_S512x512,
    binary main_v267 main_v265 main_v268 ((fun l r => Host.dotGeneral dot_S512x512_S128x512x256_S512x128x256_1_1_0_02_n_n none l r) : (⟨S512x512, .f32⟩ : BufTy).Contents (Elt F) → (⟨S128x512x256, .f32⟩ : BufTy).Contents (Elt F) → (⟨S512x128x256, .f32⟩ : BufTy).Contents (Elt F)),
    unary main_v268 main_v269 ((transpose S128x512x256 [1, 0, 2] · transposes_S512x128x256_S128x512x256_1_0_2) : (⟨S512x128x256, .f32⟩ : BufTy).Contents (Elt F) → (⟨S128x512x256, .f32⟩ : BufTy).Contents (Elt F)),
    binary main_v264 main_v269 main_v270 (addf : (⟨S128x512x256, .f32⟩ : BufTy).Contents (Elt F) → (⟨S128x512x256, .f32⟩ : BufTy).Contents (Elt F) → (⟨S128x512x256, .f32⟩ : BufTy).Contents (Elt F)),
    unary main_v251 main_v271 ((extractStridedSlice S128x512x256 ![0, 0, 3] · slices_S128x512x259_S128x512x256_0_0_3) : (⟨S128x512x259, .f32⟩ : BufTy).Contents (Elt F) → (⟨S128x512x256, .f32⟩ : BufTy).Contents (Elt F)),
    unary main_v250 main_v272 ((extractStridedSlice S512x512x1 ![0, 0, 3] · slices_S512x512x4_S512x512x1_0_0_3) : (⟨S512x512x4, .f32⟩ : BufTy).Contents (Elt F) → (⟨S512x512x1, .f32⟩ : BufTy).Contents (Elt F)),
    reshape main_v272 main_v273 (rfl : (.f32 : EltTy) = .f32) shapeCasts_S512x512x1_S512x512,
    binary main_v273 main_v271 main_v274 ((fun l r => Host.dotGeneral dot_S512x512_S128x512x256_S512x128x256_1_1_0_02_n_n none l r) : (⟨S512x512, .f32⟩ : BufTy).Contents (Elt F) → (⟨S128x512x256, .f32⟩ : BufTy).Contents (Elt F) → (⟨S512x128x256, .f32⟩ : BufTy).Contents (Elt F)),
    unary main_v274 main_v275 ((transpose S128x512x256 [1, 0, 2] · transposes_S512x128x256_S128x512x256_1_0_2) : (⟨S512x128x256, .f32⟩ : BufTy).Contents (Elt F) → (⟨S128x512x256, .f32⟩ : BufTy).Contents (Elt F)),
    binary main_v270 main_v275 main_v276 (addf : (⟨S128x512x256, .f32⟩ : BufTy).Contents (Elt F) → (⟨S128x512x256, .f32⟩ : BufTy).Contents (Elt F) → (⟨S128x512x256, .f32⟩ : BufTy).Contents (Elt F)),
    unary main_arg14 main_v277 (broadcastInDim S1x512x1 ![1] bcast_S512_S1x512x1_1 : (⟨S512, .f32⟩ : BufTy).Contents (Elt F) → (⟨S1x512x1, .f32⟩ : BufTy).Contents (Elt F)),
    unary main_v277 main_v278 (broadcastInDim S128x512x256 ![0, 1, 2] bcast_S1x512x1_S128x512x256_0_1_2 : (⟨S1x512x1, .f32⟩ : BufTy).Contents (Elt F) → (⟨S128x512x256, .f32⟩ : BufTy).Contents (Elt F)),
    binary main_v276 main_v278 main_v279 (addf : (⟨S128x512x256, .f32⟩ : BufTy).Contents (Elt F) → (⟨S128x512x256, .f32⟩ : BufTy).Contents (Elt F) → (⟨S128x512x256, .f32⟩ : BufTy).Contents (Elt F)),
    nullary main_cst_50 (constant S_ .f32 0x00000000#32),
    unary main_cst_50 main_v280 (broadcastInDim S128x512x256 ![] bcast_S_S128x512x256 : (⟨S_, .f32⟩ : BufTy).Contents (Elt F) → (⟨S128x512x256, .f32⟩ : BufTy).Contents (Elt F)),
    binary main_v279 main_v280 main_v281 (cmpf .oge : (⟨S128x512x256, .f32⟩ : BufTy).Contents (Elt F) → (⟨S128x512x256, .f32⟩ : BufTy).Contents (Elt F) → (⟨S128x512x256, .i1⟩ : BufTy).Contents (Elt F)),
    nullary main_cst_51 (constant S_ .f32 0x3E4CCCCD#32),
    unary main_cst_51 main_v282 (broadcastInDim S128x512x256 ![] bcast_S_S128x512x256 : (⟨S_, .f32⟩ : BufTy).Contents (Elt F) → (⟨S128x512x256, .f32⟩ : BufTy).Contents (Elt F)),
    binary main_v282 main_v279 main_v283 (mulf : (⟨S128x512x256, .f32⟩ : BufTy).Contents (Elt F) → (⟨S128x512x256, .f32⟩ : BufTy).Contents (Elt F) → (⟨S128x512x256, .f32⟩ : BufTy).Contents (Elt F)),
    TRef.ternary (TRef.of (T := ⟨S128x512x256, .i1⟩) main_v281) (TRef.of (T := ⟨S128x512x256, .f32⟩) main_v279) (TRef.of (T := ⟨S128x512x256, .f32⟩) main_v283) (TRef.of (T := ⟨S128x512x256, .f32⟩) main_v284) select ]

/-- The buffers `line16` writes, in order. -/
abbrev outs16 : List (Ref sig .tc) := [main_v250, main_cst_48, main_v251, main_v252, main_v253, main_v254, main_v255, main_v256, main_cst_49, main_v257, main_v258, main_v259, main_v260, main_v261, main_v262, main_v263, main_v264, main_v265, main_v266, main_v267, main_v268, main_v269, main_v270, main_v271, main_v272, main_v273, main_v274, main_v275, main_v276, main_v277, main_v278, main_v279, main_cst_50, main_v280, main_v281, main_cst_51, main_v282, main_v283, main_v284]

/-- The reference's host operations 378 to 398 of 421. -/
abbrev line17 : List (HloOp τ sig (Elt F)) :=
  [ TRef.unary (TRef.of (T := ⟨S512x263x4, .f32⟩) main_arg15) (TRef.of (T := ⟨S512x263x4, .f32⟩) main_v285) (Host.reverse [2]),
    unary main_v285 main_v286 ((transpose S263x512x4 [1, 0, 2] · transposes_S512x263x4_S263x512x4_1_0_2) : (⟨S512x263x4, .f32⟩ : BufTy).Contents (Elt F) → (⟨S263x512x4, .f32⟩ : BufTy).Contents (Elt F)),
    nullary main_cst_52 (constant S_ .f32 0x00000000#32),
    binary main_v284 main_cst_52 main_v287 ((fun x v => pad S128x512x515 ![0, 0, 2] ![0, 0, 2] ![0, 0, 1] x v pads_S128x512x256_S128x512x515_000_000_221 h_S_) : (⟨S128x512x256, .f32⟩ : BufTy).Contents (Elt F) → (⟨S_, .f32⟩ : BufTy).Contents (Elt F) → (⟨S128x512x515, .f32⟩ : BufTy).Contents (Elt F)),
    unary main_v287 main_v288 ((extractStridedSlice S128x512x512 ![0, 0, 0] · slices_S128x512x515_S128x512x512_0_0_0) : (⟨S128x512x515, .f32⟩ : BufTy).Contents (Elt F) → (⟨S128x512x512, .f32⟩ : BufTy).Contents (Elt F)),
    unary main_v286 main_v289 ((extractStridedSlice S263x512x1 ![0, 0, 0] · slices_S263x512x4_S263x512x1_0_0_0) : (⟨S263x512x4, .f32⟩ : BufTy).Contents (Elt F) → (⟨S263x512x1, .f32⟩ : BufTy).Contents (Elt F)),
    reshape main_v289 main_v290 (rfl : (.f32 : EltTy) = .f32) shapeCasts_S263x512x1_S263x512,
    binary main_v290 main_v288 main_v291 ((fun l r => Host.dotGeneral dot_S263x512_S128x512x512_S263x128x512_1_1_0_02_n_n none l r) : (⟨S263x512, .f32⟩ : BufTy).Contents (Elt F) → (⟨S128x512x512, .f32⟩ : BufTy).Contents (Elt F) → (⟨S263x128x512, .f32⟩ : BufTy).Contents (Elt F)),
    unary main_v291 main_v292 ((transpose S128x263x512 [1, 0, 2] · transposes_S263x128x512_S128x263x512_1_0_2) : (⟨S263x128x512, .f32⟩ : BufTy).Contents (Elt F) → (⟨S128x263x512, .f32⟩ : BufTy).Contents (Elt F)),
    nullary main_cst_53 (constant S_ .f32 0x00000000#32),
    unary main_cst_53 main_v293 (broadcastInDim S128x263x512 ![] bcast_S_S128x263x512 : (⟨S_, .f32⟩ : BufTy).Contents (Elt F) → (⟨S128x263x512, .f32⟩ : BufTy).Contents (Elt F)),
    binary main_v293 main_v292 main_v294 (addf : (⟨S128x263x512, .f32⟩ : BufTy).Contents (Elt F) → (⟨S128x263x512, .f32⟩ : BufTy).Contents (Elt F) → (⟨S128x263x512, .f32⟩ : BufTy).Contents (Elt F)),
    unary main_v287 main_v295 ((extractStridedSlice S128x512x512 ![0, 0, 1] · slices_S128x512x515_S128x512x512_0_0_1) : (⟨S128x512x515, .f32⟩ : BufTy).Contents (Elt F) → (⟨S128x512x512, .f32⟩ : BufTy).Contents (Elt F)),
    unary main_v286 main_v296 ((extractStridedSlice S263x512x1 ![0, 0, 1] · slices_S263x512x4_S263x512x1_0_0_1) : (⟨S263x512x4, .f32⟩ : BufTy).Contents (Elt F) → (⟨S263x512x1, .f32⟩ : BufTy).Contents (Elt F)),
    reshape main_v296 main_v297 (rfl : (.f32 : EltTy) = .f32) shapeCasts_S263x512x1_S263x512,
    binary main_v297 main_v295 main_v298 ((fun l r => Host.dotGeneral dot_S263x512_S128x512x512_S263x128x512_1_1_0_02_n_n none l r) : (⟨S263x512, .f32⟩ : BufTy).Contents (Elt F) → (⟨S128x512x512, .f32⟩ : BufTy).Contents (Elt F) → (⟨S263x128x512, .f32⟩ : BufTy).Contents (Elt F)),
    unary main_v298 main_v299 ((transpose S128x263x512 [1, 0, 2] · transposes_S263x128x512_S128x263x512_1_0_2) : (⟨S263x128x512, .f32⟩ : BufTy).Contents (Elt F) → (⟨S128x263x512, .f32⟩ : BufTy).Contents (Elt F)),
    binary main_v294 main_v299 main_v300 (addf : (⟨S128x263x512, .f32⟩ : BufTy).Contents (Elt F) → (⟨S128x263x512, .f32⟩ : BufTy).Contents (Elt F) → (⟨S128x263x512, .f32⟩ : BufTy).Contents (Elt F)),
    unary main_v287 main_v301 ((extractStridedSlice S128x512x512 ![0, 0, 2] · slices_S128x512x515_S128x512x512_0_0_2) : (⟨S128x512x515, .f32⟩ : BufTy).Contents (Elt F) → (⟨S128x512x512, .f32⟩ : BufTy).Contents (Elt F)),
    unary main_v286 main_v302 ((extractStridedSlice S263x512x1 ![0, 0, 2] · slices_S263x512x4_S263x512x1_0_0_2) : (⟨S263x512x4, .f32⟩ : BufTy).Contents (Elt F) → (⟨S263x512x1, .f32⟩ : BufTy).Contents (Elt F)),
    reshape main_v302 main_v303 (rfl : (.f32 : EltTy) = .f32) shapeCasts_S263x512x1_S263x512 ]

/-- The buffers `line17` writes, in order. -/
abbrev outs17 : List (Ref sig .tc) := [main_v285, main_v286, main_cst_52, main_v287, main_v288, main_v289, main_v290, main_v291, main_v292, main_cst_53, main_v293, main_v294, main_v295, main_v296, main_v297, main_v298, main_v299, main_v300, main_v301, main_v302, main_v303]

/-- The reference's host operations 399 to 410 of 421. -/
abbrev line18 : List (HloOp τ sig (Elt F)) :=
  [ binary main_v303 main_v301 main_v304 ((fun l r => Host.dotGeneral dot_S263x512_S128x512x512_S263x128x512_1_1_0_02_n_n none l r) : (⟨S263x512, .f32⟩ : BufTy).Contents (Elt F) → (⟨S128x512x512, .f32⟩ : BufTy).Contents (Elt F) → (⟨S263x128x512, .f32⟩ : BufTy).Contents (Elt F)),
    unary main_v304 main_v305 ((transpose S128x263x512 [1, 0, 2] · transposes_S263x128x512_S128x263x512_1_0_2) : (⟨S263x128x512, .f32⟩ : BufTy).Contents (Elt F) → (⟨S128x263x512, .f32⟩ : BufTy).Contents (Elt F)),
    binary main_v300 main_v305 main_v306 (addf : (⟨S128x263x512, .f32⟩ : BufTy).Contents (Elt F) → (⟨S128x263x512, .f32⟩ : BufTy).Contents (Elt F) → (⟨S128x263x512, .f32⟩ : BufTy).Contents (Elt F)),
    unary main_v287 main_v307 ((extractStridedSlice S128x512x512 ![0, 0, 3] · slices_S128x512x515_S128x512x512_0_0_3) : (⟨S128x512x515, .f32⟩ : BufTy).Contents (Elt F) → (⟨S128x512x512, .f32⟩ : BufTy).Contents (Elt F)),
    unary main_v286 main_v308 ((extractStridedSlice S263x512x1 ![0, 0, 3] · slices_S263x512x4_S263x512x1_0_0_3) : (⟨S263x512x4, .f32⟩ : BufTy).Contents (Elt F) → (⟨S263x512x1, .f32⟩ : BufTy).Contents (Elt F)),
    reshape main_v308 main_v309 (rfl : (.f32 : EltTy) = .f32) shapeCasts_S263x512x1_S263x512,
    binary main_v309 main_v307 main_v310 ((fun l r => Host.dotGeneral dot_S263x512_S128x512x512_S263x128x512_1_1_0_02_n_n none l r) : (⟨S263x512, .f32⟩ : BufTy).Contents (Elt F) → (⟨S128x512x512, .f32⟩ : BufTy).Contents (Elt F) → (⟨S263x128x512, .f32⟩ : BufTy).Contents (Elt F)),
    unary main_v310 main_v311 ((transpose S128x263x512 [1, 0, 2] · transposes_S263x128x512_S128x263x512_1_0_2) : (⟨S263x128x512, .f32⟩ : BufTy).Contents (Elt F) → (⟨S128x263x512, .f32⟩ : BufTy).Contents (Elt F)),
    binary main_v306 main_v311 main_v312 (addf : (⟨S128x263x512, .f32⟩ : BufTy).Contents (Elt F) → (⟨S128x263x512, .f32⟩ : BufTy).Contents (Elt F) → (⟨S128x263x512, .f32⟩ : BufTy).Contents (Elt F)),
    unary main_arg16 main_v313 (broadcastInDim S1x263x1 ![1] bcast_S263_S1x263x1_1 : (⟨S263, .f32⟩ : BufTy).Contents (Elt F) → (⟨S1x263x1, .f32⟩ : BufTy).Contents (Elt F)),
    unary main_v313 main_v314 (broadcastInDim S128x263x512 ![0, 1, 2] bcast_S1x263x1_S128x263x512_0_1_2 : (⟨S1x263x1, .f32⟩ : BufTy).Contents (Elt F) → (⟨S128x263x512, .f32⟩ : BufTy).Contents (Elt F)),
    binary main_v312 main_v314 main_v315 (addf : (⟨S128x263x512, .f32⟩ : BufTy).Contents (Elt F) → (⟨S128x263x512, .f32⟩ : BufTy).Contents (Elt F) → (⟨S128x263x512, .f32⟩ : BufTy).Contents (Elt F)) ]

/-- The buffers `line18` writes, in order. -/
abbrev outs18 : List (Ref sig .tc) := [main_v304, main_v305, main_v306, main_v307, main_v308, main_v309, main_v310, main_v311, main_v312, main_v313, main_v314, main_v315]

/-- The reference's host operations 411 to 421 of 421. -/
abbrev line19 : List (HloOp τ sig (Elt F)) :=
  [ unary main_v121 main_v316 (broadcastInDim S1 ![] bcast_S_S1 : (⟨S_, .f32⟩ : BufTy).Contents (Elt F) → (⟨S1, .f32⟩ : BufTy).Contents (Elt F)),
    unary main_v162 main_v317 (broadcastInDim S1 ![] bcast_S_S1 : (⟨S_, .f32⟩ : BufTy).Contents (Elt F) → (⟨S1, .f32⟩ : BufTy).Contents (Elt F)),
    unary main_v203 main_v318 (broadcastInDim S1 ![] bcast_S_S1 : (⟨S_, .f32⟩ : BufTy).Contents (Elt F) → (⟨S1, .f32⟩ : BufTy).Contents (Elt F)),
    unary main_v244 main_v319 (broadcastInDim S1 ![] bcast_S_S1 : (⟨S_, .f32⟩ : BufTy).Contents (Elt F) → (⟨S1, .f32⟩ : BufTy).Contents (Elt F)),
    nary ![main_v316, main_v317, main_v318, main_v319] main_v320 (fun u => fourSide (u 0) (u 1) (u 2) (u 3)),
    nullary main_cst_54 (constant S_ .f32 0x00000000#32),
    binary main_v320 main_cst_54 main_v321 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_55 (constant S_ .f32 0x40800000#32),
    binary main_v321 main_cst_55 main_v322 (Host.divf : (⟨S_, .f32⟩ : BufTy).Contents (Elt F) → (⟨S_, .f32⟩ : BufTy).Contents (Elt F) → (⟨S_, .f32⟩ : BufTy).Contents (Elt F)),
    reshape main_v232 main_v323 (rfl : (.f32 : EltTy) = .f32) shapeCasts_S_S1x1,
    reshape main_v322 main_v324 (rfl : (.f32 : EltTy) = .f32) shapeCasts_S_S1x1 ]

/-- The buffers `line19` writes, in order. -/
abbrev outs19 : List (Ref sig .tc) := [main_v316, main_v317, main_v318, main_v319, main_v320, main_cst_54, main_v321, main_cst_55, main_v322, main_v323, main_v324]

end Cert.Ref

end
-- ==== Proof.RefRun.lean ====
module

public import proofs.«01_k».proof.Proof.Gen.ReferenceIdeal
public import proofs.«01_k».proof.Proof.RefOps
public import Idealize.ShloMosaic.Lib.StableHlo.Run
public import Idealize.ShloMosaic.Lib.Quiescent
public import Idealize.ShloMosaic.Lib.StableHlo.RunRead
public import Idealize.ShloMosaic.Lib.Pipeline.Frame

@[expose] public section

set_option Elab.async false
set_option maxRecDepth 16384

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The operations of part 0 of the reference's program. -/
abbrev group0 : List (HloOp τ sig (Elt F)) := line0 ++ line1

/-- The operations of part 1 of the reference's program. -/
abbrev group1 : List (HloOp τ sig (Elt F)) := line2 ++ line3 ++ line4 ++ line5

/-- The operations of part 2 of the reference's program. -/
abbrev group2 : List (HloOp τ sig (Elt F)) := line6 ++ line7 ++ line8

/-- The operations of part 3 of the reference's program. -/
abbrev group3 : List (HloOp τ sig (Elt F)) := line9 ++ line10 ++ line11

/-- The operations of part 4 of the reference's program. -/
abbrev group4 : List (HloOp τ sig (Elt F)) := line12 ++ line13 ++ line14 ++ line15

/-- The operations of part 5 of the reference's program. -/
abbrev group5 : List (HloOp τ sig (Elt F)) := line16 ++ line17

/-- The operations of part 6 of the reference's program. -/
abbrev group6 : List (HloOp τ sig (Elt F)) := line18 ++ line19

/-- All of the reference's host operations, in order. -/
abbrev line : List (HloOp τ sig (Elt F)) :=
  group0 ++ (group1 ++ (group2 ++ (group3 ++ (group4 ++ (group5 ++ (group6))))))

set_option maxHeartbeats 4000000

theorem part0_eq (c : Dev nD) : main_part0 (F := F) c = seq group0 := rfl

theorem part1_eq (c : Dev nD) : main_part1 (F := F) c = seq group1 := rfl

theorem part2_eq (c : Dev nD) : main_part2 (F := F) c = seq group2 := rfl

theorem part3_eq (c : Dev nD) : main_part3 (F := F) c = seq group3 := rfl

theorem part4_eq (c : Dev nD) : main_part4 (F := F) c = seq group4 := rfl

theorem part5_eq (c : Dev nD) : main_part5 (F := F) c = seq group5 := rfl

theorem part6_eq (c : Dev nD) : main_part6 (F := F) c = seq group6 := rfl

/-- The reference's program is its list of host operations run one after another. -/
theorem main_eq (c : Dev nD) : main (F := F) c = seq line := by
  rw [seq_append group0, seq_append group1, seq_append group2, seq_append group3, seq_append group4, seq_append group5, ← part0_eq c, ← part1_eq c, ← part2_eq c, ← part3_eq c, ← part4_eq c, ← part5_eq c, ← part6_eq c]
  rfl

theorem scopedRefs_none : (Finset.univ.filter fun b : Ref sig .tc => b.isScoped) = ∅ := by decide
theorem scopedSems_none : (Finset.univ.filter fun sm : SemLoc sig => sm.isScoped .tc) = ∅ := by decide

/-- Every operation of a list names tensor core buffers only. -/
def Plain (l : List (HloOp τ sig (Elt F))) : Prop := l.Forall fun op => op.bufs ⊆ tcRefs τ sig

/-- No operation of a list allocates a buffer. -/
def Stale (l : List (HloOp τ sig (Elt F))) : Prop := l.Forall fun op => op.fresh = ∅

theorem Plain.append {l l' : List (HloOp τ sig (Elt F))} (h : Plain l) (h' : Plain l') : Plain (l ++ l') :=
  List.forall_append.mpr ⟨h, h'⟩

theorem Stale.append {l l' : List (HloOp τ sig (Elt F))} (h : Stale l) (h' : Stale l') : Stale (l ++ l') :=
  List.forall_append.mpr ⟨h, h'⟩

theorem plain0 : Plain (line0 : List (HloOp τ sig (Elt F))) :=
  ⟨nullary_bufs_sub .., unary_bufs_sub .., binary_bufs_sub .., unary_bufs_sub .., unary_bufs_sub .., reshape_bufs_sub .., binary_bufs_sub .., unary_bufs_sub .., nullary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem stale0 : Stale (line0 : List (HloOp τ sig (Elt F))) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem plain1 : Plain (line1 : List (HloOp τ sig (Elt F))) :=
  ⟨nullary_bufs_sub .., unary_bufs_sub .., binary_bufs_sub .., unary_bufs_sub .., unary_bufs_sub .., reshape_bufs_sub .., binary_bufs_sub .., unary_bufs_sub .., nullary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub ..⟩
theorem stale1 : Stale (line1 : List (HloOp τ sig (Elt F))) :=
  ⟨rfl, rfl, rfl, rfl, rfl, rfl, rfl, rfl, rfl, rfl, rfl, rfl, rfl, rfl, rfl, rfl, rfl, rfl, rfl, rfl, rfl, rfl, rfl⟩

theorem plain2 : Plain (line2 : List (HloOp τ sig (Elt F))) :=
  ⟨unary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem stale2 : Stale (line2 : List (HloOp τ sig (Elt F))) :=
  ⟨rfl, rfl, rfl, rfl, rfl, rfl, rfl, rfl, rfl, rfl, rfl, rfl, rfl, rfl, rfl, rfl⟩

theorem plain3 : Plain (line3 : List (HloOp τ sig (Elt F))) :=
  ⟨binary_bufs_sub .., unary_bufs_sub .., unary_bufs_sub .., unary_bufs_sub .., binary_bufs_sub .., unary_bufs_sub .., unary_bufs_sub .., binary_bufs_sub .., binary_bufs_sub .., binary_bufs_sub .., unary_bufs_sub .., unary_bufs_sub .., unary_bufs_sub .., binary_bufs_sub .., binary_bufs_sub .., nullary_bufs_sub .., unary_bufs_sub ..⟩
theorem stale3 : Stale (line3 : List (HloOp τ sig (Elt F))) :=
  ⟨rfl, rfl, rfl, rfl, rfl, rfl, rfl, rfl, rfl, rfl, rfl, rfl, rfl, rfl, rfl, rfl, rfl⟩

theorem plain4 : Plain (line4 : List (HloOp τ sig (Elt F))) :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub ..⟩
theorem stale4 : Stale (line4 : List (HloOp τ sig (Elt F))) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem plain5 : Plain (line5 : List (HloOp τ sig (Elt F))) :=
  ⟨binary_bufs_sub .., reshape_bufs_sub .., binary_bufs_sub .., binary_bufs_sub .., nullary_bufs_sub .., binary_bufs_sub ..⟩
theorem stale5 : Stale (line5 : List (HloOp τ sig (Elt F))) :=
  ⟨rfl, rfl, rfl, rfl, rfl, rfl⟩

theorem plain6 : Plain (line6 : List (HloOp τ sig (Elt F))) :=
  ⟨nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., unary_bufs_sub .., binary_bufs_sub .., binary_bufs_sub ..⟩
theorem stale6 : Stale (line6 : List (HloOp τ sig (Elt F))) :=
  ⟨rfl, rfl, rfl, rfl, rfl, rfl, rfl, rfl, rfl, rfl, rfl, rfl, rfl, rfl, rfl, rfl, rfl, rfl, rfl, rfl, rfl, rfl, rfl, rfl, rfl⟩

theorem plain7 : Plain (line7 : List (HloOp τ sig (Elt F))) :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub ..⟩
theorem stale7 : Stale (line7 : List (HloOp τ sig (Elt F))) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem plain8 : Plain (line8 : List (HloOp τ sig (Elt F))) :=
  ⟨binary_bufs_sub .., reshape_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub ..⟩
theorem stale8 : Stale (line8 : List (HloOp τ sig (Elt F))) :=
  ⟨rfl, rfl, rfl, rfl, rfl, rfl, rfl, rfl, rfl, rfl, rfl, rfl, rfl, rfl⟩

theorem plain9 : Plain (line9 : List (HloOp τ sig (Elt F))) :=
  ⟨binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., unary_bufs_sub .., binary_bufs_sub .., binary_bufs_sub ..⟩
theorem stale9 : Stale (line9 : List (HloOp τ sig (Elt F))) :=
  ⟨rfl, rfl, rfl, rfl, rfl, rfl, rfl, rfl, rfl, rfl, rfl, rfl, rfl, rfl, rfl, rfl⟩

theorem plain10 : Plain (line10 : List (HloOp τ sig (Elt F))) :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub ..⟩
theorem stale10 : Stale (line10 : List (HloOp τ sig (Elt F))) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem plain11 : Plain (line11 : List (HloOp τ sig (Elt F))) :=
  ⟨binary_bufs_sub .., reshape_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub ..⟩
theorem stale11 : Stale (line11 : List (HloOp τ sig (Elt F))) :=
  ⟨rfl, rfl, rfl, rfl, rfl, rfl, rfl, rfl, rfl, rfl, rfl, rfl, rfl, rfl, rfl, rfl, rfl, rfl, rfl, rfl, rfl, rfl, rfl⟩

theorem plain12 : Plain (line12 : List (HloOp τ sig (Elt F))) :=
  ⟨nullary_bufs_sub .., binary_bufs_sub .., unary_bufs_sub .., unary_bufs_sub .., unary_bufs_sub .., binary_bufs_sub .., binary_bufs_sub ..⟩
theorem stale12 : Stale (line12 : List (HloOp τ sig (Elt F))) :=
  ⟨rfl, rfl, rfl, rfl, rfl, rfl, rfl⟩

theorem plain13 : Plain (line13 : List (HloOp τ sig (Elt F))) :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub ..⟩
theorem stale13 : Stale (line13 : List (HloOp τ sig (Elt F))) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem plain14 : Plain (line14 : List (HloOp τ sig (Elt F))) :=
  ⟨binary_bufs_sub .., reshape_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., unary_bufs_sub .., binary_bufs_sub .., binary_bufs_sub ..⟩
theorem stale14 : Stale (line14 : List (HloOp τ sig (Elt F))) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem plain15 : Plain (line15 : List (HloOp τ sig (Elt F))) :=
  ⟨binary_bufs_sub .., unary_bufs_sub ..⟩
theorem stale15 : Stale (line15 : List (HloOp τ sig (Elt F))) :=
  ⟨rfl, rfl⟩

theorem plain16 : Plain (line16 : List (HloOp τ sig (Elt F))) :=
  ⟨unary_bufs_sub .., nullary_bufs_sub .., binary_bufs_sub .., unary_bufs_sub .., unary_bufs_sub .., reshape_bufs_sub .., binary_bufs_sub .., unary_bufs_sub .., nullary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem stale16 : Stale (line16 : List (HloOp τ sig (Elt F))) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem plain17 : Plain (line17 : List (HloOp τ sig (Elt F))) :=
  ⟨unary_bufs_sub .., unary_bufs_sub .., nullary_bufs_sub .., binary_bufs_sub .., unary_bufs_sub .., unary_bufs_sub .., reshape_bufs_sub .., binary_bufs_sub .., unary_bufs_sub .., nullary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub ..⟩
theorem stale17 : Stale (line17 : List (HloOp τ sig (Elt F))) :=
  ⟨rfl, rfl, rfl, rfl, rfl, rfl, rfl, rfl, rfl, rfl, rfl, rfl, rfl, rfl, rfl, rfl, rfl, rfl, rfl, rfl, rfl⟩

theorem plain18 : Plain (line18 : List (HloOp τ sig (Elt F))) :=
  ⟨binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub ..⟩
theorem stale18 : Stale (line18 : List (HloOp τ sig (Elt F))) :=
  ⟨rfl, rfl, rfl, rfl, rfl, rfl, rfl, rfl, rfl, rfl, rfl, rfl⟩

theorem plain19 : Plain (line19 : List (HloOp τ sig (Elt F))) :=
  ⟨unary_bufs_sub .., unary_bufs_sub .., unary_bufs_sub .., unary_bufs_sub .., nary_bufs_sub .., nullary_bufs_sub .., binary_bufs_sub .., nullary_bufs_sub .., binary_bufs_sub .., reshape_bufs_sub .., reshape_bufs_sub ..⟩
theorem stale19 : Stale (line19 : List (HloOp τ sig (Elt F))) :=
  ⟨rfl, rfl, rfl, rfl, rfl, rfl, rfl, rfl, rfl, rfl, rfl⟩

theorem plain_line : Plain (line : List (HloOp τ sig (Elt F))) :=
  ((plain0.append plain1)).append (((((plain2.append plain3).append plain4).append plain5)).append ((((plain6.append plain7).append plain8)).append ((((plain9.append plain10).append plain11)).append (((((plain12.append plain13).append plain14).append plain15)).append (((plain16.append plain17)).append ((plain18.append plain19)))))))
theorem stale_line : Stale (line : List (HloOp τ sig (Elt F))) :=
  ((stale0.append stale1)).append (((((stale2.append stale3).append stale4).append stale5)).append ((((stale6.append stale7).append stale8)).append ((((stale9.append stale10).append stale11)).append (((((stale12.append stale13).append stale14).append stale15)).append (((stale16.append stale17)).append ((stale18.append stale19)))))))

/-- Every execution of the reference ends with each buffer holding what its list of operations leaves there. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, ∀ b : Ref sig .tc,
        r.2.mem ((c.tc : Thread nD τ).loc b) = after line (launchContents m c) (Proc.devRef .tc b))
      ∧ r.2.sem = fun _ => 0 :=
  (θ_run defs _ _).mono (fun r h => ⟨h, sem_eq_zero_of_no_sems rfl r.2⟩)
    (run_seq scopedRefs_none scopedSems_none defs main (fun _ => line) main_eq (fun _ => plain_line) m ρ
      fun _ op h => (List.forall_iff_forall_mem.mp stale_line op h))

end Cert.Ref

end
-- ==== Proof.RefStages.lean ====
module

public import proofs.«01_k».proof.Proof.Gen.ReferenceIdeal
public import proofs.«01_k».proof.Proof.RefRun
public import Idealize.ShloMosaic.Lib.StableHlo.Run
public import Idealize.ShloMosaic.Lib.StableHlo.RunRead
public import Idealize.ShloMosaic.Lib.Pipeline.Frame

@[expose] public section

set_option Elab.async false
set_option maxRecDepth 16384

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- A float array of shape `s`. -/
abbrev Arr (F : FTy → Type) [FloatOps F] (s : Shape) := (⟨s, .f32⟩ : BufTy).Contents (Elt F)

/-! ## What each stretch of the reference computes, as a function of the buffers it reads -/

/-- The encoder's first convolution, out of its padded input. -/
def enc1Of (x : Arr F S128x263x514) (w : Arr F S512x263x4) (b : Arr F S512) : Arr F S128x512x256 :=
  addf (addf (addf (addf (addf (broadcastInDim S128x512x256 ![] bcast_S_S128x512x256 (constant S_ .f32 0x00000000#32))
    (transpose S128x512x256 [1, 0, 2] (Host.dotGeneral dot_S512x263_S128x263x256_S512x128x256_1_1_0_02_n_n none (shapeCast _ (extractStridedSlice S512x263x1 ![0, 0, 0] w slices_S512x263x4_S512x263x1_0_0_0) shapeCasts_S512x263x1_S512x263) (Host.slice S128x263x256 ![0, 0, 0] ![1, 1, 2] x slicesBy_S128x263x514_S128x263x256_0s1_0s1_0s2)) transposes_S512x128x256_S128x512x256_1_0_2))
    (transpose S128x512x256 [1, 0, 2] (Host.dotGeneral dot_S512x263_S128x263x256_S512x128x256_1_1_0_02_n_n none (shapeCast _ (extractStridedSlice S512x263x1 ![0, 0, 1] w slices_S512x263x4_S512x263x1_0_0_1) shapeCasts_S512x263x1_S512x263) (Host.slice S128x263x256 ![0, 0, 1] ![1, 1, 2] x slicesBy_S128x263x514_S128x263x256_0s1_0s1_1s2)) transposes_S512x128x256_S128x512x256_1_0_2))
    (transpose S128x512x256 [1, 0, 2] (Host.dotGeneral dot_S512x263_S128x263x256_S512x128x256_1_1_0_02_n_n none (shapeCast _ (extractStridedSlice S512x263x1 ![0, 0, 2] w slices_S512x263x4_S512x263x1_0_0_2) shapeCasts_S512x263x1_S512x263) (Host.slice S128x263x256 ![0, 0, 2] ![1, 1, 2] x slicesBy_S128x263x514_S128x263x256_0s1_0s1_2s2)) transposes_S512x128x256_S128x512x256_1_0_2))
    (transpose S128x512x256 [1, 0, 2] (Host.dotGeneral dot_S512x263_S128x263x256_S512x128x256_1_1_0_02_n_n none (shapeCast _ (extractStridedSlice S512x263x1 ![0, 0, 3] w slices_S512x263x4_S512x263x1_0_0_3) shapeCasts_S512x263x1_S512x263) (Host.slice S128x263x256 ![0, 0, 3] ![1, 1, 2] x slicesBy_S128x263x514_S128x263x256_0s1_0s1_3s2)) transposes_S512x128x256_S128x512x256_1_0_2))
    (broadcastInDim S128x512x256 ![0, 1, 2] bcast_S1x512x1_S128x512x256_0_1_2 (broadcastInDim S1x512x1 ![1] bcast_S512_S1x512x1_1 b))

/-- The input of the first convolution, padded by one zero on both sides of time. -/
def padX (x : Arr F S128x263x512) : Arr F S128x263x514 :=
  pad S128x263x514 ![0, 0, 1] ![0, 0, 1] ![0, 0, 0] x (sitofp .f32 (constantI S_ 32 0#32)) pads_S128x263x512_S128x263x514_000_000_110 h_S_

/-- The leaky rectifier on 256 time steps. -/
def leaky256 (a : Arr F S128x512x256) : Arr F S128x512x256 :=
  select (cmpf .oge a (broadcastInDim S128x512x256 ![] bcast_S_S128x512x256 (constant S_ .f32 0x00000000#32))) a
    (mulf (broadcastInDim S128x512x256 ![] bcast_S_S128x512x256 (constant S_ .f32 0x3E4CCCCD#32)) a)

/-- The leaky rectifier on 128 time steps. -/
def leaky128 (a : Arr F S128x512x128) : Arr F S128x512x128 :=
  select (cmpf .oge a (broadcastInDim S128x512x128 ![] bcast_S_S128x512x128 (constant S_ .f32 0x00000000#32))) a
    (mulf (broadcastInDim S128x512x128 ![] bcast_S_S128x512x128 (constant S_ .f32 0x3E4CCCCD#32)) a)

/-- The encoder's second convolution, out of its padded input. -/
def enc2Of (x : Arr F S128x512x258) (w : Arr F S512x512x4) (b : Arr F S512) : Arr F S128x512x128 :=
  addf (addf (addf (addf (addf (broadcastInDim S128x512x128 ![] bcast_S_S128x512x128 (constant S_ .f32 0x00000000#32))
    (transpose S128x512x128 [1, 0, 2] (Host.dotGeneral dot_S512x512_S128x512x128_S512x128x128_1_1_0_02_n_n none (shapeCast _ (extractStridedSlice S512x512x1 ![0, 0, 0] w slices_S512x512x4_S512x512x1_0_0_0) shapeCasts_S512x512x1_S512x512) (Host.slice S128x512x128 ![0, 0, 0] ![1, 1, 2] x slicesBy_S128x512x258_S128x512x128_0s1_0s1_0s2)) transposes_S512x128x128_S128x512x128_1_0_2))
    (transpose S128x512x128 [1, 0, 2] (Host.dotGeneral dot_S512x512_S128x512x128_S512x128x128_1_1_0_02_n_n none (shapeCast _ (extractStridedSlice S512x512x1 ![0, 0, 1] w slices_S512x512x4_S512x512x1_0_0_1) shapeCasts_S512x512x1_S512x512) (Host.slice S128x512x128 ![0, 0, 1] ![1, 1, 2] x slicesBy_S128x512x258_S128x512x128_0s1_0s1_1s2)) transposes_S512x128x128_S128x512x128_1_0_2))
    (transpose S128x512x128 [1, 0, 2] (Host.dotGeneral dot_S512x512_S128x512x128_S512x128x128_1_1_0_02_n_n none (shapeCast _ (extractStridedSlice S512x512x1 ![0, 0, 2] w slices_S512x512x4_S512x512x1_0_0_2) shapeCasts_S512x512x1_S512x512) (Host.slice S128x512x128 ![0, 0, 2] ![1, 1, 2] x slicesBy_S128x512x258_S128x512x128_0s1_0s1_2s2)) transposes_S512x128x128_S128x512x128_1_0_2))
    (transpose S128x512x128 [1, 0, 2] (Host.dotGeneral dot_S512x512_S128x512x128_S512x128x128_1_1_0_02_n_n none (shapeCast _ (extractStridedSlice S512x512x1 ![0, 0, 3] w slices_S512x512x4_S512x512x1_0_0_3) shapeCasts_S512x512x1_S512x512) (Host.slice S128x512x128 ![0, 0, 3] ![1, 1, 2] x slicesBy_S128x512x258_S128x512x128_0s1_0s1_3s2)) transposes_S512x128x128_S128x512x128_1_0_2))
    (broadcastInDim S128x512x128 ![0, 1, 2] bcast_S1x512x1_S128x512x128_0_1_2 (broadcastInDim S1x512x1 ![1] bcast_S512_S1x512x1_1 b))

/-- The first hidden layer padded by one zero on both sides of time. -/
def padH (x : Arr F S128x512x256) : Arr F S128x512x258 :=
  pad S128x512x258 ![0, 0, 1] ![0, 0, 1] ![0, 0, 0] x (sitofp .f32 (constantI S_ 32 0#32)) pads_S128x512x256_S128x512x258_000_000_110 h_S_

/-- The scalar quantiser's projected input, channels last. -/
def fsqIn (h : Arr F S128x512x128) (w : Arr F S4x512) (b : Arr F S4) : Arr F S128x128x4 :=
  transpose S128x128x4 [0, 2, 1] (addf (transpose S128x4x128 [1, 0, 2] (Host.dotGeneral dot_S4x512_S128x512x128_S4x128x128_1_1_0_02_n_n none w h) transposes_S4x128x128_S128x4x128_1_0_2) (broadcastInDim S128x4x128 ![0, 1, 2] bcast_S1x4x1_S128x4x128_0_1_2 (broadcastInDim S1x4x1 ![1] bcast_S4_S1x4x1_1 b))) transposes_S128x4x128_S128x128x4_0_2_1

/-- The scalar quantiser's output, out of the projected input. -/
def fsqOut (z : Arr F S128x128x4) (w : Arr F S512x4) (b : Arr F S512) : Arr F S128x512x128 :=
  addf (transpose S128x512x128 [1, 0, 2] (Host.dotGeneral dot_S512x4_S128x128x4_S512x128x128_1_2_0_01_n_n none w (addf z (subf (Host.roundeven z) z))) transposes_S512x128x128_S128x512x128_1_0_2) (broadcastInDim S128x512x128 ![0, 1, 2] bcast_S1x512x1_S128x512x128_0_1_2 (broadcastInDim S1x512x1 ![1] bcast_S512_S1x512x1_1 b))

/-- A residual, channels last. -/
def vqIn (r : Arr F S128x512x128) : Arr F S128x128x512 :=
  transpose S128x128x512 [0, 2, 1] r transposes_S128x512x128_S128x128x512_0_2_1

/-- A residual as 16384 rows of 512 channels. -/
def vqFlat (r : Arr F S128x512x128) : Arr F S16384x512 := shapeCast _ (vqIn r) shapeCasts_S128x128x512_S16384x512

/-- The squared distance of each row to each codeword. -/
def vqDist (r : Arr F S128x512x128) (E : Arr F S1024x512) : Arr F S16384x1024 :=
  subf (addf (broadcastInDim S16384x1024 ![0, 1] bcast_S16384x1_S16384x1024_0_1 (broadcastInDim S16384x1 ![0] bcast_S16384_S16384x1_0 (Host.reduceAdd (mulf (vqFlat r) (vqFlat r)) (constant S_ .f32 0x00000000#32) reducesTo_S16384x512_S16384_d1 h_S_))) (broadcastInDim S16384x1024 ![0, 1] bcast_S1x1024_S16384x1024_0_1 (broadcastInDim S1x1024 ![1] bcast_S1024_S1x1024_1 (Host.reduceAdd (mulf E E) (constant S_ .f32 0x00000000#32) reducesTo_S1024x512_S1024_d1 h_S_)))) (Host.dotGeneral dot_S16384x512_S512x1024_S16384x1024_1_0_0_1_n_n none (mulf (broadcastInDim S16384x512 ![] bcast_S_S16384x512 (constant S_ .f32 0x40000000#32)) (vqFlat r)) (transpose S512x1024 [1, 0] E transposes_S1024x512_S512x1024_1_0))

/-- The place of each row's least distance. -/
def vqIdx (d : Arr F S16384x1024) : (⟨S16384, .i32⟩ : BufTy).Contents (Elt F) :=
  fun j => (Host.argReduce reducer_argmin_f32_i32 d (iotaInDim S16384x1024 32 1) (constant S_ .f32 0x7F800000#32) (constantI S_ 32 0#32) reducesTo_S16384x1024_S16384_d1 h_S_ j).2

/-- Each row's one-hot code. -/
def vqEnc (d : Arr F S16384x1024) : Arr F S16384x1024 :=
  uitofp .f32 (cmpi .eq (broadcastInDim S16384x1024 ![0, 1] bcast_S16384x1_S16384x1024_0_1 (broadcastInDim S16384x1 ![0] bcast_S16384_S16384x1_0 (vqIdx d))) (broadcastInDim S16384x1024 ![0, 1] bcast_S1x1024_S16384x1024_0_1 (iotaInDim S1x1024 32 1)))

/-- Each row's codeword, out of its code, channels last. -/
def vqQ (e : Arr F S16384x1024) (E : Arr F S1024x512) : Arr F S128x128x512 :=
  shapeCast _ (Host.dotGeneral dot_S16384x1024_S1024x512_S16384x512_1_0_0_1_n_n none e E) shapeCasts_S16384x512_S128x128x512

/-- The layer's output (with the straight-through difference), channels first. -/
def vqOut (i : Arr F S128x128x512) (q : Arr F S128x128x512) : Arr F S128x512x128 :=
  transpose S128x512x128 [0, 2, 1] (addf i (subf q i)) transposes_S128x128x512_S128x512x128_0_2_1

/-- The layer's share of the loss. -/
def vqLoss (i : Arr F S128x128x512) (q : Arr F S128x128x512) : Arr F S_ :=
  mulf (constant S_ .f32 0x3E800000#32) (Host.divf (Host.reduceAdd (mulf (subf q i) (subf q i)) (constant S_ .f32 0x00000000#32) reducesTo_S128x128x512_S_d0_1_2 h_S_) (constant S_ .f32 0x4B000000#32))

/-- How often each codeword is used, as a share of the rows. -/
def vqAvg (e : Arr F S16384x1024) : Arr F S1024 :=
  Host.divf (Host.reduceAdd e (constant S_ .f32 0x00000000#32) reducesTo_S16384x1024_S1024_d0 h_S_) (broadcastInDim S1024 ![] bcast_S_S1024 (constant S_ .f32 0x46800000#32))

/-- The layer's perplexity, out of the shares. -/
def vqPpl (a : Arr F S1024) : Arr F S_ :=
  Host.exp (Host.negf (Host.reduceAdd (mulf a (Host.log (addf a (broadcastInDim S1024 ![] bcast_S_S1024 (constant S_ .f32 0x2EDBE6FF#32))))) (constant S_ .f32 0x00000000#32) reducesTo_S1024_S_d0 h_S_))

/-- The decoder's first transposed convolution, out of its dilated input and its turned weights. -/
def dec1Of (x : Arr F S128x512x259) (w : Arr F S512x512x4) (b : Arr F S512) : Arr F S128x512x256 :=
  addf (addf (addf (addf (addf (broadcastInDim S128x512x256 ![] bcast_S_S128x512x256 (constant S_ .f32 0x00000000#32))
    (transpose S128x512x256 [1, 0, 2] (Host.dotGeneral dot_S512x512_S128x512x256_S512x128x256_1_1_0_02_n_n none (shapeCast _ (extractStridedSlice S512x512x1 ![0, 0, 0] w slices_S512x512x4_S512x512x1_0_0_0) shapeCasts_S512x512x1_S512x512) (extractStridedSlice S128x512x256 ![0, 0, 0] x slices_S128x512x259_S128x512x256_0_0_0)) transposes_S512x128x256_S128x512x256_1_0_2))
    (transpose S128x512x256 [1, 0, 2] (Host.dotGeneral dot_S512x512_S128x512x256_S512x128x256_1_1_0_02_n_n none (shapeCast _ (extractStridedSlice S512x512x1 ![0, 0, 1] w slices_S512x512x4_S512x512x1_0_0_1) shapeCasts_S512x512x1_S512x512) (extractStridedSlice S128x512x256 ![0, 0, 1] x slices_S128x512x259_S128x512x256_0_0_1)) transposes_S512x128x256_S128x512x256_1_0_2))
    (transpose S128x512x256 [1, 0, 2] (Host.dotGeneral dot_S512x512_S128x512x256_S512x128x256_1_1_0_02_n_n none (shapeCast _ (extractStridedSlice S512x512x1 ![0, 0, 2] w slices_S512x512x4_S512x512x1_0_0_2) shapeCasts_S512x512x1_S512x512) (extractStridedSlice S128x512x256 ![0, 0, 2] x slices_S128x512x259_S128x512x256_0_0_2)) transposes_S512x128x256_S128x512x256_1_0_2))
    (transpose S128x512x256 [1, 0, 2] (Host.dotGeneral dot_S512x512_S128x512x256_S512x128x256_1_1_0_02_n_n none (shapeCast _ (extractStridedSlice S512x512x1 ![0, 0, 3] w slices_S512x512x4_S512x512x1_0_0_3) shapeCasts_S512x512x1_S512x512) (extractStridedSlice S128x512x256 ![0, 0, 3] x slices_S128x512x259_S128x512x256_0_0_3)) transposes_S512x128x256_S128x512x256_1_0_2))
    (broadcastInDim S128x512x256 ![0, 1, 2] bcast_S1x512x1_S128x512x256_0_1_2 (broadcastInDim S1x512x1 ![1] bcast_S512_S1x512x1_1 b))

/-- The decoder's input, a zero between neighbours in time and two at both ends. -/
def dilZ (z : Arr F S128x512x128) : Arr F S128x512x259 :=
  pad S128x512x259 ![0, 0, 2] ![0, 0, 2] ![0, 0, 1] z (constant S_ .f32 0x00000000#32) pads_S128x512x128_S128x512x259_000_000_221 h_S_

/-- The first transposed convolution's weights, turned round in time and with channels exchanged. -/
def turn1 (w : Arr F S512x512x4) : Arr F S512x512x4 :=
  transpose S512x512x4 [1, 0, 2] (Host.reverse [2] w) transposes_S512x512x4_S512x512x4_1_0_2

/-- The second transposed convolution's weights, turned round in time and with channels exchanged. -/
def turn2 (w : Arr F S512x263x4) : Arr F S263x512x4 :=
  transpose S263x512x4 [1, 0, 2] (Host.reverse [2] w) transposes_S512x263x4_S263x512x4_1_0_2

/-- The second transposed convolution's input, a zero between neighbours in time and two at both ends. -/
def dilY (y : Arr F S128x512x256) : Arr F S128x512x515 :=
  pad S128x512x515 ![0, 0, 2] ![0, 0, 2] ![0, 0, 1] y (constant S_ .f32 0x00000000#32) pads_S128x512x256_S128x512x515_000_000_221 h_S_

/-- The decoder's second transposed convolution, out of its dilated input and its turned weights. -/
def dec2Of (x : Arr F S128x512x515) (w : Arr F S263x512x4) (b : Arr F S263) : Arr F S128x263x512 :=
  addf (addf (addf (addf (addf (broadcastInDim S128x263x512 ![] bcast_S_S128x263x512 (constant S_ .f32 0x00000000#32))
    (transpose S128x263x512 [1, 0, 2] (Host.dotGeneral dot_S263x512_S128x512x512_S263x128x512_1_1_0_02_n_n none (shapeCast _ (extractStridedSlice S263x512x1 ![0, 0, 0] w slices_S263x512x4_S263x512x1_0_0_0) shapeCasts_S263x512x1_S263x512) (extractStridedSlice S128x512x512 ![0, 0, 0] x slices_S128x512x515_S128x512x512_0_0_0)) transposes_S263x128x512_S128x263x512_1_0_2))
    (transpose S128x263x512 [1, 0, 2] (Host.dotGeneral dot_S263x512_S128x512x512_S263x128x512_1_1_0_02_n_n none (shapeCast _ (extractStridedSlice S263x512x1 ![0, 0, 1] w slices_S263x512x4_S263x512x1_0_0_1) shapeCasts_S263x512x1_S263x512) (extractStridedSlice S128x512x512 ![0, 0, 1] x slices_S128x512x515_S128x512x512_0_0_1)) transposes_S263x128x512_S128x263x512_1_0_2))
    (transpose S128x263x512 [1, 0, 2] (Host.dotGeneral dot_S263x512_S128x512x512_S263x128x512_1_1_0_02_n_n none (shapeCast _ (extractStridedSlice S263x512x1 ![0, 0, 2] w slices_S263x512x4_S263x512x1_0_0_2) shapeCasts_S263x512x1_S263x512) (extractStridedSlice S128x512x512 ![0, 0, 2] x slices_S128x512x515_S128x512x512_0_0_2)) transposes_S263x128x512_S128x263x512_1_0_2))
    (transpose S128x263x512 [1, 0, 2] (Host.dotGeneral dot_S263x512_S128x512x512_S263x128x512_1_1_0_02_n_n none (shapeCast _ (extractStridedSlice S263x512x1 ![0, 0, 3] w slices_S263x512x4_S263x512x1_0_0_3) shapeCasts_S263x512x1_S263x512) (extractStridedSlice S128x512x512 ![0, 0, 3] x slices_S128x512x515_S128x512x512_0_0_3)) transposes_S263x128x512_S128x263x512_1_0_2))
    (broadcastInDim S128x263x512 ![0, 1, 2] bcast_S1x263x1_S128x263x512_0_1_2 (broadcastInDim S1x263x1 ![1] bcast_S263_S1x263x1_1 b))

/-- The four layers' perplexities averaged. -/
def meanPpl (p0 p1 p2 p3 : Arr F S_) : Arr F S1x1 :=
  shapeCast _ (Host.divf (Host.reduceAdd (fourSide (broadcastInDim S1 ![] bcast_S_S1 p0) (broadcastInDim S1 ![] bcast_S_S1 p1) (broadcastInDim S1 ![] bcast_S_S1 p2) (broadcastInDim S1 ![] bcast_S_S1 p3)) (constant S_ .f32 0x00000000#32) reducesTo_S4_S_d0 h_S_) (constant S_ .f32 0x40800000#32)) shapeCasts_S_S1x1

/-- The contents of a buffer in a valuation. -/
abbrev at' (V : Valuation τ sig (Elt F)) (r : Ref sig .tc) := V (Proc.devRef .tc r)

/-! ## Each stretch of operations, read back from any contents -/

set_option maxHeartbeats 4000000

/-- The first hidden layer. -/
theorem read_h1 (V : Valuation τ sig (Elt F)) : after line0 V (Proc.devRef .tc main_v33) =
    leaky256 (enc1Of (padX (at' V main_arg0)) (at' V main_arg1) (at' V main_arg2)) := by
  simp only [line0, TRef.nullary, TRef.unary, TRef.binary, TRef.ternary, TRef.quaternary, TRef.toBuf, TRef.ofBuf, cast_eq, List.cons_append, List.nil_append]
  after_results_simp
  try rfl

/-- The second hidden layer. -/
theorem read_h (V : Valuation τ sig (Elt F)) : after (line1 ++ line2) V (Proc.devRef .tc main_v67) =
    leaky128 (enc2Of (padH (at' V main_v33)) (at' V main_arg3) (at' V main_arg4)) := by
  simp only [line1, line2, TRef.nullary, TRef.unary, TRef.binary, TRef.ternary, TRef.quaternary, TRef.toBuf, TRef.ofBuf, cast_eq, List.cons_append, List.nil_append]
  after_results_simp
  try rfl

/-- The scalar quantiser. -/
theorem read_zfsq (V : Valuation τ sig (Elt F)) : after line3 V (Proc.devRef .tc main_v81) =
    fsqOut (fsqIn (at' V main_v67) (at' V main_arg5) (at' V main_arg6)) (at' V main_arg7) (at' V main_arg8) := by
  simp only [line3, TRef.nullary, TRef.unary, TRef.binary, TRef.ternary, TRef.quaternary, TRef.toBuf, TRef.ofBuf, cast_eq, List.cons_append, List.nil_append]
  after_results_simp
  try rfl

/-- What the scalar quantiser leaves. -/
theorem read_r0 (V : Valuation τ sig (Elt F)) : after line3 V (Proc.devRef .tc main_v82) =
    subf (at' V main_v67) (fsqOut (fsqIn (at' V main_v67) (at' V main_arg5) (at' V main_arg6)) (at' V main_arg7) (at' V main_arg8)) := by
  simp only [line3, TRef.nullary, TRef.unary, TRef.binary, TRef.ternary, TRef.quaternary, TRef.toBuf, TRef.ofBuf, cast_eq, List.cons_append, List.nil_append]
  after_results_simp
  try rfl

/-- The zero array the sum of codewords starts from. -/
theorem read_zero (V : Valuation τ sig (Elt F)) : after line3 V (Proc.devRef .tc main_v83) =
    broadcastInDim S128x512x128 ![] bcast_S_S128x512x128 (constant S_ .f32 0x00000000#32) := by
  simp only [line3, TRef.nullary, TRef.unary, TRef.binary, TRef.ternary, TRef.quaternary, TRef.toBuf, TRef.ofBuf, cast_eq, List.cons_append, List.nil_append]
  after_results_simp
  try rfl

/-- Layer 0: the residual, channels last. -/
theorem read_in0 (V : Valuation τ sig (Elt F)) : after line4 V (Proc.devRef .tc main_v84) =
    vqIn (at' V main_v82) := by
  simp only [line4, TRef.nullary, TRef.unary, TRef.binary, TRef.ternary, TRef.quaternary, TRef.toBuf, TRef.ofBuf, cast_eq, List.cons_append, List.nil_append]
  after_results_simp
  try rfl

/-- Layer 0: the codes. -/
theorem read_enc0 (V : Valuation τ sig (Elt F)) : after line4 V (Proc.devRef .tc main_v101) =
    vqEnc (vqDist (at' V main_v82) (at' V main_arg9)) := by
  simp only [line4, TRef.nullary, TRef.unary, TRef.binary, TRef.ternary, TRef.quaternary, TRef.toBuf, TRef.ofBuf, cast_eq, List.cons_append, List.nil_append]
  after_results_simp
  try rfl

/-- Layer 0: the loss so far. -/
theorem read_loss0 (V : Valuation τ sig (Elt F)) : after (line5 ++ line6) V (Proc.devRef .tc main_v109) =
    addf (constant S_ .f32 0x00000000#32) (vqLoss (at' V main_v84) (vqQ (at' V main_v101) (at' V main_arg9))) := by
  simp only [line5, line6, TRef.nullary, TRef.unary, TRef.binary, TRef.ternary, TRef.quaternary, TRef.toBuf, TRef.ofBuf, cast_eq, List.cons_append, List.nil_append]
  after_results_simp
  try rfl

/-- Layer 0: the perplexity. -/
theorem read_ppl0 (V : Valuation τ sig (Elt F)) : after (line5 ++ line6) V (Proc.devRef .tc main_v121) =
    vqPpl (vqAvg (at' V main_v101)) := by
  simp only [line5, line6, TRef.nullary, TRef.unary, TRef.binary, TRef.ternary, TRef.quaternary, TRef.toBuf, TRef.ofBuf, cast_eq, List.cons_append, List.nil_append]
  after_results_simp
  try rfl

/-- Layer 0: the next residual. -/
theorem read_res0 (V : Valuation τ sig (Elt F)) : after (line5 ++ line6) V (Proc.devRef .tc main_v123) =
    subf (at' V main_v82) (vqOut (at' V main_v84) (vqQ (at' V main_v101) (at' V main_arg9))) := by
  simp only [line5, line6, TRef.nullary, TRef.unary, TRef.binary, TRef.ternary, TRef.quaternary, TRef.toBuf, TRef.ofBuf, cast_eq, List.cons_append, List.nil_append]
  after_results_simp
  try rfl

/-- Layer 0: the sum of codewords so far. -/
theorem read_sum0 (V : Valuation τ sig (Elt F)) : after (line5 ++ line6) V (Proc.devRef .tc main_v124) =
    addf (at' V main_v83) (vqOut (at' V main_v84) (vqQ (at' V main_v101) (at' V main_arg9))) := by
  simp only [line5, line6, TRef.nullary, TRef.unary, TRef.binary, TRef.ternary, TRef.quaternary, TRef.toBuf, TRef.ofBuf, cast_eq, List.cons_append, List.nil_append]
  after_results_simp
  try rfl

/-- Layer 1: the residual, channels last. -/
theorem read_in1 (V : Valuation τ sig (Elt F)) : after line7 V (Proc.devRef .tc main_v125) =
    vqIn (at' V main_v123) := by
  simp only [line7, TRef.nullary, TRef.unary, TRef.binary, TRef.ternary, TRef.quaternary, TRef.toBuf, TRef.ofBuf, cast_eq, List.cons_append, List.nil_append]
  after_results_simp
  try rfl

/-- Layer 1: the codes. -/
theorem read_enc1 (V : Valuation τ sig (Elt F)) : after line7 V (Proc.devRef .tc main_v142) =
    vqEnc (vqDist (at' V main_v123) (at' V main_arg10)) := by
  simp only [line7, TRef.nullary, TRef.unary, TRef.binary, TRef.ternary, TRef.quaternary, TRef.toBuf, TRef.ofBuf, cast_eq, List.cons_append, List.nil_append]
  after_results_simp
  try rfl

/-- Layer 1: the loss so far. -/
theorem read_loss1 (V : Valuation τ sig (Elt F)) : after (line8 ++ line9) V (Proc.devRef .tc main_v150) =
    addf (at' V main_v109) (vqLoss (at' V main_v125) (vqQ (at' V main_v142) (at' V main_arg10))) := by
  simp only [line8, line9, TRef.nullary, TRef.unary, TRef.binary, TRef.ternary, TRef.quaternary, TRef.toBuf, TRef.ofBuf, cast_eq, List.cons_append, List.nil_append]
  after_results_simp
  try rfl

/-- Layer 1: the perplexity. -/
theorem read_ppl1 (V : Valuation τ sig (Elt F)) : after (line8 ++ line9) V (Proc.devRef .tc main_v162) =
    vqPpl (vqAvg (at' V main_v142)) := by
  simp only [line8, line9, TRef.nullary, TRef.unary, TRef.binary, TRef.ternary, TRef.quaternary, TRef.toBuf, TRef.ofBuf, cast_eq, List.cons_append, List.nil_append]
  after_results_simp
  try rfl

/-- Layer 1: the next residual. -/
theorem read_res1 (V : Valuation τ sig (Elt F)) : after (line8 ++ line9) V (Proc.devRef .tc main_v164) =
    subf (at' V main_v123) (vqOut (at' V main_v125) (vqQ (at' V main_v142) (at' V main_arg10))) := by
  simp only [line8, line9, TRef.nullary, TRef.unary, TRef.binary, TRef.ternary, TRef.quaternary, TRef.toBuf, TRef.ofBuf, cast_eq, List.cons_append, List.nil_append]
  after_results_simp
  try rfl

/-- Layer 1: the sum of codewords so far. -/
theorem read_sum1 (V : Valuation τ sig (Elt F)) : after (line8 ++ line9) V (Proc.devRef .tc main_v165) =
    addf (at' V main_v124) (vqOut (at' V main_v125) (vqQ (at' V main_v142) (at' V main_arg10))) := by
  simp only [line8, line9, TRef.nullary, TRef.unary, TRef.binary, TRef.ternary, TRef.quaternary, TRef.toBuf, TRef.ofBuf, cast_eq, List.cons_append, List.nil_append]
  after_results_simp
  try rfl

/-- Layer 2: the residual, channels last. -/
theorem read_in2 (V : Valuation τ sig (Elt F)) : after line10 V (Proc.devRef .tc main_v166) =
    vqIn (at' V main_v164) := by
  simp only [line10, TRef.nullary, TRef.unary, TRef.binary, TRef.ternary, TRef.quaternary, TRef.toBuf, TRef.ofBuf, cast_eq, List.cons_append, List.nil_append]
  after_results_simp
  try rfl

/-- Layer 2: the codes. -/
theorem read_enc2 (V : Valuation τ sig (Elt F)) : after line10 V (Proc.devRef .tc main_v183) =
    vqEnc (vqDist (at' V main_v164) (at' V main_arg11)) := by
  simp only [line10, TRef.nullary, TRef.unary, TRef.binary, TRef.ternary, TRef.quaternary, TRef.toBuf, TRef.ofBuf, cast_eq, List.cons_append, List.nil_append]
  after_results_simp
  try rfl

/-- Layer 2: the loss so far. -/
theorem read_loss2 (V : Valuation τ sig (Elt F)) : after (line11 ++ line12) V (Proc.devRef .tc main_v191) =
    addf (at' V main_v150) (vqLoss (at' V main_v166) (vqQ (at' V main_v183) (at' V main_arg11))) := by
  simp only [line11, line12, TRef.nullary, TRef.unary, TRef.binary, TRef.ternary, TRef.quaternary, TRef.toBuf, TRef.ofBuf, cast_eq, List.cons_append, List.nil_append]
  after_results_simp
  try rfl

/-- Layer 2: the perplexity. -/
theorem read_ppl2 (V : Valuation τ sig (Elt F)) : after (line11 ++ line12) V (Proc.devRef .tc main_v203) =
    vqPpl (vqAvg (at' V main_v183)) := by
  simp only [line11, line12, TRef.nullary, TRef.unary, TRef.binary, TRef.ternary, TRef.quaternary, TRef.toBuf, TRef.ofBuf, cast_eq, List.cons_append, List.nil_append]
  after_results_simp
  try rfl

/-- Layer 2: the next residual. -/
theorem read_res2 (V : Valuation τ sig (Elt F)) : after (line11 ++ line12) V (Proc.devRef .tc main_v205) =
    subf (at' V main_v164) (vqOut (at' V main_v166) (vqQ (at' V main_v183) (at' V main_arg11))) := by
  simp only [line11, line12, TRef.nullary, TRef.unary, TRef.binary, TRef.ternary, TRef.quaternary, TRef.toBuf, TRef.ofBuf, cast_eq, List.cons_append, List.nil_append]
  after_results_simp
  try rfl

/-- Layer 2: the sum of codewords so far. -/
theorem read_sum2 (V : Valuation τ sig (Elt F)) : after (line11 ++ line12) V (Proc.devRef .tc main_v206) =
    addf (at' V main_v165) (vqOut (at' V main_v166) (vqQ (at' V main_v183) (at' V main_arg11))) := by
  simp only [line11, line12, TRef.nullary, TRef.unary, TRef.binary, TRef.ternary, TRef.quaternary, TRef.toBuf, TRef.ofBuf, cast_eq, List.cons_append, List.nil_append]
  after_results_simp
  try rfl

/-- Layer 3: the residual, channels last. -/
theorem read_in3 (V : Valuation τ sig (Elt F)) : after line13 V (Proc.devRef .tc main_v207) =
    vqIn (at' V main_v205) := by
  simp only [line13, TRef.nullary, TRef.unary, TRef.binary, TRef.ternary, TRef.quaternary, TRef.toBuf, TRef.ofBuf, cast_eq, List.cons_append, List.nil_append]
  after_results_simp
  try rfl

/-- Layer 3: the codes. -/
theorem read_enc3 (V : Valuation τ sig (Elt F)) : after line13 V (Proc.devRef .tc main_v224) =
    vqEnc (vqDist (at' V main_v205) (at' V main_arg12)) := by
  simp only [line13, TRef.nullary, TRef.unary, TRef.binary, TRef.ternary, TRef.quaternary, TRef.toBuf, TRef.ofBuf, cast_eq, List.cons_append, List.nil_append]
  after_results_simp
  try rfl

/-- Layer 3: the loss so far. -/
theorem read_loss3 (V : Valuation τ sig (Elt F)) : after line14 V (Proc.devRef .tc main_v232) =
    addf (at' V main_v191) (vqLoss (at' V main_v207) (vqQ (at' V main_v224) (at' V main_arg12))) := by
  simp only [line14, TRef.nullary, TRef.unary, TRef.binary, TRef.ternary, TRef.quaternary, TRef.toBuf, TRef.ofBuf, cast_eq, List.cons_append, List.nil_append]
  after_results_simp
  try rfl

/-- Layer 3: the perplexity. -/
theorem read_ppl3 (V : Valuation τ sig (Elt F)) : after line14 V (Proc.devRef .tc main_v244) =
    vqPpl (vqAvg (at' V main_v224)) := by
  simp only [line14, TRef.nullary, TRef.unary, TRef.binary, TRef.ternary, TRef.quaternary, TRef.toBuf, TRef.ofBuf, cast_eq, List.cons_append, List.nil_append]
  after_results_simp
  try rfl

/-- Layer 3: the next residual. -/
theorem read_res3 (V : Valuation τ sig (Elt F)) : after line14 V (Proc.devRef .tc main_v246) =
    subf (at' V main_v205) (vqOut (at' V main_v207) (vqQ (at' V main_v224) (at' V main_arg12))) := by
  simp only [line14, TRef.nullary, TRef.unary, TRef.binary, TRef.ternary, TRef.quaternary, TRef.toBuf, TRef.ofBuf, cast_eq, List.cons_append, List.nil_append]
  after_results_simp
  try rfl

/-- Layer 3: the sum of codewords so far. -/
theorem read_sum3 (V : Valuation τ sig (Elt F)) : after line14 V (Proc.devRef .tc main_v247) =
    addf (at' V main_v206) (vqOut (at' V main_v207) (vqQ (at' V main_v224) (at' V main_arg12))) := by
  simp only [line14, TRef.nullary, TRef.unary, TRef.binary, TRef.ternary, TRef.quaternary, TRef.toBuf, TRef.ofBuf, cast_eq, List.cons_append, List.nil_append]
  after_results_simp
  try rfl

/-- The decoder's hidden layer. -/
theorem read_y1 (V : Valuation τ sig (Elt F)) : after (line15 ++ line16) V (Proc.devRef .tc main_v284) =
    leaky256 (dec1Of (dilZ (addf (at' V main_v81) (at' V main_v247))) (turn1 (at' V main_arg13)) (at' V main_arg14)) := by
  simp only [line15, line16, TRef.nullary, TRef.unary, TRef.binary, TRef.ternary, TRef.quaternary, TRef.toBuf, TRef.ofBuf, cast_eq, List.cons_append, List.nil_append]
  after_results_simp
  try rfl

/-- The decoder's output. -/
theorem read_y (V : Valuation τ sig (Elt F)) : after (line17 ++ line18) V (Proc.devRef .tc main_v315) =
    dec2Of (dilY (at' V main_v284)) (turn2 (at' V main_arg15)) (at' V main_arg16) := by
  simp only [line17, line18, TRef.nullary, TRef.unary, TRef.binary, TRef.ternary, TRef.quaternary, TRef.toBuf, TRef.ofBuf, cast_eq, List.cons_append, List.nil_append]
  after_results_simp
  try rfl

/-- The loss as a result. -/
theorem read_loss (V : Valuation τ sig (Elt F)) : after line19 V (Proc.devRef .tc main_v323) =
    shapeCast _ (at' V main_v232) shapeCasts_S_S1x1 := by
  simp only [line19, TRef.nullary, TRef.unary, TRef.binary, TRef.ternary, TRef.quaternary, TRef.toBuf, TRef.ofBuf, cast_eq, List.cons_append, List.nil_append]
  after_results_simp
  try rfl

/-- The mean perplexity as a result. -/
theorem read_ppl (V : Valuation τ sig (Elt F)) : after line19 V (Proc.devRef .tc main_v324) =
    meanPpl (at' V main_v121) (at' V main_v162) (at' V main_v203) (at' V main_v244) := by
  simp only [line19, TRef.nullary, TRef.unary, TRef.binary, TRef.ternary, TRef.quaternary, TRef.toBuf, TRef.ofBuf, cast_eq, List.cons_append, List.nil_append]
  after_results_simp
  try rfl

/-! ## What a stretch does not write it keeps -/

theorem keep0 (V : Valuation τ sig (Elt F)) {r : Ref sig .tc} (h : r ∉ outs0) :
    after line0 V (Proc.devRef .tc r) = V (Proc.devRef .tc r) :=
  after_unwritten outs0 rfl h V

theorem keep1 (V : Valuation τ sig (Elt F)) {r : Ref sig .tc} (h : r ∉ outs1) :
    after line1 V (Proc.devRef .tc r) = V (Proc.devRef .tc r) :=
  after_unwritten outs1 rfl h V

theorem keep2 (V : Valuation τ sig (Elt F)) {r : Ref sig .tc} (h : r ∉ outs2) :
    after line2 V (Proc.devRef .tc r) = V (Proc.devRef .tc r) :=
  after_unwritten outs2 rfl h V

theorem keep3 (V : Valuation τ sig (Elt F)) {r : Ref sig .tc} (h : r ∉ outs3) :
    after line3 V (Proc.devRef .tc r) = V (Proc.devRef .tc r) :=
  after_unwritten outs3 rfl h V

theorem keep4 (V : Valuation τ sig (Elt F)) {r : Ref sig .tc} (h : r ∉ outs4) :
    after line4 V (Proc.devRef .tc r) = V (Proc.devRef .tc r) :=
  after_unwritten outs4 rfl h V

theorem keep5 (V : Valuation τ sig (Elt F)) {r : Ref sig .tc} (h : r ∉ outs5) :
    after line5 V (Proc.devRef .tc r) = V (Proc.devRef .tc r) :=
  after_unwritten outs5 rfl h V

theorem keep6 (V : Valuation τ sig (Elt F)) {r : Ref sig .tc} (h : r ∉ outs6) :
    after line6 V (Proc.devRef .tc r) = V (Proc.devRef .tc r) :=
  after_unwritten outs6 rfl h V

theorem keep7 (V : Valuation τ sig (Elt F)) {r : Ref sig .tc} (h : r ∉ outs7) :
    after line7 V (Proc.devRef .tc r) = V (Proc.devRef .tc r) :=
  after_unwritten outs7 rfl h V

theorem keep8 (V : Valuation τ sig (Elt F)) {r : Ref sig .tc} (h : r ∉ outs8) :
    after line8 V (Proc.devRef .tc r) = V (Proc.devRef .tc r) :=
  after_unwritten outs8 rfl h V

theorem keep9 (V : Valuation τ sig (Elt F)) {r : Ref sig .tc} (h : r ∉ outs9) :
    after line9 V (Proc.devRef .tc r) = V (Proc.devRef .tc r) :=
  after_unwritten outs9 rfl h V

theorem keep10 (V : Valuation τ sig (Elt F)) {r : Ref sig .tc} (h : r ∉ outs10) :
    after line10 V (Proc.devRef .tc r) = V (Proc.devRef .tc r) :=
  after_unwritten outs10 rfl h V

theorem keep11 (V : Valuation τ sig (Elt F)) {r : Ref sig .tc} (h : r ∉ outs11) :
    after line11 V (Proc.devRef .tc r) = V (Proc.devRef .tc r) :=
  after_unwritten outs11 rfl h V

theorem keep12 (V : Valuation τ sig (Elt F)) {r : Ref sig .tc} (h : r ∉ outs12) :
    after line12 V (Proc.devRef .tc r) = V (Proc.devRef .tc r) :=
  after_unwritten outs12 rfl h V

theorem keep13 (V : Valuation τ sig (Elt F)) {r : Ref sig .tc} (h : r ∉ outs13) :
    after line13 V (Proc.devRef .tc r) = V (Proc.devRef .tc r) :=
  after_unwritten outs13 rfl h V

theorem keep14 (V : Valuation τ sig (Elt F)) {r : Ref sig .tc} (h : r ∉ outs14) :
    after line14 V (Proc.devRef .tc r) = V (Proc.devRef .tc r) :=
  after_unwritten outs14 rfl h V

theorem keep15 (V : Valuation τ sig (Elt F)) {r : Ref sig .tc} (h : r ∉ outs15) :
    after line15 V (Proc.devRef .tc r) = V (Proc.devRef .tc r) :=
  after_unwritten outs15 rfl h V

theorem keep16 (V : Valuation τ sig (Elt F)) {r : Ref sig .tc} (h : r ∉ outs16) :
    after line16 V (Proc.devRef .tc r) = V (Proc.devRef .tc r) :=
  after_unwritten outs16 rfl h V

theorem keep17 (V : Valuation τ sig (Elt F)) {r : Ref sig .tc} (h : r ∉ outs17) :
    after line17 V (Proc.devRef .tc r) = V (Proc.devRef .tc r) :=
  after_unwritten outs17 rfl h V

theorem keep18 (V : Valuation τ sig (Elt F)) {r : Ref sig .tc} (h : r ∉ outs18) :
    after line18 V (Proc.devRef .tc r) = V (Proc.devRef .tc r) :=
  after_unwritten outs18 rfl h V

theorem keep19 (V : Valuation τ sig (Elt F)) {r : Ref sig .tc} (h : r ∉ outs19) :
    after line19 V (Proc.devRef .tc r) = V (Proc.devRef .tc r) :=
  after_unwritten outs19 rfl h V

end Cert.Ref

end
-- ==== Proof.RefRead.lean ====
module

public import proofs.«01_k».proof.Proof.Gen.ReferenceIdeal
public import proofs.«01_k».proof.Proof.RefStages
public import Idealize.ShloMosaic.Lib.StableHlo.Run
public import Idealize.ShloMosaic.Lib.StableHlo.RunRead
public import Idealize.ShloMosaic.Lib.Pipeline.Frame

@[expose] public section

set_option Elab.async false
set_option maxRecDepth 16384

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-! ## The reference's intermediate arrays, as functions of the contents it starts from -/

/-- The first hidden layer. -/
def h1 (V : Valuation τ sig (Elt F)) : Arr F S128x512x256 :=
  leaky256 (enc1Of (padX (at' V main_arg0)) (at' V main_arg1) (at' V main_arg2))

/-- The second hidden layer. -/
def hid (V : Valuation τ sig (Elt F)) : Arr F S128x512x128 :=
  leaky128 (enc2Of (padH (h1 V)) (at' V main_arg3) (at' V main_arg4))

/-- The scalar quantiser. -/
def fsq (V : Valuation τ sig (Elt F)) : Arr F S128x512x128 :=
  fsqOut (fsqIn (hid V) (at' V main_arg5) (at' V main_arg6)) (at' V main_arg7) (at' V main_arg8)

/-- What the scalar quantiser leaves. -/
def res0 (V : Valuation τ sig (Elt F)) : Arr F S128x512x128 :=
  subf (hid V) (fsq V)

/-- The zero array the sum of codewords starts from. -/
def sum0 (V : Valuation τ sig (Elt F)) : Arr F S128x512x128 :=
  broadcastInDim S128x512x128 ![] bcast_S_S128x512x128 (constant S_ .f32 0x00000000#32)

/-- The zero the loss starts from. -/
def loss0 (V : Valuation τ sig (Elt F)) : Arr F S_ :=
  constant S_ .f32 0x00000000#32

/-- The codes of layer 0. -/
def enc0 (V : Valuation τ sig (Elt F)) : Arr F S16384x1024 :=
  vqEnc (vqDist (res0 V) (at' V main_arg9))

/-- The output of layer 0. -/
def out0 (V : Valuation τ sig (Elt F)) : Arr F S128x512x128 :=
  vqOut (vqIn (res0 V)) (vqQ (enc0 V) (at' V main_arg9))

/-- The residual after layer 0. -/
def res1 (V : Valuation τ sig (Elt F)) : Arr F S128x512x128 :=
  subf (res0 V) (out0 V)

/-- The sum of codewords after layer 0. -/
def sum1 (V : Valuation τ sig (Elt F)) : Arr F S128x512x128 :=
  addf (sum0 V) (out0 V)

/-- The loss after layer 0. -/
def loss1 (V : Valuation τ sig (Elt F)) : Arr F S_ :=
  addf (loss0 V) (vqLoss (vqIn (res0 V)) (vqQ (enc0 V) (at' V main_arg9)))

/-- The perplexity of layer 0. -/
def ppl0 (V : Valuation τ sig (Elt F)) : Arr F S_ :=
  vqPpl (vqAvg (enc0 V))

/-- The codes of layer 1. -/
def enc1 (V : Valuation τ sig (Elt F)) : Arr F S16384x1024 :=
  vqEnc (vqDist (res1 V) (at' V main_arg10))

/-- The output of layer 1. -/
def out1 (V : Valuation τ sig (Elt F)) : Arr F S128x512x128 :=
  vqOut (vqIn (res1 V)) (vqQ (enc1 V) (at' V main_arg10))

/-- The residual after layer 1. -/
def res2 (V : Valuation τ sig (Elt F)) : Arr F S128x512x128 :=
  subf (res1 V) (out1 V)

/-- The sum of codewords after layer 1. -/
def sum2 (V : Valuation τ sig (Elt F)) : Arr F S128x512x128 :=
  addf (sum1 V) (out1 V)

/-- The loss after layer 1. -/
def loss2 (V : Valuation τ sig (Elt F)) : Arr F S_ :=
  addf (loss1 V) (vqLoss (vqIn (res1 V)) (vqQ (enc1 V) (at' V main_arg10)))

/-- The perplexity of layer 1. -/
def ppl1 (V : Valuation τ sig (Elt F)) : Arr F S_ :=
  vqPpl (vqAvg (enc1 V))

/-- The codes of layer 2. -/
def enc2 (V : Valuation τ sig (Elt F)) : Arr F S16384x1024 :=
  vqEnc (vqDist (res2 V) (at' V main_arg11))

/-- The output of layer 2. -/
def out2 (V : Valuation τ sig (Elt F)) : Arr F S128x512x128 :=
  vqOut (vqIn (res2 V)) (vqQ (enc2 V) (at' V main_arg11))

/-- The residual after layer 2. -/
def res3 (V : Valuation τ sig (Elt F)) : Arr F S128x512x128 :=
  subf (res2 V) (out2 V)

/-- The sum of codewords after layer 2. -/
def sum3 (V : Valuation τ sig (Elt F)) : Arr F S128x512x128 :=
  addf (sum2 V) (out2 V)

/-- The loss after layer 2. -/
def loss3 (V : Valuation τ sig (Elt F)) : Arr F S_ :=
  addf (loss2 V) (vqLoss (vqIn (res2 V)) (vqQ (enc2 V) (at' V main_arg11)))

/-- The perplexity of layer 2. -/
def ppl2 (V : Valuation τ sig (Elt F)) : Arr F S_ :=
  vqPpl (vqAvg (enc2 V))

/-- The codes of layer 3. -/
def enc3 (V : Valuation τ sig (Elt F)) : Arr F S16384x1024 :=
  vqEnc (vqDist (res3 V) (at' V main_arg12))

/-- The output of layer 3. -/
def out3 (V : Valuation τ sig (Elt F)) : Arr F S128x512x128 :=
  vqOut (vqIn (res3 V)) (vqQ (enc3 V) (at' V main_arg12))

/-- The residual after layer 3. -/
def res4 (V : Valuation τ sig (Elt F)) : Arr F S128x512x128 :=
  subf (res3 V) (out3 V)

/-- The sum of codewords after layer 3. -/
def sum4 (V : Valuation τ sig (Elt F)) : Arr F S128x512x128 :=
  addf (sum3 V) (out3 V)

/-- The loss after layer 3. -/
def loss4 (V : Valuation τ sig (Elt F)) : Arr F S_ :=
  addf (loss3 V) (vqLoss (vqIn (res3 V)) (vqQ (enc3 V) (at' V main_arg12)))

/-- The perplexity of layer 3. -/
def ppl3 (V : Valuation τ sig (Elt F)) : Arr F S_ :=
  vqPpl (vqAvg (enc3 V))

/-- The hidden layer of the decoder. -/
def y1 (V : Valuation τ sig (Elt F)) : Arr F S128x512x256 :=
  leaky256 (dec1Of (dilZ (addf (fsq V) (sum4 V))) (turn1 (at' V main_arg13)) (at' V main_arg14))

/-- The first result. -/
def y (V : Valuation τ sig (Elt F)) : Arr F S128x263x512 :=
  dec2Of (dilY (y1 V)) (turn2 (at' V main_arg15)) (at' V main_arg16)

/-- The second result. -/
def loss (V : Valuation τ sig (Elt F)) : Arr F S1x1 :=
  shapeCast _ (loss4 V) shapeCasts_S_S1x1

/-- The third result. -/
def ppl (V : Valuation τ sig (Elt F)) : Arr F S1x1 :=
  meanPpl (ppl0 V) (ppl1 V) (ppl2 V) (ppl3 V)

/-- The buffers of the arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

set_option maxHeartbeats 2000000

/-! ## The contents after each stage -/

/-- The contents after stage 0. -/
def w0 (V : Valuation τ sig (Elt F)) : Valuation τ sig (Elt F) := after (line0) (V)
theorem w0_keep (V : Valuation τ sig (Elt F)) {r : Ref sig .tc} (h : r ∉ outs0) :
    w0 V (Proc.devRef .tc r) = (V) (Proc.devRef .tc r) := keep0 _ h
theorem w0_arg (V : Valuation τ sig (Elt F)) {r : Ref sig .tc} (h : r ∈ argRefs) :
    w0 V (Proc.devRef .tc r) = V (Proc.devRef .tc r) :=
  (w0_keep V ((by decide : ∀ r ∈ argRefs, r ∉ outs0) r h))

/-- The contents after stage 1. -/
def w1 (V : Valuation τ sig (Elt F)) : Valuation τ sig (Elt F) := after (line1 ++ line2) (w0 V)
theorem w1_keep (V : Valuation τ sig (Elt F)) {r : Ref sig .tc} (h : r ∉ outs1 ++ outs2) :
    w1 V (Proc.devRef .tc r) = (w0 V) (Proc.devRef .tc r) := by
  have h' := List.mem_append.not.mp h
  push Not at h'
  rw [w1, after_append, keep2 _ h'.2, keep1 _ h'.1]
theorem w1_arg (V : Valuation τ sig (Elt F)) {r : Ref sig .tc} (h : r ∈ argRefs) :
    w1 V (Proc.devRef .tc r) = V (Proc.devRef .tc r) :=
  (w1_keep V ((by decide : ∀ r ∈ argRefs, r ∉ outs1 ++ outs2) r h)).trans (w0_arg V h)

/-- The contents after stage 2. -/
def w2 (V : Valuation τ sig (Elt F)) : Valuation τ sig (Elt F) := after (line3) (w1 V)
theorem w2_keep (V : Valuation τ sig (Elt F)) {r : Ref sig .tc} (h : r ∉ outs3) :
    w2 V (Proc.devRef .tc r) = (w1 V) (Proc.devRef .tc r) := keep3 _ h
theorem w2_arg (V : Valuation τ sig (Elt F)) {r : Ref sig .tc} (h : r ∈ argRefs) :
    w2 V (Proc.devRef .tc r) = V (Proc.devRef .tc r) :=
  (w2_keep V ((by decide : ∀ r ∈ argRefs, r ∉ outs3) r h)).trans (w1_arg V h)

/-- The contents after stage 3. -/
def w3 (V : Valuation τ sig (Elt F)) : Valuation τ sig (Elt F) := after (line4) (w2 V)
theorem w3_keep (V : Valuation τ sig (Elt F)) {r : Ref sig .tc} (h : r ∉ outs4) :
    w3 V (Proc.devRef .tc r) = (w2 V) (Proc.devRef .tc r) := keep4 _ h
theorem w3_arg (V : Valuation τ sig (Elt F)) {r : Ref sig .tc} (h : r ∈ argRefs) :
    w3 V (Proc.devRef .tc r) = V (Proc.devRef .tc r) :=
  (w3_keep V ((by decide : ∀ r ∈ argRefs, r ∉ outs4) r h)).trans (w2_arg V h)

/-- The contents after stage 4. -/
def w4 (V : Valuation τ sig (Elt F)) : Valuation τ sig (Elt F) := after (line5 ++ line6) (w3 V)
theorem w4_keep (V : Valuation τ sig (Elt F)) {r : Ref sig .tc} (h : r ∉ outs5 ++ outs6) :
    w4 V (Proc.devRef .tc r) = (w3 V) (Proc.devRef .tc r) := by
  have h' := List.mem_append.not.mp h
  push Not at h'
  rw [w4, after_append, keep6 _ h'.2, keep5 _ h'.1]
theorem w4_arg (V : Valuation τ sig (Elt F)) {r : Ref sig .tc} (h : r ∈ argRefs) :
    w4 V (Proc.devRef .tc r) = V (Proc.devRef .tc r) :=
  (w4_keep V ((by decide : ∀ r ∈ argRefs, r ∉ outs5 ++ outs6) r h)).trans (w3_arg V h)

/-- The contents after stage 5. -/
def w5 (V : Valuation τ sig (Elt F)) : Valuation τ sig (Elt F) := after (line7) (w4 V)
theorem w5_keep (V : Valuation τ sig (Elt F)) {r : Ref sig .tc} (h : r ∉ outs7) :
    w5 V (Proc.devRef .tc r) = (w4 V) (Proc.devRef .tc r) := keep7 _ h
theorem w5_arg (V : Valuation τ sig (Elt F)) {r : Ref sig .tc} (h : r ∈ argRefs) :
    w5 V (Proc.devRef .tc r) = V (Proc.devRef .tc r) :=
  (w5_keep V ((by decide : ∀ r ∈ argRefs, r ∉ outs7) r h)).trans (w4_arg V h)

/-- The contents after stage 6. -/
def w6 (V : Valuation τ sig (Elt F)) : Valuation τ sig (Elt F) := after (line8 ++ line9) (w5 V)
theorem w6_keep (V : Valuation τ sig (Elt F)) {r : Ref sig .tc} (h : r ∉ outs8 ++ outs9) :
    w6 V (Proc.devRef .tc r) = (w5 V) (Proc.devRef .tc r) := by
  have h' := List.mem_append.not.mp h
  push Not at h'
  rw [w6, after_append, keep9 _ h'.2, keep8 _ h'.1]
theorem w6_arg (V : Valuation τ sig (Elt F)) {r : Ref sig .tc} (h : r ∈ argRefs) :
    w6 V (Proc.devRef .tc r) = V (Proc.devRef .tc r) :=
  (w6_keep V ((by decide : ∀ r ∈ argRefs, r ∉ outs8 ++ outs9) r h)).trans (w5_arg V h)

/-- The contents after stage 7. -/
def w7 (V : Valuation τ sig (Elt F)) : Valuation τ sig (Elt F) := after (line10) (w6 V)
theorem w7_keep (V : Valuation τ sig (Elt F)) {r : Ref sig .tc} (h : r ∉ outs10) :
    w7 V (Proc.devRef .tc r) = (w6 V) (Proc.devRef .tc r) := keep10 _ h
theorem w7_arg (V : Valuation τ sig (Elt F)) {r : Ref sig .tc} (h : r ∈ argRefs) :
    w7 V (Proc.devRef .tc r) = V (Proc.devRef .tc r) :=
  (w7_keep V ((by decide : ∀ r ∈ argRefs, r ∉ outs10) r h)).trans (w6_arg V h)

/-- The contents after stage 8. -/
def w8 (V : Valuation τ sig (Elt F)) : Valuation τ sig (Elt F) := after (line11 ++ line12) (w7 V)
theorem w8_keep (V : Valuation τ sig (Elt F)) {r : Ref sig .tc} (h : r ∉ outs11 ++ outs12) :
    w8 V (Proc.devRef .tc r) = (w7 V) (Proc.devRef .tc r) := by
  have h' := List.mem_append.not.mp h
  push Not at h'
  rw [w8, after_append, keep12 _ h'.2, keep11 _ h'.1]
theorem w8_arg (V : Valuation τ sig (Elt F)) {r : Ref sig .tc} (h : r ∈ argRefs) :
    w8 V (Proc.devRef .tc r) = V (Proc.devRef .tc r) :=
  (w8_keep V ((by decide : ∀ r ∈ argRefs, r ∉ outs11 ++ outs12) r h)).trans (w7_arg V h)

/-- The contents after stage 9. -/
def w9 (V : Valuation τ sig (Elt F)) : Valuation τ sig (Elt F) := after (line13) (w8 V)
theorem w9_keep (V : Valuation τ sig (Elt F)) {r : Ref sig .tc} (h : r ∉ outs13) :
    w9 V (Proc.devRef .tc r) = (w8 V) (Proc.devRef .tc r) := keep13 _ h
theorem w9_arg (V : Valuation τ sig (Elt F)) {r : Ref sig .tc} (h : r ∈ argRefs) :
    w9 V (Proc.devRef .tc r) = V (Proc.devRef .tc r) :=
  (w9_keep V ((by decide : ∀ r ∈ argRefs, r ∉ outs13) r h)).trans (w8_arg V h)

/-- The contents after stage 10. -/
def w10 (V : Valuation τ sig (Elt F)) : Valuation τ sig (Elt F) := after (line14) (w9 V)
theorem w10_keep (V : Valuation τ sig (Elt F)) {r : Ref sig .tc} (h : r ∉ outs14) :
    w10 V (Proc.devRef .tc r) = (w9 V) (Proc.devRef .tc r) := keep14 _ h
theorem w10_arg (V : Valuation τ sig (Elt F)) {r : Ref sig .tc} (h : r ∈ argRefs) :
    w10 V (Proc.devRef .tc r) = V (Proc.devRef .tc r) :=
  (w10_keep V ((by decide : ∀ r ∈ argRefs, r ∉ outs14) r h)).trans (w9_arg V h)

/-- The contents after stage 11. -/
def w11 (V : Valuation τ sig (Elt F)) : Valuation τ sig (Elt F) := after (line15 ++ line16) (w10 V)
theorem w11_keep (V : Valuation τ sig (Elt F)) {r : Ref sig .tc} (h : r ∉ outs15 ++ outs16) :
    w11 V (Proc.devRef .tc r) = (w10 V) (Proc.devRef .tc r) := by
  have h' := List.mem_append.not.mp h
  push Not at h'
  rw [w11, after_append, keep16 _ h'.2, keep15 _ h'.1]
theorem w11_arg (V : Valuation τ sig (Elt F)) {r : Ref sig .tc} (h : r ∈ argRefs) :
    w11 V (Proc.devRef .tc r) = V (Proc.devRef .tc r) :=
  (w11_keep V ((by decide : ∀ r ∈ argRefs, r ∉ outs15 ++ outs16) r h)).trans (w10_arg V h)

/-- The contents after stage 12. -/
def w12 (V : Valuation τ sig (Elt F)) : Valuation τ sig (Elt F) := after (line17 ++ line18) (w11 V)
theorem w12_keep (V : Valuation τ sig (Elt F)) {r : Ref sig .tc} (h : r ∉ outs17 ++ outs18) :
    w12 V (Proc.devRef .tc r) = (w11 V) (Proc.devRef .tc r) := by
  have h' := List.mem_append.not.mp h
  push Not at h'
  rw [w12, after_append, keep18 _ h'.2, keep17 _ h'.1]
theorem w12_arg (V : Valuation τ sig (Elt F)) {r : Ref sig .tc} (h : r ∈ argRefs) :
    w12 V (Proc.devRef .tc r) = V (Proc.devRef .tc r) :=
  (w12_keep V ((by decide : ∀ r ∈ argRefs, r ∉ outs17 ++ outs18) r h)).trans (w11_arg V h)

/-- The contents after stage 13. -/
def w13 (V : Valuation τ sig (Elt F)) : Valuation τ sig (Elt F) := after (line19) (w12 V)
theorem w13_keep (V : Valuation τ sig (Elt F)) {r : Ref sig .tc} (h : r ∉ outs19) :
    w13 V (Proc.devRef .tc r) = (w12 V) (Proc.devRef .tc r) := keep19 _ h
theorem w13_arg (V : Valuation τ sig (Elt F)) {r : Ref sig .tc} (h : r ∈ argRefs) :
    w13 V (Proc.devRef .tc r) = V (Proc.devRef .tc r) :=
  (w13_keep V ((by decide : ∀ r ∈ argRefs, r ∉ outs19) r h)).trans (w12_arg V h)

theorem w0_v33 (V : Valuation τ sig (Elt F)) : w0 V (Proc.devRef .tc main_v33) = h1 V := by
  refine (read_h1 (V)).trans ?_
  try rfl

theorem w1_v67 (V : Valuation τ sig (Elt F)) : w1 V (Proc.devRef .tc main_v67) = hid V := by
  refine (read_h (w0 V)).trans ?_
  simp only [at']
  rw [w0_v33 V, w0_arg V (r := main_arg3) (by decide), w0_arg V (r := main_arg4) (by decide)]
  try rfl

theorem w2_v81 (V : Valuation τ sig (Elt F)) : w2 V (Proc.devRef .tc main_v81) = fsq V := by
  refine (read_zfsq (w1 V)).trans ?_
  simp only [at']
  rw [w1_v67 V, w1_arg V (r := main_arg5) (by decide), w1_arg V (r := main_arg6) (by decide), w1_arg V (r := main_arg7) (by decide), w1_arg V (r := main_arg8) (by decide)]
  try rfl

theorem w2_v82 (V : Valuation τ sig (Elt F)) : w2 V (Proc.devRef .tc main_v82) = res0 V := by
  refine (read_r0 (w1 V)).trans ?_
  simp only [at']
  rw [w1_v67 V, w1_arg V (r := main_arg5) (by decide), w1_arg V (r := main_arg6) (by decide), w1_arg V (r := main_arg7) (by decide), w1_arg V (r := main_arg8) (by decide)]
  try rfl

theorem w2_v83 (V : Valuation τ sig (Elt F)) : w2 V (Proc.devRef .tc main_v83) = sum0 V := by
  refine (read_zero (w1 V)).trans ?_
  rfl

theorem w3_v84 (V : Valuation τ sig (Elt F)) : w3 V (Proc.devRef .tc main_v84) = vqIn (res0 V) := by
  refine (read_in0 (w2 V)).trans ?_
  simp only [at']
  rw [w2_v82 V]
  try rfl

theorem w3_v101 (V : Valuation τ sig (Elt F)) : w3 V (Proc.devRef .tc main_v101) = enc0 V := by
  refine (read_enc0 (w2 V)).trans ?_
  simp only [at']
  rw [w2_v82 V, w2_arg V (r := main_arg9) (by decide)]
  try rfl

theorem w4_v109 (V : Valuation τ sig (Elt F)) : w4 V (Proc.devRef .tc main_v109) = loss1 V := by
  refine (read_loss0 (w3 V)).trans ?_
  simp only [at']
  rw [w3_v84 V, w3_v101 V, w3_arg V (r := main_arg9) (by decide)]
  try rfl

theorem w4_v121 (V : Valuation τ sig (Elt F)) : w4 V (Proc.devRef .tc main_v121) = ppl0 V := by
  refine (read_ppl0 (w3 V)).trans ?_
  simp only [at']
  rw [w3_v101 V]
  try rfl

theorem w4_v123 (V : Valuation τ sig (Elt F)) : w4 V (Proc.devRef .tc main_v123) = res1 V := by
  refine (read_res0 (w3 V)).trans ?_
  simp only [at']
  rw [(w3_keep V (r := main_v82) (by decide)).trans (w2_v82 V), w3_v84 V, w3_v101 V, w3_arg V (r := main_arg9) (by decide)]
  try rfl

theorem w4_v124 (V : Valuation τ sig (Elt F)) : w4 V (Proc.devRef .tc main_v124) = sum1 V := by
  refine (read_sum0 (w3 V)).trans ?_
  simp only [at']
  rw [(w3_keep V (r := main_v83) (by decide)).trans (w2_v83 V), w3_v84 V, w3_v101 V, w3_arg V (r := main_arg9) (by decide)]
  try rfl

theorem w5_v125 (V : Valuation τ sig (Elt F)) : w5 V (Proc.devRef .tc main_v125) = vqIn (res1 V) := by
  refine (read_in1 (w4 V)).trans ?_
  simp only [at']
  rw [w4_v123 V]
  try rfl

theorem w5_v142 (V : Valuation τ sig (Elt F)) : w5 V (Proc.devRef .tc main_v142) = enc1 V := by
  refine (read_enc1 (w4 V)).trans ?_
  simp only [at']
  rw [w4_v123 V, w4_arg V (r := main_arg10) (by decide)]
  try rfl

theorem w6_v150 (V : Valuation τ sig (Elt F)) : w6 V (Proc.devRef .tc main_v150) = loss2 V := by
  refine (read_loss1 (w5 V)).trans ?_
  simp only [at']
  rw [(w5_keep V (r := main_v109) (by decide)).trans (w4_v109 V), w5_v125 V, w5_v142 V, w5_arg V (r := main_arg10) (by decide)]
  try rfl

theorem w6_v162 (V : Valuation τ sig (Elt F)) : w6 V (Proc.devRef .tc main_v162) = ppl1 V := by
  refine (read_ppl1 (w5 V)).trans ?_
  simp only [at']
  rw [w5_v142 V]
  try rfl

theorem w6_v164 (V : Valuation τ sig (Elt F)) : w6 V (Proc.devRef .tc main_v164) = res2 V := by
  refine (read_res1 (w5 V)).trans ?_
  simp only [at']
  rw [(w5_keep V (r := main_v123) (by decide)).trans (w4_v123 V), w5_v125 V, w5_v142 V, w5_arg V (r := main_arg10) (by decide)]
  try rfl

theorem w6_v165 (V : Valuation τ sig (Elt F)) : w6 V (Proc.devRef .tc main_v165) = sum2 V := by
  refine (read_sum1 (w5 V)).trans ?_
  simp only [at']
  rw [(w5_keep V (r := main_v124) (by decide)).trans (w4_v124 V), w5_v125 V, w5_v142 V, w5_arg V (r := main_arg10) (by decide)]
  try rfl

theorem w7_v166 (V : Valuation τ sig (Elt F)) : w7 V (Proc.devRef .tc main_v166) = vqIn (res2 V) := by
  refine (read_in2 (w6 V)).trans ?_
  simp only [at']
  rw [w6_v164 V]
  try rfl

theorem w7_v183 (V : Valuation τ sig (Elt F)) : w7 V (Proc.devRef .tc main_v183) = enc2 V := by
  refine (read_enc2 (w6 V)).trans ?_
  simp only [at']
  rw [w6_v164 V, w6_arg V (r := main_arg11) (by decide)]
  try rfl

theorem w8_v191 (V : Valuation τ sig (Elt F)) : w8 V (Proc.devRef .tc main_v191) = loss3 V := by
  refine (read_loss2 (w7 V)).trans ?_
  simp only [at']
  rw [(w7_keep V (r := main_v150) (by decide)).trans (w6_v150 V), w7_v166 V, w7_v183 V, w7_arg V (r := main_arg11) (by decide)]
  try rfl

theorem w8_v203 (V : Valuation τ sig (Elt F)) : w8 V (Proc.devRef .tc main_v203) = ppl2 V := by
  refine (read_ppl2 (w7 V)).trans ?_
  simp only [at']
  rw [w7_v183 V]
  try rfl

theorem w8_v205 (V : Valuation τ sig (Elt F)) : w8 V (Proc.devRef .tc main_v205) = res3 V := by
  refine (read_res2 (w7 V)).trans ?_
  simp only [at']
  rw [(w7_keep V (r := main_v164) (by decide)).trans (w6_v164 V), w7_v166 V, w7_v183 V, w7_arg V (r := main_arg11) (by decide)]
  try rfl

theorem w8_v206 (V : Valuation τ sig (Elt F)) : w8 V (Proc.devRef .tc main_v206) = sum3 V := by
  refine (read_sum2 (w7 V)).trans ?_
  simp only [at']
  rw [(w7_keep V (r := main_v165) (by decide)).trans (w6_v165 V), w7_v166 V, w7_v183 V, w7_arg V (r := main_arg11) (by decide)]
  try rfl

theorem w9_v207 (V : Valuation τ sig (Elt F)) : w9 V (Proc.devRef .tc main_v207) = vqIn (res3 V) := by
  refine (read_in3 (w8 V)).trans ?_
  simp only [at']
  rw [w8_v205 V]
  try rfl

theorem w9_v224 (V : Valuation τ sig (Elt F)) : w9 V (Proc.devRef .tc main_v224) = enc3 V := by
  refine (read_enc3 (w8 V)).trans ?_
  simp only [at']
  rw [w8_v205 V, w8_arg V (r := main_arg12) (by decide)]
  try rfl

theorem w10_v232 (V : Valuation τ sig (Elt F)) : w10 V (Proc.devRef .tc main_v232) = loss4 V := by
  refine (read_loss3 (w9 V)).trans ?_
  simp only [at']
  rw [(w9_keep V (r := main_v191) (by decide)).trans (w8_v191 V), w9_v207 V, w9_v224 V, w9_arg V (r := main_arg12) (by decide)]
  try rfl

theorem w10_v244 (V : Valuation τ sig (Elt F)) : w10 V (Proc.devRef .tc main_v244) = ppl3 V := by
  refine (read_ppl3 (w9 V)).trans ?_
  simp only [at']
  rw [w9_v224 V]
  try rfl

theorem w10_v246 (V : Valuation τ sig (Elt F)) : w10 V (Proc.devRef .tc main_v246) = res4 V := by
  refine (read_res3 (w9 V)).trans ?_
  simp only [at']
  rw [(w9_keep V (r := main_v205) (by decide)).trans (w8_v205 V), w9_v207 V, w9_v224 V, w9_arg V (r := main_arg12) (by decide)]
  try rfl

theorem w10_v247 (V : Valuation τ sig (Elt F)) : w10 V (Proc.devRef .tc main_v247) = sum4 V := by
  refine (read_sum3 (w9 V)).trans ?_
  simp only [at']
  rw [(w9_keep V (r := main_v206) (by decide)).trans (w8_v206 V), w9_v207 V, w9_v224 V, w9_arg V (r := main_arg12) (by decide)]
  try rfl

theorem w11_v284 (V : Valuation τ sig (Elt F)) : w11 V (Proc.devRef .tc main_v284) = y1 V := by
  refine (read_y1 (w10 V)).trans ?_
  simp only [at']
  rw [(w10_keep V (r := main_v81) (by decide)).trans ((w9_keep V (r := main_v81) (by decide)).trans ((w8_keep V (r := main_v81) (by decide)).trans ((w7_keep V (r := main_v81) (by decide)).trans ((w6_keep V (r := main_v81) (by decide)).trans ((w5_keep V (r := main_v81) (by decide)).trans ((w4_keep V (r := main_v81) (by decide)).trans ((w3_keep V (r := main_v81) (by decide)).trans (w2_v81 V)))))))), w10_v247 V, w10_arg V (r := main_arg13) (by decide), w10_arg V (r := main_arg14) (by decide)]
  try rfl

theorem w12_v315 (V : Valuation τ sig (Elt F)) : w12 V (Proc.devRef .tc main_v315) = y V := by
  refine (read_y (w11 V)).trans ?_
  simp only [at']
  rw [w11_v284 V, w11_arg V (r := main_arg15) (by decide), w11_arg V (r := main_arg16) (by decide)]
  try rfl

theorem w13_v323 (V : Valuation τ sig (Elt F)) : w13 V (Proc.devRef .tc main_v323) = loss V := by
  refine (read_loss (w12 V)).trans ?_
  simp only [at']
  rw [(w12_keep V (r := main_v232) (by decide)).trans ((w11_keep V (r := main_v232) (by decide)).trans (w10_v232 V))]
  try rfl

theorem w13_v324 (V : Valuation τ sig (Elt F)) : w13 V (Proc.devRef .tc main_v324) = ppl V := by
  refine (read_ppl (w12 V)).trans ?_
  simp only [at']
  rw [(w12_keep V (r := main_v121) (by decide)).trans ((w11_keep V (r := main_v121) (by decide)).trans ((w10_keep V (r := main_v121) (by decide)).trans ((w9_keep V (r := main_v121) (by decide)).trans ((w8_keep V (r := main_v121) (by decide)).trans ((w7_keep V (r := main_v121) (by decide)).trans ((w6_keep V (r := main_v121) (by decide)).trans ((w5_keep V (r := main_v121) (by decide)).trans (w4_v121 V)))))))), (w12_keep V (r := main_v162) (by decide)).trans ((w11_keep V (r := main_v162) (by decide)).trans ((w10_keep V (r := main_v162) (by decide)).trans ((w9_keep V (r := main_v162) (by decide)).trans ((w8_keep V (r := main_v162) (by decide)).trans ((w7_keep V (r := main_v162) (by decide)).trans (w6_v162 V)))))), (w12_keep V (r := main_v203) (by decide)).trans ((w11_keep V (r := main_v203) (by decide)).trans ((w10_keep V (r := main_v203) (by decide)).trans ((w9_keep V (r := main_v203) (by decide)).trans (w8_v203 V)))), (w12_keep V (r := main_v244) (by decide)).trans ((w11_keep V (r := main_v244) (by decide)).trans (w10_v244 V))]
  try rfl

/-- The stages one after another are the whole list of operations. -/
theorem after_line (V : Valuation τ sig (Elt F)) : after line V = w13 V := by
  simp only [line, group0, group1, group2, group3, group4, group5, group6, w0, w1, w2, w3, w4, w5, w6, w7, w8, w9, w10, w11, w12, w13, after_append]

/-- The run of the reference: its three results as functions of its arguments, the arguments kept, every counter zero. -/
theorem run_values (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v315) = y (launchContents m c)
      ∧ r.2.mem ((c.tc : Thread nD τ).loc main_v323) = loss (launchContents m c)
      ∧ r.2.mem ((c.tc : Thread nD τ).loc main_v324) = ppl (launchContents m c)
      ∧ ∀ a ∈ argRefs, r.2.mem ((c.tc : Thread nD τ).loc a) = m ((c.tc : Thread nD τ).loc a))
      ∧ r.2.sem = fun _ => 0 :=
  (θ_run defs _ _).mono (fun r h => ⟨fun c => ⟨
      ((h.1 c main_v315).trans (by rw [after_line])).trans ((w13_keep _ (r := main_v315) (by decide)).trans (w12_v315 _)),
      ((h.1 c main_v323).trans (by rw [after_line])).trans (w13_v323 _),
      ((h.1 c main_v324).trans (by rw [after_line])).trans (w13_v324 _),
      fun a ha => ((h.1 c a).trans (by rw [after_line])).trans (w13_arg _ ha)⟩, h.2⟩) (run m ρ)

end Cert.Ref

end
-- ==== Proof.VMath.lean ====
/- Small facts about extended reals, words and folds that the comparison of kernel and reference uses. -/
module

public import Idealize.ShloMosaic.Lib.Pointwise
public import proofs.«01_k».proof.Proof.RefStages

@[expose] public section

set_option maxRecDepth 16384

noncomputable section

namespace Cert.Val

open Idealize.ShloMosaic Idealize.ShloMosaic.TcCoe Idealize.ShloMosaic.Tactic

/-- The leaky rectifier of one number. -/
def lk (a : EReal) : EReal := if 0 ≤ a then a else Ideal.ofBits .f32 1045220557#32 * a

/-- A row padded by one zero in front and zeros behind. -/
def pd {n : ℕ} (f : Fin n → EReal) (t : ℕ) : EReal := if h : 1 ≤ t ∧ t < n + 1 then f ⟨t - 1, by omega⟩ else 0

/-- A word equality read as a number. -/
theorem oneHot (a b : BitVec 32) :
    (FloatOps.sitofp (F := Ideal) .f32 (BitVec.setWidth 32 (IntOp.cmpi .eq a b)) : EReal) = if a = b then 1 else 0 := by
  show (((BitVec.setWidth 32 (BitVec.ofBool (a == b))).toInt : ℝ) : EReal) = _
  by_cases h : a = b
  · have h1 : (a == b) = true := by simpa using h
    rw [if_pos h, h1]
    have : (BitVec.setWidth 32 (BitVec.ofBool true)).toInt = 1 := by decide
    rw [this]; norm_num
  · have h1 : (a == b) = false := by simpa using h
    rw [if_neg h, h1]
    have : (BitVec.setWidth 32 (BitVec.ofBool false)).toInt = 0 := by decide
    rw [this]; norm_num

/-- A word equality read as a number, unsigned. -/
theorem oneHotU (a b : BitVec 32) :
    (FloatOps.uitofp (F := Ideal) .f32 (IntOp.cmpi .eq a b) : EReal) = if a = b then 1 else 0 := by
  show (((BitVec.ofBool (a == b)).toNat : ℝ) : EReal) = _
  by_cases h : a = b
  · have h1 : (a == b) = true := by simpa using h
    rw [if_pos h, h1]
    have : (BitVec.ofBool true).toNat = 1 := by decide
    rw [this]; norm_num
  · have h1 : (a == b) = false := by simpa using h
    rw [if_neg h, h1]
    norm_num

/-- A sum against a selection is the selected value. -/
theorem sel_sum {n : ℕ} (f g : Fin n → EReal) (j : Fin n) (hg : ∀ t, g t = if t = j then 1 else 0) :
    ∑ t, f t * g t = f j := by
  rw [Finset.sum_eq_single j]
  · rw [hg, if_pos rfl, mul_one]
  · intro t _ h; rw [hg, if_neg h, mul_zero]
  · intro h; exact absurd (Finset.mem_univ j) h

/-- A sum against an empty selection is zero. -/
theorem sel_none {n : ℕ} (f g : Fin n → EReal) (hg : ∀ t, g t = 0) : ∑ t, f t * g t = 0 :=
  Finset.sum_eq_zero fun t _ => by rw [hg, mul_zero]

/-- Words of small numbers are equal when the numbers are. -/
theorem ofNat_eq_iff {a b : ℕ} (ha : a < 4294967296) (hb : b < 4294967296) :
    BitVec.ofNat 32 a = BitVec.ofNat 32 b ↔ a = b := by
  constructor
  · intro h
    have := congrArg BitVec.toNat h
    simp only [BitVec.toNat_ofNat] at this
    omega
  · rintro rfl; rfl

/-- A signed minimum over a family: bounded below, and attained. -/
theorem fold_minsi {ι : Type} [DecidableEq ι] (s : Finset ι) (g : ι → BitVec 32) (i m : BitVec 32)
    [Std.Commutative (IntOp.minsi (w := 32))] [Std.Associative (IntOp.minsi (w := 32))]
    (hi : m.toInt ≤ i.toInt) (h : ∀ x ∈ s, m.toInt ≤ (g x).toInt) :
    m.toInt ≤ (Finset.fold IntOp.minsi i g s).toInt ∧ ((∃ x ∈ s, g x = m) → Finset.fold IntOp.minsi i g s = m) := by
  induction s using Finset.induction_on with
  | empty => exact ⟨by simpa using hi, by rintro ⟨x, hx, _⟩; simp at hx⟩
  | insert a s ha ih =>
    obtain ⟨h1, h2⟩ := ih fun x hx => h x (Finset.mem_insert_of_mem hx)
    have h3 := h a (Finset.mem_insert_self a s)
    rw [Finset.fold_insert ha]
    have key : IntOp.minsi (g a) (Finset.fold IntOp.minsi i g s)
        = if (g a).toInt < (Finset.fold IntOp.minsi i g s).toInt then g a else Finset.fold IntOp.minsi i g s := by
      simp only [IntOp.minsi, BitVec.slt, decide_eq_true_eq]
    rw [key]
    constructor
    · split_ifs <;> assumption
    · rintro ⟨x, hx, hxm⟩
      rcases Finset.mem_insert.1 hx with rfl | hx
      · split_ifs with hlt
        · exact hxm
        · rw [hxm] at hlt
          exact BitVec.eq_of_toInt_eq (le_antisymm (not_lt.1 hlt) h1)
      · have := h2 ⟨x, hx, hxm⟩
        rw [this, if_neg (not_lt.2 h3)]

/-- `a` is the first place at which `f` is least. -/
def IsAm (f : Fin 1024 → EReal) (a : Fin 1024) : Prop := (∀ x, f a ≤ f x) ∧ ∀ x, f x = f a → a.val ≤ x.val

/-- There is a first least place. -/
theorem exists_am (f : Fin 1024 → EReal) : ∃ a, IsAm f a := by
  obtain ⟨m, _, hm⟩ := Finset.exists_min_image Finset.univ f ⟨0, Finset.mem_univ _⟩
  have hne : (Finset.univ.filter fun x => f x = f m).Nonempty := ⟨m, by simp⟩
  obtain ⟨a, ha, hmin⟩ := Finset.exists_min_image (Finset.univ.filter fun x => f x = f m) (fun x => x.val) hne
  have ha' : f a = f m := by simpa using ha
  refine ⟨a, fun x => ha' ▸ hm x (Finset.mem_univ x), fun x hx => hmin x ?_⟩
  simp [hx, ha']

/-- A minimum over a family of numbers starting from the top is the least. -/
theorem fold_min_am (f : Fin 1024 → EReal) (a : Fin 1024) (h : IsAm f a) (i : EReal) (hi : i = ⊤) :
    Finset.fold min i f Finset.univ = f a := by
  apply le_antisymm
  · exact (Finset.fold_min_le (f a)).2 (Or.inr ⟨a, Finset.mem_univ a, le_rfl⟩)
  · exact (Finset.le_fold_min (f a)).2 ⟨hi ▸ le_top, fun x _ => h.1 x⟩

/-- The reducer of the reference's least-place search, as a choice. -/
theorem red_eq (a b : EReal × BitVec 32) :
    Cert.ReferenceIdeal.reducer_argmin_f32_i32 (F := Ideal) a b
      = if a.1 < b.1 then a else if a.1 = b.1 ∧ a.2.toInt < b.2.toInt then a else b := by
  obtain ⟨a1, a2⟩ := a
  obtain ⟨b1, b2⟩ := b
  have hs : ∀ (x y : EReal) (u v : BitVec 32), True := fun _ _ _ _ => trivial
  by_cases h1 : a1 < b1
  · simp [Cert.ReferenceIdeal.reducer_argmin_f32_i32, Ideal.cmpf_def, Ideal.cmp, Scalar.select, IntOp.ori, IntOp.andi, IntOp.cmpi, h1, h1.ne]
  · by_cases h2 : a1 = b1
    · subst h2
      by_cases h3 : a2.toInt < b2.toInt
      · simp [Cert.ReferenceIdeal.reducer_argmin_f32_i32, Ideal.cmpf_def, Ideal.cmp, Scalar.select, IntOp.ori, IntOp.andi, IntOp.cmpi, BitVec.slt, h3]
      · simp [Cert.ReferenceIdeal.reducer_argmin_f32_i32, Ideal.cmpf_def, Ideal.cmp, Scalar.select, IntOp.ori, IntOp.andi, IntOp.cmpi, BitVec.slt, h3]
    · simp [Cert.ReferenceIdeal.reducer_argmin_f32_i32, Ideal.cmpf_def, Ideal.cmp, Scalar.select, IntOp.ori, IntOp.andi, IntOp.cmpi, h1, h2]

/-- Pairs in order of value, then of place. -/
def lexLe (T p : EReal × BitVec 32) : Prop := T.1 < p.1 ∨ (T.1 = p.1 ∧ T.2.toInt ≤ p.2.toInt)

/-- The search ends at the least pair of its list. -/
theorem red_fold (T : EReal × BitVec 32) (L : List (EReal × BitVec 32)) (acc : EReal × BitVec 32)
    (ha : lexLe T acc) (hall : ∀ p ∈ L, lexLe T p) (hmem : T = acc ∨ T ∈ L) :
    L.foldl (Cert.ReferenceIdeal.reducer_argmin_f32_i32 (F := Ideal)) acc = T := by
  induction L generalizing acc with
  | nil =>
    rcases hmem with h | h
    · exact h.symm
    · simp at h
  | cons p L ih =>
    rw [List.foldl_cons]
    have hp := hall p (List.mem_cons_self ..)
    have hL : ∀ q ∈ L, lexLe T q := fun q hq => hall q (List.mem_cons_of_mem p hq)
    have e := red_eq acc p
    have hcase : Cert.ReferenceIdeal.reducer_argmin_f32_i32 (F := Ideal) acc p = acc ∨ Cert.ReferenceIdeal.reducer_argmin_f32_i32 (F := Ideal) acc p = p := by
      rw [e]; split_ifs <;> simp
    have hle : lexLe T (Cert.ReferenceIdeal.reducer_argmin_f32_i32 (F := Ideal) acc p) := by
      rcases hcase with h | h <;> rw [h] <;> assumption
    refine ih _ hle hL ?_
    rcases hmem with h | h
    · left
      rw [e]; subst h
      rcases hp with h1 | ⟨h1, h2⟩
      · rw [if_pos h1]
      · rw [if_neg (by rw [h1]; exact lt_irrefl _)]
        by_cases h3 : T.2.toInt < p.2.toInt
        · rw [if_pos ⟨h1, h3⟩]
        · rw [if_neg (fun hh => h3 hh.2)]
          exact Prod.ext h1 (BitVec.eq_of_toInt_eq (le_antisymm h2 (not_lt.1 h3)))
    · rcases List.mem_cons.1 h with h | h
      · left
        rw [e]; subst h
        rcases ha with h1 | ⟨h1, h2⟩
        · rw [if_neg (not_lt.2 h1.le), if_neg (fun hh => h1.ne hh.1.symm)]
        · rw [if_neg (by rw [h1]; exact lt_irrefl _), if_neg (fun hh => absurd hh.2 (not_lt.2 h2))]
      · right; exact h

/-- A number that is not infinite. -/
def Fn (x : EReal) : Prop := ∃ r : ℝ, x = (r : EReal)

theorem Fn.add {x y : EReal} (hx : Fn x) (hy : Fn y) : Fn (x + y) := by
  obtain ⟨a, rfl⟩ := hx; obtain ⟨b, rfl⟩ := hy; exact ⟨a + b, by norm_cast⟩
theorem Fn.sub {x y : EReal} (hx : Fn x) (hy : Fn y) : Fn (x - y) := by
  obtain ⟨a, rfl⟩ := hx; obtain ⟨b, rfl⟩ := hy; exact ⟨a - b, by norm_cast⟩
theorem Fn.mul {x y : EReal} (hx : Fn x) (hy : Fn y) : Fn (x * y) := by
  obtain ⟨a, rfl⟩ := hx; obtain ⟨b, rfl⟩ := hy; exact ⟨a * b, by norm_cast⟩
theorem Fn.zero : Fn 0 := ⟨0, by norm_cast⟩
theorem Fn.one : Fn 1 := ⟨1, by norm_cast⟩
theorem Fn.sum {ι : Type} (s : Finset ι) (f : ι → EReal) (h : ∀ i ∈ s, Fn (f i)) : Fn (∑ i ∈ s, f i) := by
  classical
  induction s using Finset.induction_on with
  | empty => simpa using Fn.zero
  | insert a s ha ih =>
    rw [Finset.sum_insert ha]
    exact (h a (Finset.mem_insert_self a s)).add (ih fun i hi => h i (Finset.mem_insert_of_mem hi))
theorem Fn.round {x : EReal} (hx : Fn x) : Fn (Ideal.liftRound Ideal.roundHalfEven x) := by
  obtain ⟨a, rfl⟩ := hx; exact ⟨_, rfl⟩
theorem Fn.pd {n : ℕ} {f : Fin n → EReal} (h : ∀ i, Fn (f i)) (t : ℕ) : Fn (pd f t) := by
  unfold Val.pd; split_ifs
  · exact h _
  · exact Fn.zero
theorem Fn.lk {x : EReal} (hc : Fn (Ideal.ofBits .f32 1045220557#32)) (hx : Fn x) : Fn (lk x) := by
  unfold Val.lk; split_ifs
  · exact hx
  · exact hc.mul hx

/-- Taking a number away and adding it again. -/
theorem add_sub_self {x y : EReal} (hx : Fn x) (hy : Fn y) : x + (y - x) = y := by
  obtain ⟨a, rfl⟩ := hx; obtain ⟨b, rfl⟩ := hy
  rw [← EReal.coe_sub, ← EReal.coe_add]; congr 1; ring

/-- The rectifier's slope is a number. -/
theorem c02_fin : Fn (Ideal.ofBits .f32 1045220557#32) := by
  simp [Ideal.ofBits, Ideal.ieee, -EReal.coe_mul]
  exact ⟨_, rfl⟩
/-- The pattern of plus infinity. -/
theorem c_inf : Ideal.ofBits .f32 2139095040#32 = ⊤ := by simp [Ideal.ofBits, Ideal.ieee]
/-- The pattern of two. -/
theorem c_two : Ideal.ofBits .f32 1073741824#32 = ((2 : ℝ) : EReal) := by
  simp [Ideal.ofBits, Ideal.ieee, -EReal.coe_mul] <;> norm_num
/-- The pattern of a quarter. -/
theorem c_quarter : Ideal.ofBits .f32 1048576000#32 = ((1 / 4 : ℝ) : EReal) := by
  simp [Ideal.ofBits, Ideal.ieee, -EReal.coe_mul] <;> norm_num
/-- The pattern of four. -/
theorem c_four : Ideal.ofBits .f32 1082130432#32 = ((4 : ℝ) : EReal) := by
  simp [Ideal.ofBits, Ideal.ieee, -EReal.coe_mul] <;> norm_num
/-- The pattern of 16384. -/
theorem c_16384 : Ideal.ofBits .f32 1182793728#32 = ((16384 : ℝ) : EReal) := by
  simp [Ideal.ofBits, Ideal.ieee, -EReal.coe_mul] <;> norm_num
/-- The pattern of 512. -/
theorem c_512 : Ideal.ofBits .f32 1140850688#32 = ((512 : ℝ) : EReal) := by
  simp [Ideal.ofBits, Ideal.ieee, -EReal.coe_mul] <;> norm_num
/-- The pattern of 8388608. -/
theorem c_2p23 : Ideal.ofBits .f32 1258291200#32 = ((8388608 : ℝ) : EReal) := by
  simp [Ideal.ofBits, Ideal.ieee, -EReal.coe_mul] <;> norm_num

/-- A padded row inside. -/
theorem pd_eq {n : ℕ} (f : Fin n → EReal) (t : ℕ) (i : Fin n) (h : t = i.val + 1) : pd f t = f i := by
  have hi := i.isLt
  unfold pd; rw [dif_pos (by omega)]
  exact congrArg f (Fin.ext (by show t - 1 = i.val; omega))
/-- A place of a row, found in the padded row. -/
theorem pd_at {n : ℕ} (f : Fin n → EReal) (t j : ℕ) (hj : j < n) (h : t = j + 1) : f ⟨j, hj⟩ = pd f t :=
  (pd_eq f t ⟨j, hj⟩ h).symm
/-- A padded row outside. -/
theorem pd_out {n : ℕ} (f : Fin n → EReal) (t : ℕ) (h : t = 0 ∨ n + 1 ≤ t) : pd f t = 0 := by
  unfold pd; rw [dif_neg (by omega)]

/-- A convolution of stride two with four taps over a padded row. -/
def conv {m n : ℕ} (w : Fin m → Fin 4 → EReal) (x : Fin m → Fin n → EReal) (u : ℕ) : EReal :=
  ∑ c, w c 0 * pd (x c) (2 * u) + ∑ c, w c 1 * pd (x c) (2 * u + 1) + ∑ c, w c 2 * pd (x c) (2 * u + 2)
    + ∑ c, w c 3 * pd (x c) (2 * u + 3)
/-- A transposed convolution of stride two with four taps, at an even time. -/
def upE {m n : ℕ} (w : Fin m → Fin 4 → EReal) (z : Fin m → Fin n → EReal) (v : ℕ) : EReal :=
  ∑ c, w c 1 * pd (z c) (v + 1) + ∑ c, w c 3 * pd (z c) v
/-- A transposed convolution of stride two with four taps, at an odd time. -/
def upO {m n : ℕ} (w : Fin m → Fin 4 → EReal) (z : Fin m → Fin n → EReal) (v : ℕ) : EReal :=
  ∑ c, w c 2 * pd (z c) (v + 1) + ∑ c, w c 0 * pd (z c) (v + 2)
/-- A transposed convolution of stride two with four taps. -/
def up {m n : ℕ} (w : Fin m → Fin 4 → EReal) (z : Fin m → Fin n → EReal) (t : ℕ) : EReal :=
  if t % 2 = 0 then upE w z (t / 2) else upO w z (t / 2)

/-- A sum over four blocks of 512. -/
theorem sum2048 (f : Fin 2048 → EReal) : ∑ i, f i
    = ∑ x : Fin 512, f ⟨x.val, by omega⟩ + ∑ x : Fin 512, f ⟨512 + x.val, by omega⟩ + ∑ x : Fin 512, f ⟨1024 + x.val, by omega⟩
      + ∑ x : Fin 512, f ⟨1536 + x.val, by omega⟩ := by
  rw [Fin.sum_univ_add (a := 1536) (b := 512) f]
  rw [Fin.sum_univ_add (a := 1024) (b := 512) (fun i => f (Fin.castAdd 512 i))]
  rw [Fin.sum_univ_add (a := 512) (b := 512) (fun i => f (Fin.castAdd 512 (Fin.castAdd 512 i)))]
  rfl

end Cert.Val
end
-- ==== Proof.VRef.lean ====
/- The reference's stages read at an element. -/
module

public import proofs.«01_k».proof.Proof.VMath

@[expose] public section

set_option maxRecDepth 16384

noncomputable section

namespace Cert.Ref

open Cert.ReferenceIdeal Cert.ReferenceIdeal.Gen Idealize.ShloMosaic Idealize.ShloMosaic.TcCoe Idealize.ShloMosaic.Tactic
open Cert.Val

set_option maxHeartbeats 1000000

/-- The zero an unsigned word converts to. -/
theorem sitofp_zero : (FloatOps.sitofp (F := Ideal) .f32 (0#32) : EReal) = 0 := by
  show (((0#32 : BitVec 32).toInt : ℝ) : EReal) = 0
  have : (0#32 : BitVec 32).toInt = 0 := by decide
  rw [this]; norm_num

/-- The first rectifier at an element. -/
theorem leaky256_at (x : Arr Ideal S128x512x256) (i : Fin 128) (o : Fin 512) (u : Fin 256) :
    leaky256 x (ix3 i o u) = lk (x (ix3 i o u)) := by
  pointwise [leaky256]; rfl

/-- The second rectifier at an element. -/
theorem leaky128_at (x : Arr Ideal S128x512x128) (i : Fin 128) (o : Fin 512) (u : Fin 128) :
    leaky128 x (ix3 i o u) = lk (x (ix3 i o u)) := by
  pointwise [leaky128]; rfl

/-- The first convolution at an element. -/
theorem enc1_at (x : Arr Ideal S128x263x512) (w : Arr Ideal S512x263x4) (b : Arr Ideal S512) (i : Fin 128) (o : Fin 512) (u : Fin 256) :
    enc1Of (padX x) w b (ix3 i o u)
      = conv (fun c k => w (ix3 o c k)) (fun c t => x (ix3 i c t)) u.val + b (ix1 o) := by
  have hu := u.isLt
  pointwise [enc1Of, padX]
  unfold conv
  congr 1
  congr 1
  congr 1
  congr 1
  all_goals
    refine Finset.sum_congr rfl fun c _ => congrArg _ ?_
    split_ifs
  all_goals first
    | (rw [sitofp_zero, pd_out]; omega)
    | (refine pd_at (fun t => x (ix3 i c t)) _ _ _ ?_; omega)

/-- The second convolution at an element. -/
theorem enc2_at (x : Arr Ideal S128x512x256) (w : Arr Ideal S512x512x4) (b : Arr Ideal S512) (i : Fin 128) (o : Fin 512) (u : Fin 128) :
    enc2Of (padH x) w b (ix3 i o u)
      = conv (fun c k => w (ix3 o c k)) (fun c t => x (ix3 i c t)) u.val + b (ix1 o) := by
  have hu := u.isLt
  pointwise [enc2Of, padH]
  unfold conv
  congr 1
  congr 1
  congr 1
  congr 1
  all_goals
    refine Finset.sum_congr rfl fun c _ => congrArg _ ?_
    split_ifs
  all_goals first
    | (rw [sitofp_zero, pd_out]; omega)
    | (refine pd_at (fun t => x (ix3 i c t)) _ _ _ ?_; omega)

/-- The first transposed convolution at an element. -/
theorem dec1_at (x : Arr Ideal S128x512x128) (w : Arr Ideal S512x512x4) (b : Arr Ideal S512) (i : Fin 128) (o : Fin 512) (u : Fin 256) :
    dec1Of (dilZ x) (turn1 w) b (ix3 i o u)
      = up (fun c k => w (ix3 c o k)) (fun c t => x (ix3 i c t)) u.val + b (ix1 o) := by
  have hu := u.isLt
  pointwise [dec1Of, dilZ, turn1]
  unfold up upE upO
  congr 1
  by_cases hp : u.val % 2 = 0
  · rw [if_pos hp]
    have e1 : ∀ (f g : Fin 512 → EReal) , (∀ c, g c = 0) → ∑ c, f c * g c = 0 := sel_none
    rw [sel_none _ (fun c => if h : 2 ≤ 1 + u.val ∧ (1 + u.val - 2) % 2 = 0 ∧ (1 + u.val - 2) / 2 < 128 then x (ix3 i c ⟨(1 + u.val - 2) / 2, h.2.2⟩) else 0) (fun c => dif_neg (by omega)),
      sel_none _ (fun c => if h : 2 ≤ 3 + u.val ∧ (3 + u.val - 2) % 2 = 0 ∧ (3 + u.val - 2) / 2 < 128 then x (ix3 i c ⟨(3 + u.val - 2) / 2, h.2.2⟩) else 0) (fun c => dif_neg (by omega)),
      add_zero, add_zero, add_comm]
    congr 1
    all_goals
      refine Finset.sum_congr rfl fun c _ => congrArg₂ _ rfl ?_
      split_ifs
    all_goals first
      | (exfalso; omega)
      | (rw [pd_out]; omega)
      | (refine pd_at (fun t => x (ix3 i c t)) _ _ _ ?_; omega)
  · rw [if_neg hp]
    rw [sel_none _ (fun c => if h : 2 ≤ u.val ∧ (u.val - 2) % 2 = 0 ∧ (u.val - 2) / 2 < 128 then x (ix3 i c ⟨(u.val - 2) / 2, h.2.2⟩) else 0) (fun c => dif_neg (by omega)),
      sel_none _ (fun c => if h : u.val % 2 = 0 ∧ u.val / 2 < 128 then x (ix3 i c ⟨u.val / 2, h.2⟩) else 0) (fun c => dif_neg (by omega)),
      zero_add, add_zero]
    congr 1
    all_goals
      refine Finset.sum_congr rfl fun c _ => congrArg₂ _ rfl ?_
      split_ifs
    all_goals first
      | (exfalso; omega)
      | (rw [pd_out]; omega)
      | (refine pd_at (fun t => x (ix3 i c t)) _ _ _ ?_; omega)

/-- The second transposed convolution at an element. -/
theorem dec2_at (x : Arr Ideal S128x512x256) (w : Arr Ideal S512x263x4) (b : Arr Ideal S263) (i : Fin 128) (o : Fin 263) (u : Fin 512) :
    dec2Of (dilY x) (turn2 w) b (ix3 i o u)
      = up (fun c k => w (ix3 c o k)) (fun c t => x (ix3 i c t)) u.val + b (ix1 o) := by
  have hu := u.isLt
  pointwise [dec2Of, dilY, turn2]
  unfold up upE upO
  congr 1
  by_cases hp : u.val % 2 = 0
  · rw [if_pos hp]
    rw [sel_none _ (fun c => if h : 2 ≤ 1 + u.val ∧ (1 + u.val - 2) % 2 = 0 ∧ (1 + u.val - 2) / 2 < 256 then x (ix3 i c ⟨(1 + u.val - 2) / 2, h.2.2⟩) else 0) (fun c => dif_neg (by omega)),
      sel_none _ (fun c => if h : 2 ≤ 3 + u.val ∧ (3 + u.val - 2) % 2 = 0 ∧ (3 + u.val - 2) / 2 < 256 then x (ix3 i c ⟨(3 + u.val - 2) / 2, h.2.2⟩) else 0) (fun c => dif_neg (by omega)),
      add_zero, add_zero, add_comm]
    congr 1
    all_goals
      refine Finset.sum_congr rfl fun c _ => congrArg₂ _ rfl ?_
      split_ifs
    all_goals first
      | (exfalso; omega)
      | (rw [pd_out]; omega)
      | (refine pd_at (fun t => x (ix3 i c t)) _ _ _ ?_; omega)
  · rw [if_neg hp]
    rw [sel_none _ (fun c => if h : 2 ≤ u.val ∧ (u.val - 2) % 2 = 0 ∧ (u.val - 2) / 2 < 256 then x (ix3 i c ⟨(u.val - 2) / 2, h.2.2⟩) else 0) (fun c => dif_neg (by omega)),
      sel_none _ (fun c => if h : u.val % 2 = 0 ∧ u.val / 2 < 256 then x (ix3 i c ⟨u.val / 2, h.2⟩) else 0) (fun c => dif_neg (by omega)),
      zero_add, add_zero]
    congr 1
    all_goals
      refine Finset.sum_congr rfl fun c _ => congrArg₂ _ rfl ?_
      split_ifs
    all_goals first
      | (exfalso; omega)
      | (rw [pd_out]; omega)
      | (refine pd_at (fun t => x (ix3 i c t)) _ _ _ ?_; omega)

/-- The projected input of the scalar quantiser at an element. -/
theorem fsqIn_at (h : Arr Ideal S128x512x128) (w : Arr Ideal S4x512) (b : Arr Ideal S4) (i : Fin 128) (u : Fin 128) (o : Fin 4) :
    fsqIn h w b (ix3 i u o) = ∑ x, w (ix2 o x) * h (ix3 i x u) + b (ix1 o) := by
  pointwise [fsqIn]

/-- The scalar quantiser's output at an element. -/
theorem fsqOut_at (z : Arr Ideal S128x128x4) (w : Arr Ideal S512x4) (b : Arr Ideal S512) (i : Fin 128) (u : Fin 128) (o : Fin 512) :
    fsqOut z w b (ix3 i o u)
      = ∑ x, w (ix2 o x) * (z (ix3 i u x) + (Ideal.liftRound Ideal.roundHalfEven (z (ix3 i u x)) - z (ix3 i u x))) + b (ix1 o) := by
  pointwise [fsqOut]

end Cert.Ref
end
-- ==== Proof.VVq.lean ====
/- The reference's vector quantiser read at an element. -/
module

public import proofs.«01_k».proof.Proof.VMath

@[expose] public section

set_option maxRecDepth 16384

noncomputable section

namespace Cert.Ref

open Cert.ReferenceIdeal Cert.ReferenceIdeal.Gen Idealize.ShloMosaic Idealize.ShloMosaic.TcCoe Idealize.ShloMosaic.Tactic
open Cert.Val

set_option maxHeartbeats 400000

/-- The distances at an element, by row. -/
theorem vqDist_raw (r : Arr Ideal S128x512x128) (E : Arr Ideal S1024x512) (i : Fin 16384) (n : Fin 1024) :
    vqDist r E (ix2 i n) = ∑ x, r (ix3 ⟨i.val / 128, by have := i.isLt; omega⟩ x ⟨i.val % 128, by omega⟩) * r (ix3 ⟨i.val / 128, by have := i.isLt; omega⟩ x ⟨i.val % 128, by omega⟩) + ∑ x, E (ix2 n x) * E (ix2 n x)
      - ∑ x, Ideal.ofBits .f32 1073741824#32 * r (ix3 ⟨i.val / 128, by have := i.isLt; omega⟩ x ⟨i.val % 128, by omega⟩) * E (ix2 n x) := by
  pointwise [vqDist, vqFlat, vqIn]

/-- The distances at an element. -/
theorem vqDist_at (r : Arr Ideal S128x512x128) (E : Arr Ideal S1024x512) (i : Fin 16384) (n : Fin 1024) (b u : Fin 128)
    (h : i.val = b.val * 128 + u.val) :
    vqDist r E (ix2 i n) = ∑ x, r (ix3 b x u) * r (ix3 b x u) + ∑ x, E (ix2 n x) * E (ix2 n x)
      - ∑ x, Ideal.ofBits .f32 1073741824#32 * r (ix3 b x u) * E (ix2 n x) := by
  have hu := u.isLt
  have key := vqDist_raw r E i n
  rw [show (⟨i.val / 128, by have := i.isLt; omega⟩ : Fin 128) = b from Fin.ext (by show i.val / 128 = b.val; omega),
    show (⟨i.val % 128, by omega⟩ : Fin 128) = u from Fin.ext (by show i.val % 128 = u.val; omega)] at key
  exact key

/-- A row's index forgets its column. -/
theorem drop_at (i : Fin 16384) (n : Fin 1024) : reducesTo_S16384x1024_S16384_d1.drop (ix2 i n) = ix1 i := by
  funext d
  match d with
  | ⟨0, _⟩ => rfl

/-- An index above a row is that row's. -/
theorem fiber_at (D : Arr Ideal S16384x1024) (i : Fin 16384) (p : S16384x1024.Idx) (h : reducesTo_S16384x1024_S16384_d1.drop p = ix1 i) :
    (D p, (iotaInDim S16384x1024 32 1) p) = (D (ix2 i (p 1)), BitVec.ofNat 32 (p 1).val) := by
  have h0 : p 0 = i := congrFun h 0
  have h1 : D p = D (ix2 i (p 1)) := by
    rw [← h0]; exact congrArg D (ix2_eta p).symm
  exact Prod.ext h1 rfl

/-- The pairs a row's search runs over. -/
theorem mem_fiber (D : Arr Ideal S16384x1024) (i : Fin 16384) (p : EReal × BitVec 32) :
    p ∈ Host.argReduceFiber (α := EReal) (β := BitVec 32) (s := S16384x1024) (t := S16384) D (iotaInDim S16384x1024 32 1) reducesTo_S16384x1024_S16384_d1 (ix1 i)
      ↔ ∃ n : Fin 1024, p = (D (ix2 i n), BitVec.ofNat 32 n.val) := by
  unfold Host.argReduceFiber
  rw [List.mem_map]
  constructor
  · rintro ⟨k, hk, rfl⟩
    have hk' := of_decide_eq_true (List.mem_filter.1 hk).2
    generalize S16384x1024.rowMajor.symm k = q at hk'
    exact ⟨q 1, fiber_at D i q hk'⟩
  · rintro ⟨n, rfl⟩
    refine ⟨S16384x1024.rowMajor (ix2 i n), List.mem_filter.2 ⟨List.mem_finRange _, decide_eq_true ?_⟩, ?_⟩
    · rw [Equiv.symm_apply_apply]; exact drop_at i n
    · rw [Equiv.symm_apply_apply]; exact fiber_at D i (ix2 i n) (drop_at i n)

/-- The search, spelled out. -/
theorem vqIdx_eq {F : FTy → Type} [FloatOps F] (d : Arr F S16384x1024) : vqIdx d = (fun j => (Host.argReduce reducer_argmin_f32_i32 d (iotaInDim S16384x1024 32 1) (constant S_ .f32 0x7F800000#32) (constantI S_ 32 0#32) reducesTo_S16384x1024_S16384_d1 h_S_ j).2) := rfl

/-- What a search over infinities starts from. -/
theorem start_top : (constant (F := Ideal) S_ .f32 0x7F800000#32) (Shape.Idx.first h_S_) = (⊤ : EReal) := c_inf

/-- The place a search starts from. -/
theorem start_zero : (constantI S_ 32 0#32) (Shape.Idx.first h_S_) = 0#32 := rfl

/-- A least-place search without repeated infinities is a fold over its pairs. -/
theorem fold_gen {s t u : Shape} {axes : List (Fin s.rank)} (f : EReal × BitVec 32 → EReal × BitVec 32 → EReal × BitVec 32)
    (x : FVec Ideal s .f32) (y : s.Idx → BitVec 32) (ix : u.Idx → Ideal .f32) (iy : u.Idx → BitVec 32) (h : s.ReducesTo axes t) (hu : 0 < u.numel) (j : t.Idx)
    (a : EReal) (c : BitVec 32) (ha : ix (Shape.Idx.first hu) = a) (hc : iy (Shape.Idx.first hu) = c) :
    (Host.argReduce (φ := .f32) (F := Ideal) f x y ix iy h hu j).2 = ((Host.argReduceFiber x y h j).foldl f (a, c)).2 := by
  subst ha hc
  rw [Ideal.argReduce_eq_reduce2, Host.reduce2_eq_foldl_fiber]

/-- The search of a row is a fold over its pairs. -/
theorem vqIdx_fold (D : Arr Ideal S16384x1024) (i : Fin 16384) :
    vqIdx D (ix1 i) = ((Host.argReduceFiber (α := EReal) (β := BitVec 32) (s := S16384x1024) (t := S16384) D (iotaInDim S16384x1024 32 1) reducesTo_S16384x1024_S16384_d1 (ix1 i)).foldl
      (reducer_argmin_f32_i32 (F := Ideal)) ((⊤ : EReal), 0#32)).2 :=
  (congrFun (vqIdx_eq (F := Ideal) D) (ix1 i)).trans
    (fold_gen (reducer_argmin_f32_i32 (F := Ideal)) D (iotaInDim S16384x1024 32 1) (constant (F := Ideal) S_ .f32 0x7F800000#32) (constantI S_ 32 0#32) reducesTo_S16384x1024_S16384_d1 h_S_ (ix1 i) ⊤ 0#32 start_top start_zero)

/-- The place of least distance. -/
theorem vqIdx_at (D : Arr Ideal S16384x1024) (i : Fin 16384) (a : Fin 1024) (h : IsAm (fun n => D (ix2 i n)) a) :
    vqIdx D (ix1 i) = BitVec.ofNat 32 a.val := by
  have hint : ∀ n : Fin 1024, (BitVec.ofNat 32 n.val).toInt = n.val := by
    intro n
    have := n.isLt
    rw [BitVec.toInt_eq_toNat_of_lt] <;> simp only [BitVec.toNat_ofNat] <;> omega
  have hmem := mem_fiber D i
  rw [vqIdx_fold]
  generalize Host.argReduceFiber (α := EReal) (β := BitVec 32) (s := S16384x1024) (t := S16384) D (iotaInDim S16384x1024 32 1) reducesTo_S16384x1024_S16384_d1 (ix1 i) = L at hmem ⊢
  refine congrArg Prod.snd (red_fold (D (ix2 i a), BitVec.ofNat 32 a.val) L ((⊤ : EReal), 0#32) ?_ ?_ ?_)
  · rcases lt_or_eq_of_le (le_top : (D (ix2 i a) : EReal) ≤ ⊤) with hlt | heq
    · exact Or.inl hlt
    · refine Or.inr ⟨heq, ?_⟩
      have h0 := h.2 ⟨0, by norm_num⟩ (le_antisymm (heq ▸ le_top) (h.1 _))
      have ha0 : a.val = 0 := by simpa using h0
      rw [ha0]
  · intro p hp
    obtain ⟨n, rfl⟩ := (hmem p).1 hp
    rcases (h.1 n).lt_or_eq with hlt | heq
    · exact Or.inl hlt
    · exact Or.inr ⟨heq, by rw [hint, hint]; exact_mod_cast h.2 n heq.symm⟩
  · exact Or.inr ((hmem _).2 ⟨a, rfl⟩)

/-- The code read off a row's index. -/
theorem enc_raw (vi : (⟨S16384, .i32⟩ : BufTy).Contents (Elt Ideal)) (i : Fin 16384) (n : Fin 1024) :
    (uitofp .f32 (cmpi .eq (broadcastInDim S16384x1024 ![0, 1] bcast_S16384x1_S16384x1024_0_1 (broadcastInDim S16384x1 ![0] bcast_S16384_S16384x1_0 vi)) (broadcastInDim S16384x1024 ![0, 1] bcast_S1x1024_S16384x1024_0_1 (iotaInDim S1x1024 32 1))) : FVec Ideal S16384x1024 .f32) (ix2 i n)
      = FloatOps.uitofp (F := Ideal) .f32 (IntOp.cmpi .eq (vi (ix1 i)) (BitVec.ofNat 32 n.val)) := by
  pointwise []

/-- A row's one-hot code at an element. -/
theorem vqEnc_at (D : Arr Ideal S16384x1024) (i : Fin 16384) (n a : Fin 1024) (h : IsAm (fun n => D (ix2 i n)) a) :
    vqEnc D (ix2 i n) = if n = a then 1 else 0 := by
  have ha := a.isLt
  have hn := n.isLt
  have h1 := vqIdx_at D i a h
  refine (enc_raw (vqIdx D) i n).trans ?_
  rw [h1, oneHotU]
  simp only [ofNat_eq_iff (show a.val < 4294967296 by omega) (show n.val < 4294967296 by omega)]
  by_cases hh : n = a
  · subst hh; simp
  · rw [if_neg hh, if_neg (fun e => hh (Fin.ext e.symm))]

/-- A row's codeword at an element. -/
theorem vqQ_at (e : Arr Ideal S16384x1024) (E : Arr Ideal S1024x512) (b u : Fin 128) (c : Fin 512) :
    vqQ e E (ix3 b u c) = ∑ x, e (ix2 ⟨b.val * 128 + u.val, by have := b.isLt; have := u.isLt; omega⟩ x) * E (ix2 x c) := by
  pointwise [vqQ]

/-- A layer's output at an element. -/
theorem vqOut_at (r : Arr Ideal S128x512x128) (q : Arr Ideal S128x128x512) (b u : Fin 128) (c : Fin 512) :
    vqOut (vqIn r) q (ix3 b c u) = r (ix3 b c u) + (q (ix3 b u c) - r (ix3 b c u)) := by
  pointwise [vqOut, vqIn]

end Cert.Ref
end
-- ==== Proof.VLay.lean ====
/- The kernel's quantiser layers read at an element. -/
module
public import proofs.«01_k».proof.Proof.VMath
public import proofs.«01_k».proof.Proof.KiStep
@[expose] public section
set_option maxRecDepth 16384
noncomputable section
namespace Cert.KernelIdeal.Own
open Idealize.ShloMosaic Idealize.ShloMosaic.TcCoe Idealize.ShloMosaic.Tactic
open Cert.KernelIdeal Cert.KernelIdeal.Gen
open Cert.Val
set_option maxHeartbeats 1000000

variable (X : Ins Ideal) (S : Sc Ideal)

/-- A layer's table of distances. -/
def kD (r : FVec Ideal S512x128 .f32) (E : FVec Ideal S1024x512 .f32) (e : FVec Ideal S1024x1 .f32) : FVec Ideal S1024x128 .f32 :=
  subf (addf (broadcastTo S1024x128 (shapeCast S1x128 (multiReduction .add [0] S128 (mulf r r) 0x00000000#32 reduces_S512x128_S128 (.inl rfl) rfl) shapeCasts_S128_S1x128) broadcasts_S1x128_S1024x128)
      (broadcastTo S1024x128 e broadcasts_S1024x1_S1024x128))
    (mulf (broadcast S1024x128 (Scalar.ofBits .f32 0x40000000#32))
      (matmul dot_S1024x512_S512x128_S1024x128_1_0_0_1_n_n none E r (constant S1024x128 .f32 0x00000000#32)))

/-- The first layer's distances. -/
theorem k114_eq : k114 X S = kD (k100 X S) X.x12 (col 0 S.esq) := rfl
/-- The second residual. -/
theorem k130_eq : k130 X S = k0_pay26 (k100 X S) iot (kD (k100 X S) X.x12 (col 0 S.esq)) X.x16 := rfl
/-- The third residual, of any second one. -/
theorem pay32_eq (r : FVec Ideal S512x128 .f32) (D1 D2 : FVec Ideal S1024x128 .f32) (T : FVec Ideal S512x1024 .f32) :
    k0_pay32 iot r D1 D2 T = k0_pay26 r iot (subf D1 D2) T := rfl
/-- The fourth residual, of any third one. -/
theorem pay38_eq (r : FVec Ideal S512x128 .f32) (D1 D2 : FVec Ideal S1024x128 .f32) (T : FVec Ideal S512x1024 .f32) :
    k0_pay38 iot r D2 D1 two T = k0_pay26 r iot (subf D1 (mulf (broadcast S1024x128 two) D2)) T := rfl
/-- The last residual, of any fourth one. -/
theorem pay45_eq (r : FVec Ideal S512x128 .f32) (D1 D2 D3 : FVec Ideal S1024x128 .f32) (T : FVec Ideal S512x1024 .f32) :
    k0_pay45 iot r D1 D2 D3 T = k0_pay26 r iot (subf (addf D2 D3) (mulf (broadcast S1024x128 two) D1)) T := rfl
/-- The second layer's distances. -/
theorem d2_eq : subf (k152 X S) (k154 X S) = kD (k130 X S) X.x13 (col 1 S.esq) := rfl
/-- The third residual. -/
theorem k171_eq : k171 X S = k0_pay26 (k130 X S) iot (kD (k130 X S) X.x13 (col 1 S.esq)) X.x17 := by
  unfold k171; rw [pay32_eq, d2_eq]
/-- The third layer's distances. -/
theorem d3_eq : subf (k193 X S) (mulf (broadcast S1024x128 two) (k186 X S)) = kD (k171 X S) X.x14 (col 2 S.esq) := rfl
/-- The fourth residual. -/
theorem k212_eq : k212 X S = k0_pay26 (k171 X S) iot (kD (k171 X S) X.x14 (col 2 S.esq)) X.x18 := by
  unfold k212; rw [pay38_eq, d3_eq]
/-- The fourth layer's distances. -/
theorem d4_eq : subf (addf (k232 X S) (k233 S)) (mulf (broadcast S1024x128 two) (k227 X S)) = kD (k212 X S) X.x15 (col 3 S.esq) := rfl
/-- The last residual. -/
theorem r4_eq : k0_pay45 iot (k212 X S) (k227 X S) (k232 X S) (k233 S) X.x19 = k0_pay26 (k212 X S) iot (kD (k212 X S) X.x15 (col 3 S.esq)) X.x19 := by
  rw [pay45_eq, d4_eq]
/-- What the decoder is given. -/
theorem k272_eq : k272 X S = subf (k61 X S) (k0_pay26 (k212 X S) iot (kD (k212 X S) X.x15 (col 3 S.esq)) X.x19) := by
  rw [← r4_eq]; rfl

/-- A row's number. -/
theorem iot_at (o : Fin 1024) (u : Fin 128) : iot (ix2 o u) = BitVec.ofNat 32 o.val := by
  pointwise [iot]

/-- Distances at an element. -/
theorem kD_at (r : FVec Ideal S512x128 .f32) (E : FVec Ideal S1024x512 .f32) (e : FVec Ideal S1024x1 .f32) (n : Fin 1024) (u : Fin 128) :
    kD r E e (ix2 n u) = ∑ x, r (ix2 x u) * r (ix2 x u) + e (ix2 n 0) - Ideal.ofBits .f32 1073741824#32 * ∑ x, E (ix2 n x) * r (ix2 x u) := by
  pointwise [kD]

/-- The search, read at an element. -/
theorem pay25_raw (D : FVec Ideal S1024x128 .f32) (o : Fin 1024) (u : Fin 128) :
    k0_pay25 iot D (ix2 o u) = FloatOps.sitofp (F := Ideal) .f32 (BitVec.setWidth 32 (IntOp.cmpi .eq (iot (ix2 o u))
      (Finset.fold IntOp.minsi 2147483647#32 (fun x => if D (ix2 x u) = Finset.fold min (Ideal.ofBits .f32 2139095040#32) (fun x => D (ix2 x u)) Finset.univ then iot (ix2 x u) else 1024#32) Finset.univ))) := by
  generalize iot = it
  pointwise [k0_pay25]

/-- The code at an element. -/
theorem pay25_at (D : FVec Ideal S1024x128 .f32) (n a : Fin 1024) (u : Fin 128) (h : IsAm (fun n => D (ix2 n u)) a) :
    k0_pay25 iot D (ix2 n u) = if n = a then 1 else 0 := by
  have ha := a.isLt
  have hn := n.isLt
  have hint : ∀ k : ℕ, k < 1025 → (BitVec.ofNat 32 k).toInt = k := by
    intro k hk
    rw [BitVec.toInt_eq_toNat_of_lt] <;> simp only [BitVec.toNat_ofNat] <;> omega
  rw [pay25_raw, fold_min_am _ a h _ c_inf, oneHot, iot_at]
  have hf : Finset.fold IntOp.minsi 2147483647#32 (fun x : Fin 1024 => if D (ix2 x u) = D (ix2 a u) then iot (ix2 x u) else 1024#32) Finset.univ = BitVec.ofNat 32 a.val := by
    refine (fold_minsi Finset.univ _ _ (BitVec.ofNat 32 a.val) ?_ ?_).2 ⟨a, Finset.mem_univ a, ?_⟩
    · rw [hint _ (by omega)]
      have : (2147483647#32 : BitVec 32).toInt = 2147483647 := by decide
      rw [this]; omega
    · intro x _
      have hx := x.isLt
      rw [hint _ (by omega)]
      split_ifs with hh
      · rw [iot_at, hint _ (by omega)]; exact_mod_cast h.2 x hh
      · have : (1024#32 : BitVec 32).toInt = 1024 := by decide
        rw [this]; omega
    · rw [if_pos rfl, iot_at]
  rw [hf]
  simp only [ofNat_eq_iff (show n.val < 4294967296 by omega) (show a.val < 4294967296 by omega), Fin.ext_iff]

/-- A residual at an element. -/
theorem pay26_at (r : FVec Ideal S512x128 .f32) (D : FVec Ideal S1024x128 .f32) (T : FVec Ideal S512x1024 .f32) (c : Fin 512) (u : Fin 128) (a : Fin 1024)
    (h : IsAm (fun n => D (ix2 n u)) a) :
    k0_pay26 r iot D T (ix2 c u) = r (ix2 c u) - T (ix2 c a) := by
  have key : k0_pay26 r iot D T (ix2 c u) = r (ix2 c u) - ∑ x, T (ix2 c x) * k0_pay25 iot D (ix2 x u) := by
    generalize hk : k0_pay25 iot D = k
    unfold k0_pay26
    rw [hk]
    pointwise []
  rw [key, sel_sum _ _ a fun n => pay25_at D n a u h]

end Cert.KernelIdeal.Own

end
-- ==== Proof.VDec.lean ====
/- The kernel's decoder read at an element. -/
module
public import proofs.«01_k».proof.Proof.VMath
public import proofs.«01_k».proof.Proof.KiStep
@[expose] public section
set_option maxRecDepth 16384
noncomputable section
namespace Cert.KernelIdeal.Own
open Idealize.ShloMosaic Idealize.ShloMosaic.TcCoe Idealize.ShloMosaic.Tactic
open Cert.KernelIdeal Cert.KernelIdeal.Gen
open Cert.Val
set_option maxHeartbeats 1000000

/-- The even rectified half of the decoder's hidden values. -/
theorem pay49_at (z : FVec Ideal S512x128 .f32) (w : FVec Ideal S512x1024 .f32) (b : FVec Ideal S512x1 .f32) (W : Fin 512 → Fin 512 → Fin 4 → EReal)
    (h1 : ∀ (o x : Fin 512), w (ix2 o ⟨x.val, by omega⟩) = W x o 1) (h3 : ∀ (o x : Fin 512), w (ix2 o ⟨512 + x.val, by omega⟩) = W x o 3) (o : Fin 512) (u : Fin 128) :
    k0_pay49 z w b (ix2 o u) = lk (upE (fun c k => W c o k) (fun c t => z (ix2 c t)) u.val + b (ix2 o 0)) := by
  have hu := u.isLt
  pointwise [k0_pay49]
  refine congrArg lk ?_
  unfold upE
  congr 1
  congr 1
  · refine Finset.sum_congr rfl fun c _ => congrArg₂ _ (h1 o c) ?_
    exact (pd_eq (fun t => z (ix2 c t)) _ u rfl).symm
  · refine Finset.sum_congr rfl fun c _ => congrArg₂ _ (h3 o c) ?_
    split_ifs
    all_goals first
      | (rename_i hh; exact absurd rfl hh)
      | (rw [pd_out] <;> omega)
      | (refine pd_at (fun t => z (ix2 c t)) _ _ _ ?_; omega)

/-- The odd rectified half of the decoder's hidden values. -/
theorem pay50_at (z : FVec Ideal S512x128 .f32) (w : FVec Ideal S512x1024 .f32) (b : FVec Ideal S512x1 .f32) (W : Fin 512 → Fin 512 → Fin 4 → EReal)
    (h1 : ∀ (o x : Fin 512), w (ix2 o ⟨x.val, by omega⟩) = W x o 2) (h3 : ∀ (o x : Fin 512), w (ix2 o ⟨512 + x.val, by omega⟩) = W x o 0) (o : Fin 512) (u : Fin 128) :
    k0_pay50 z w b (ix2 o u) = lk (upO (fun c k => W c o k) (fun c t => z (ix2 c t)) u.val + b (ix2 o 0)) := by
  have hu := u.isLt
  pointwise [k0_pay50]
  refine congrArg lk ?_
  unfold upO
  congr 1
  congr 1
  · refine Finset.sum_congr rfl fun c _ => congrArg₂ _ (h1 o c) ?_
    exact (pd_eq (fun t => z (ix2 c t)) _ u rfl).symm
  · refine Finset.sum_congr rfl fun c _ => congrArg₂ _ (h3 o c) ?_
    split_ifs
    all_goals first
      | (rename_i hh; exact absurd rfl hh)
      | (rw [pd_out] <;> omega)
      | (refine pd_at (fun t => z (ix2 c t)) _ _ _ ?_; omega)

/-- Two halves interleaved in time. -/
def ilv (e o : FVec Ideal S512x128 .f32) (c : Fin 512) (v : Fin 256) : EReal :=
  if v.val % 2 = 0 then e (ix2 c ⟨v.val / 2, by omega⟩) else o (ix2 c ⟨v.val / 2, by omega⟩)

/-- The interleaved halves at an even time. -/
theorem ilv_e (e o : FVec Ideal S512x128 .f32) (c : Fin 512) (t j : ℕ) (hj : j < 128) (h : t = 2 * j + 1) :
    e (ix2 c ⟨j, hj⟩) = pd (ilv e o c) t := by
  rw [pd_eq (ilv e o c) t ⟨2 * j, by omega⟩ h]
  unfold ilv
  rw [if_pos (by show 2 * j % 2 = 0; omega)]
  congr 3; show j = 2 * j / 2; omega

/-- The interleaved halves at an odd time. -/
theorem ilv_o (e o : FVec Ideal S512x128 .f32) (c : Fin 512) (t j : ℕ) (hj : j < 128) (h : t = 2 * j + 2) :
    o (ix2 c ⟨j, hj⟩) = pd (ilv e o c) t := by
  rw [pd_eq (ilv e o c) t ⟨2 * j + 1, by omega⟩ h]
  unfold ilv
  rw [if_neg (by show ¬ (2 * j + 1) % 2 = 0; omega)]
  congr 3; show j = (2 * j + 1) / 2; omega

/-- Where a row of the even selection points. -/
def rowA (x : ℕ) : ℕ := if x < 128 then 4 * x else 4 * (x - 128) + 2

/-- The even selection's words. -/
theorem wordA : ∀ x : Fin 256, Scalar.select (IntOp.cmpi CmpIPredicate.slt (BitVec.ofNat 32 x.val) 128#32)
    (IntOp.muli (4#32) (BitVec.ofNat 32 x.val)) (IntOp.addi (IntOp.muli (4#32) (IntOp.subi (BitVec.ofNat 32 x.val) 128#32)) 2#32)
      = BitVec.ofNat 32 (rowA x.val) := by decide

/-- The odd selection's words. -/
theorem wordB : ∀ x : Fin 256, Scalar.select (IntOp.cmpi CmpIPredicate.slt (BitVec.ofNat 32 x.val) 128#32)
    (IntOp.addi (IntOp.muli (4#32) (BitVec.ofNat 32 x.val)) 1#32) (IntOp.addi (IntOp.muli (4#32) (IntOp.subi (BitVec.ofNat 32 x.val) 128#32)) 3#32)
      = BitVec.ofNat 32 (rowA x.val + 1) := by decide

/-- The even selection. -/
theorem ra_at (x : Fin 256) (t : Fin 512) : k0_pay16 (F := Ideal) (ix2 x t) = if rowA x.val = t.val then 1 else 0 := by
  have hx := x.isLt
  have ht := t.isLt
  have hr : rowA x.val < 512 := by unfold rowA; split_ifs <;> omega
  pointwise [k0_pay16]
  rw [oneHot, wordA]
  simp only [ofNat_eq_iff (show rowA x.val < 4294967296 by omega) (show t.val < 4294967296 by omega)]

/-- The odd selection. -/
theorem rb_at (x : Fin 256) (t : Fin 512) : k0_pay18 (F := Ideal) k0_pay17 (ix2 x t) = if rowA x.val + 1 = t.val then 1 else 0 := by
  have hx := x.isLt
  have ht := t.isLt
  have hr : rowA x.val < 512 := by unfold rowA; split_ifs <;> omega
  pointwise [k0_pay18, k0_pay17]
  rw [oneHot, wordB]
  simp only [ofNat_eq_iff (show rowA x.val + 1 < 4294967296 by omega) (show t.val < 4294967296 by omega)]

/-- The first product of the last layer. -/
theorem pay51_at (z : FVec Ideal S512x128 .f32) (w1 w2 : FVec Ideal S512x1024 .f32) (b1 b2 : FVec Ideal S512x1 .f32) (w : FVec Ideal S263x1024 .f32) (o : Fin 263) (u : Fin 256) (W : Fin 512 → Fin 263 → Fin 4 → EReal)
    (h1 : ∀ (o : Fin 263) (x : Fin 512), w (ix2 o ⟨x.val, by omega⟩) = W x o 1) (h3 : ∀ (o : Fin 263) (x : Fin 512), w (ix2 o ⟨512 + x.val, by omega⟩) = W x o 3) :
    k0_pay51 z w1 b1 w2 b2 w (ix2 o u) = upE (fun c k => W c o k) (ilv (k0_pay49 z w1 b1) (k0_pay50 z w2 b2)) (rowA u.val / 2) := by
  have hu := u.isLt
  generalize h : k0_pay49 (F := Ideal) z w1 b1 = k
  generalize h' : k0_pay50 (F := Ideal) z w2 b2 = k'
  unfold k0_pay51
  rw [h, h']
  pointwise []
  unfold upE rowA
  congr 1
  · refine Finset.sum_congr rfl fun c _ => congrArg₂ _ (h1 o c) ?_
    split_ifs
    all_goals first
      | (rename_i hh; exact absurd rfl hh)
      | (refine ilv_e k k' c _ _ _ ?_; omega)
      | (refine ilv_o k k' c _ _ _ ?_; omega)
  · refine Finset.sum_congr rfl fun c _ => congrArg₂ _ (h3 o c) ?_
    split_ifs
    all_goals first
      | (rename_i hh; exact absurd rfl hh)
      | (rw [pd_out] <;> omega)
      | (refine ilv_e k k' c _ _ _ ?_; omega)
      | (refine ilv_o k k' c _ _ _ ?_; omega)

/-- The decoder's block at an element. -/
theorem pay1_raw (e od : FVec Ideal S512x128 .f32) (p : FVec Ideal S263x256 .f32) (b b' : FVec Ideal S263x1 .f32) (w : FVec Ideal S263x1024 .f32) (ra rb : FVec Ideal S256x512 .f32) (o : Fin 263) (t : Fin 512) :
    k0_pay1 e od p b w b' ra rb (ix3 0 o t) = ∑ x : Fin 256, (p (ix2 o x) + b (ix2 o 0)) * ra (ix2 x t)
      + ∑ x : Fin 256, ((∑ x1 : Fin 512, w (ix2 o ⟨x1.val, by omega⟩) * (if h : x.val < 128 then od (ix2 x1 ⟨x.val, h⟩) else if h : x.val - 128 < 127 then e (ix2 x1 ⟨1 + (x.val - 128), by omega⟩) else 0)
        + ∑ x1 : Fin 512, w (ix2 o ⟨512 + x1.val, by omega⟩) * (if h : x.val < 128 then e (ix2 x1 ⟨x.val, h⟩) else od (ix2 x1 ⟨x.val - 128, by omega⟩))) + b' (ix2 o 0)) * rb (ix2 x t) := by
  pointwise [k0_pay1]

/-- The decoder's block: the transposed convolution of the interleaved halves. -/
theorem pay1_at (z : FVec Ideal S512x128 .f32) (w1 w2 : FVec Ideal S512x1024 .f32) (b1 b2 : FVec Ideal S512x1 .f32) (wa wb : FVec Ideal S263x1024 .f32) (b : FVec Ideal S263x1 .f32)
    (ra rb : FVec Ideal S256x512 .f32) (hra : ra = k0_pay16) (hrb : rb = k0_pay18 k0_pay17) (o : Fin 263) (t : Fin 512) (W : Fin 512 → Fin 263 → Fin 4 → EReal)
    (h1 : ∀ (o : Fin 263) (x : Fin 512), wa (ix2 o ⟨x.val, by omega⟩) = W x o 1) (h3 : ∀ (o : Fin 263) (x : Fin 512), wa (ix2 o ⟨512 + x.val, by omega⟩) = W x o 3)
    (h0 : ∀ (o : Fin 263) (x : Fin 512), wb (ix2 o ⟨x.val, by omega⟩) = W x o 0) (h2 : ∀ (o : Fin 263) (x : Fin 512), wb (ix2 o ⟨512 + x.val, by omega⟩) = W x o 2) :
    k0_pay1 (k0_pay49 z w1 b1) (k0_pay50 z w2 b2) (k0_pay51 z w1 b1 w2 b2 wa) b wb b ra rb (ix3 0 o t)
      = up (fun c k => W c o k) (ilv (k0_pay49 z w1 b1) (k0_pay50 z w2 b2)) t.val + b (ix2 o 0) := by
  have ht := t.isLt
  rw [pay1_raw, hra, hrb]
  by_cases hp : t.val % 2 = 0
  · obtain ⟨j, hj⟩ : ∃ j : Fin 256, rowA j.val = t.val := by
      by_cases h4 : t.val % 4 = 0
      · exact ⟨⟨t.val / 4, by omega⟩, by unfold rowA; dsimp only; rw [if_pos (by omega)]; omega⟩
      · exact ⟨⟨128 + t.val / 4, by omega⟩, by unfold rowA; dsimp only; rw [if_neg (by omega)]; omega⟩
    rw [sel_sum (fun x => k0_pay51 z w1 b1 w2 b2 wa (ix2 o x) + b (ix2 o 0)) _ j, sel_none _ (fun x => k0_pay18 (F := Ideal) k0_pay17 (ix2 x t)), add_zero,
      pay51_at z w1 w2 b1 b2 wa o j W h1 h3]
    · unfold up; rw [if_pos hp, hj]
    · intro x; rw [rb_at, if_neg]; unfold rowA; split_ifs <;> omega
    · intro x
      rw [ra_at]
      by_cases hx : x = j
      · rw [hx, if_pos hj, if_pos rfl]
      · rw [if_neg hx, if_neg]
        intro hh; apply hx; apply Fin.ext
        rw [← hj] at hh; unfold rowA at hh
        have := x.isLt; have := j.isLt
        split_ifs at hh <;> omega
  · obtain ⟨j, hj⟩ : ∃ j : Fin 256, rowA j.val + 1 = t.val := by
      by_cases h4 : t.val % 4 = 1
      · exact ⟨⟨t.val / 4, by omega⟩, by unfold rowA; dsimp only; rw [if_pos (by omega)]; omega⟩
      · exact ⟨⟨128 + t.val / 4, by omega⟩, by unfold rowA; dsimp only; rw [if_neg (by omega)]; omega⟩
    rw [sel_none _ (fun x => k0_pay16 (F := Ideal) (ix2 x t)), zero_add,
      sel_sum (fun x : Fin 256 => ((∑ x1 : Fin 512, wb (ix2 o ⟨x1.val, by omega⟩) * (if h : x.val < 128 then k0_pay50 z w2 b2 (ix2 x1 ⟨x.val, h⟩) else if h : x.val - 128 < 127 then k0_pay49 z w1 b1 (ix2 x1 ⟨1 + (x.val - 128), by omega⟩) else 0)
        + ∑ x1 : Fin 512, wb (ix2 o ⟨512 + x1.val, by omega⟩) * (if h : x.val < 128 then k0_pay49 z w1 b1 (ix2 x1 ⟨x.val, h⟩) else k0_pay50 z w2 b2 (ix2 x1 ⟨x.val - 128, by omega⟩))) + b (ix2 o 0))) _ j]
    · unfold up; rw [if_neg hp]
      congr 1
      unfold upO
      rw [add_comm]
      unfold rowA at hj
      have hjl := j.isLt
      congr 1
      · refine Finset.sum_congr rfl fun c _ => congrArg₂ _ (h2 o c) ?_
        split_ifs at hj ⊢
        all_goals first
          | (refine ilv_e _ _ c _ _ _ ?_; omega)
          | (refine ilv_o _ _ c _ _ _ ?_; omega)
      · refine Finset.sum_congr rfl fun c _ => congrArg₂ _ (h0 o c) ?_
        split_ifs at hj ⊢
        all_goals first
          | (rw [pd_out] <;> omega)
          | (refine ilv_e _ _ c _ _ _ ?_; omega)
          | (refine ilv_o _ _ c _ _ _ ?_; omega)
    · intro x
      rw [rb_at]
      by_cases hx : x = j
      · rw [hx, if_pos hj, if_pos rfl]
      · rw [if_neg hx, if_neg]
        intro hh; apply hx; apply Fin.ext
        rw [← hj] at hh; unfold rowA at hh
        have := x.isLt; have := j.isLt
        split_ifs at hh <;> omega
    · intro x; rw [ra_at, if_neg]; unfold rowA; split_ifs <;> omega

end Cert.KernelIdeal.Own

end
-- ==== Proof.VEnc.lean ====
/- The kernel's encoder read at an element. -/
module
public import proofs.«01_k».proof.Proof.VMath
public import proofs.«01_k».proof.Proof.KiStep
@[expose] public section
set_option maxRecDepth 16384
noncomputable section
namespace Cert.KernelIdeal.Own
open Idealize.ShloMosaic Idealize.ShloMosaic.TcCoe Idealize.ShloMosaic.Tactic
open Cert.KernelIdeal Cert.KernelIdeal.Gen
open Cert.Val
set_option maxHeartbeats 1000000

/-- An even selection of 256 out of 512. -/
theorem se_at (x : Fin 512) (t : Fin 256) : k0_pay10 (F := Ideal) (ix2 x t) = if x.val = 2 * t.val then 1 else 0 := by
  have hx := x.isLt
  have ht := t.isLt
  pointwise [k0_pay10]
  rw [oneHot, show IntOp.muli (2#32) (BitVec.ofNat 32 t.val) = BitVec.ofNat 32 (2 * t.val) from by
    apply BitVec.eq_of_toNat_eq; simp only [IntOp.muli, BitVec.toNat_mul, BitVec.toNat_ofNat]; omega]
  simp only [ofNat_eq_iff (show x.val < 4294967296 by omega) (show 2 * t.val < 4294967296 by omega)]

/-- An odd selection of 256 out of 512. -/
theorem so_at (x : Fin 512) (t : Fin 256) : k0_pay11 (F := Ideal) (ix2 x t) = if x.val = 2 * t.val + 1 then 1 else 0 := by
  have hx := x.isLt
  have ht := t.isLt
  pointwise [k0_pay11]
  rw [oneHot, show IntOp.addi (IntOp.muli (2#32) (BitVec.ofNat 32 t.val)) 1#32 = BitVec.ofNat 32 (2 * t.val + 1) from by
    apply BitVec.eq_of_toNat_eq; simp only [IntOp.muli, IntOp.addi, BitVec.toNat_add, BitVec.toNat_mul, BitVec.toNat_ofNat]; omega]
  simp only [ofNat_eq_iff (show x.val < 4294967296 by omega) (show 2 * t.val + 1 < 4294967296 by omega)]

/-- An even selection of 128 out of 256. -/
theorem se2_at (x : Fin 256) (t : Fin 128) : k0_pay12 (F := Ideal) (ix2 x t) = if x.val = 2 * t.val then 1 else 0 := by
  have hx := x.isLt
  have ht := t.isLt
  pointwise [k0_pay12]
  rw [oneHot, show IntOp.muli (2#32) (BitVec.ofNat 32 t.val) = BitVec.ofNat 32 (2 * t.val) from by
    apply BitVec.eq_of_toNat_eq; simp only [IntOp.muli, BitVec.toNat_mul, BitVec.toNat_ofNat]; omega]
  simp only [ofNat_eq_iff (show x.val < 4294967296 by omega) (show 2 * t.val < 4294967296 by omega)]

/-- An odd selection of 128 out of 256. -/
theorem so2_at (x : Fin 256) (t : Fin 128) :
    k0_pay15 (F := Ideal) (iota .tc S256x128 32 [0] iota_S256x128_d0_w32) k0_pay13 k0_pay14 (ix2 x t) = if x.val = 2 * t.val + 1 then 1 else 0 := by
  have hx := x.isLt
  have ht := t.isLt
  pointwise [k0_pay15, k0_pay13, k0_pay14]
  rw [oneHot, show IntOp.addi (IntOp.muli (2#32) (BitVec.ofNat 32 t.val)) 1#32 = BitVec.ofNat 32 (2 * t.val + 1) from by
    apply BitVec.eq_of_toNat_eq; simp only [IntOp.muli, IntOp.addi, BitVec.toNat_add, BitVec.toNat_mul, BitVec.toNat_ofNat]; omega]
  simp only [ofNat_eq_iff (show x.val < 4294967296 by omega) (show 2 * t.val + 1 < 4294967296 by omega)]

/-- A sum against the selection of one place. -/
theorem pick {n : ℕ} (f : Fin n → EReal) (g : Fin n → EReal) (k s : ℕ) (hk : k < n) (hs : s = k + 1) (hg : ∀ t : Fin n, g t = if t.val = k then 1 else 0) :
    ∑ t, f t * g t = pd f s := by
  rw [sel_sum f g ⟨k, hk⟩ fun t => by rw [hg]; simp only [Fin.ext_iff]]
  exact pd_at f s k hk hs

/-- The first convolution's products. -/
theorem pay19_at (x : FVec Ideal S1x263x512 .f32) (se so : FVec Ideal S512x256 .f32) (w0 w1 w2 w3 : FVec Ideal S512x263 .f32) (hse : se = k0_pay10) (hso : so = k0_pay11)
    (W : Fin 512 → Fin 263 → Fin 4 → EReal) (h0 : ∀ o c, w0 (ix2 o c) = W o c 0) (h1 : ∀ o c, w1 (ix2 o c) = W o c 1) (h2 : ∀ o c, w2 (ix2 o c) = W o c 2) (h3 : ∀ o c, w3 (ix2 o c) = W o c 3)
    (o : Fin 512) (u : Fin 256) :
    k0_pay19 (F := Ideal) x se so w0 w1 w2 w3 (ix2 o u) = conv (fun c k => W o c k) (fun c t => x (ix3 0 c t)) u.val := by
  have hu := u.isLt
  subst hse hso
  generalize h : (k0_pay10 : FVec Ideal S512x256 .f32) = se
  generalize h' : (k0_pay11 : FVec Ideal S512x256 .f32) = so
  have hse : ∀ x t, se (ix2 x t) = if x.val = 2 * t.val then 1 else 0 := fun x t => h ▸ se_at x t
  have hso : ∀ x t, so (ix2 x t) = if x.val = 2 * t.val + 1 then 1 else 0 := fun x t => h' ▸ so_at x t
  pointwise [k0_pay19]
  unfold conv
  congr 1
  congr 1
  congr 1
  · refine Finset.sum_congr rfl fun c _ => congrArg₂ _ (h0 o c) ?_
    split_ifs
    all_goals first
      | (rename_i hh; exact absurd rfl hh)
      | (rw [pd_out] <;> omega)
      | (refine pick (fun t => x (ix3 0 c t)) _ (2 * (u.val - 1) + 1) _ (by omega) (by omega) fun t => hso t _)
  · refine Finset.sum_congr rfl fun c _ => congrArg₂ _ (h1 o c) ?_
    exact pick (fun t => x (ix3 0 c t)) _ (2 * u.val) _ (by omega) (by omega) fun t => hse t _
  · refine Finset.sum_congr rfl fun c _ => congrArg₂ _ (h2 o c) ?_
    exact pick (fun t => x (ix3 0 c t)) _ (2 * u.val + 1) _ (by omega) (by omega) fun t => hso t _
  · refine Finset.sum_congr rfl fun c _ => congrArg₂ _ (h3 o c) ?_
    split_ifs
    all_goals first
      | (rename_i hh; exact absurd rfl hh)
      | (rw [pd_out] <;> omega)
      | (refine pick (fun t => x (ix3 0 c t)) _ (2 * (1 + u.val)) _ (by omega) (by omega) fun t => hse t _)

/-- The rounded channels. -/
theorem pay21_at (v : FVec Ideal S512x256 .f32) (b : FVec Ideal S512x1 .f32) (se so : FVec Ideal S256x128 .f32) (w : FVec Ideal S512x2048 .f32) (b2 : FVec Ideal S512x1 .f32)
    (wi : FVec Ideal S4x512 .f32) (bi : FVec Ideal S4x1 .f32) (o : Fin 4) (u : Fin 128) :
    k0_pay21 (F := Ideal) v b se so w b2 wi bi (ix2 o u) = Ideal.liftRound Ideal.roundHalfEven (∑ x, wi (ix2 o x) * k0_pay20 v b se so w b2 (ix2 x u) + bi (ix2 o 0)) := by
  generalize h : k0_pay20 (F := Ideal) v b se so w b2 = k
  unfold k0_pay21
  rw [h]
  pointwise []

/-- The first residual. -/
theorem pay22_at (h : FVec Ideal S512x128 .f32) (z : FVec Ideal S4x128 .f32) (w : FVec Ideal S512x4 .f32) (b : FVec Ideal S512x1 .f32) (o : Fin 512) (u : Fin 128) :
    k0_pay22 h z w b (ix2 o u) = h (ix2 o u) - (b (ix2 o 0) + w (ix2 o 0) * z (ix2 0 u) + w (ix2 o 1) * z (ix2 1 u) + w (ix2 o 2) * z (ix2 2 u) + w (ix2 o 3) * z (ix2 3 u)) := by
  pointwise [k0_pay22]

end Cert.KernelIdeal.Own

end
-- ==== Proof.VEnd.lean ====
/- The kernel's second convolution read at an element. -/
module
public import proofs.«01_k».proof.Proof.VEnc
public import proofs.«01_k».proof.Proof.KiStep
@[expose] public section
set_option maxRecDepth 16384
noncomputable section
namespace Cert.KernelIdeal.Own
open Idealize.ShloMosaic Idealize.ShloMosaic.TcCoe Idealize.ShloMosaic.Tactic
open Cert.KernelIdeal Cert.KernelIdeal.Gen
open Cert.Val
set_option maxHeartbeats 1000000

/-- A rectified array of 256 times. -/
def kLk256 (x : FVec Ideal S512x256 .f32) : FVec Ideal S512x256 .f32 :=
  select (cmpf .oge x (broadcast S512x256 (Scalar.ofBits .f32 0x00000000#32))) x (mulf (broadcast S512x256 (Scalar.ofBits .f32 0x3E4CCCCD#32)) x)
/-- A rectified array of 128 times. -/
def kLk128 (x : FVec Ideal S512x128 .f32) : FVec Ideal S512x128 .f32 :=
  select (cmpf .oge x (broadcast S512x128 (Scalar.ofBits .f32 0x00000000#32))) x (mulf (broadcast S512x128 (Scalar.ofBits .f32 0x3E4CCCCD#32)) x)
/-- The selected times of an array. -/
def kSel (h : FVec Ideal S512x256 .f32) (s : FVec Ideal S256x128 .f32) : FVec Ideal S512x128 .f32 :=
  matmul dot_S512x256_S256x128_S512x128_1_0_0_1_n_n none h s (constant S512x128 .f32 0x00000000#32)
/-- The four taps above one another. -/
def kTaps (e o : FVec Ideal S512x128 .f32) : FVec Ideal S2048x128 .f32 :=
  concatenate S2048x128 0 [⟨S512x128, concatenate S512x128 1 [⟨S512x1, (broadcast S512x1 (Scalar.ofBits .f32 0x00000000#32) : FVec Ideal S512x1 .f32)⟩, ⟨S512x127, extractStridedSlice S512x127 ![0, 0] o slices_S512x128_o0_0_S512x127⟩] concatenates_S512x1_S512x127_S512x128_d1⟩,
    ⟨S512x128, e⟩, ⟨S512x128, o⟩,
    ⟨S512x128, concatenate S512x128 1 [⟨S512x127, extractStridedSlice S512x127 ![0, 1] e slices_S512x128_o0_1_S512x127⟩, ⟨S512x1, (broadcast S512x1 (Scalar.ofBits .f32 0x00000000#32) : FVec Ideal S512x1 .f32)⟩] concatenates_S512x127_S512x1_S512x128_d1⟩]
    concatenates_S512x128_S512x128_S512x128_S512x128_S2048x128_d0
/-- The second convolution of given taps. -/
def kMix (T : FVec Ideal S2048x128 .f32) (w : FVec Ideal S512x2048 .f32) (b2 : FVec Ideal S512x1 .f32) : FVec Ideal S512x128 .f32 :=
  addf (matmul dot_S512x2048_S2048x128_S512x128_1_0_0_1_n_n none (shapeCast S512x2048 w shapeCasts_S512x2048_S512x2048) T (constant S512x128 .f32 0x00000000#32))
    (broadcastTo S512x128 (shapeCast S512x1 b2 shapeCasts_S512x1_S512x1) broadcasts_S512x1_S512x128)
/-- The first bias added. -/
def kBias (v : FVec Ideal S512x256 .f32) (b : FVec Ideal S512x1 .f32) : FVec Ideal S512x256 .f32 :=
  addf v (broadcastTo S512x256 (shapeCast S512x1 b shapeCasts_S512x1_S512x1) broadcasts_S512x1_S512x256)

/-- The second hidden layer in its parts. -/
theorem pay20_eq (v : FVec Ideal S512x256 .f32) (b : FVec Ideal S512x1 .f32) (se so : FVec Ideal S256x128 .f32) (w : FVec Ideal S512x2048 .f32) (b2 : FVec Ideal S512x1 .f32) :
    k0_pay20 (F := Ideal) v b se so w b2 = kLk128 (kMix (kTaps (kSel (kLk256 (kBias v b)) se) (kSel (kLk256 (kBias v b)) so)) w b2) := rfl

/-- A rectified array at an element. -/
theorem kLk256_at (x : FVec Ideal S512x256 .f32) (c : Fin 512) (t : Fin 256) : kLk256 x (ix2 c t) = lk (x (ix2 c t)) := by
  pointwise [kLk256]; rfl
/-- A rectified array at an element. -/
theorem kLk128_at (x : FVec Ideal S512x128 .f32) (c : Fin 512) (t : Fin 128) : kLk128 x (ix2 c t) = lk (x (ix2 c t)) := by
  pointwise [kLk128]; rfl
/-- The biased array at an element. -/
theorem kBias_at (v : FVec Ideal S512x256 .f32) (b : FVec Ideal S512x1 .f32) (c : Fin 512) (t : Fin 256) : kBias v b (ix2 c t) = v (ix2 c t) + b (ix2 c 0) := by
  pointwise [kBias]
/-- A selection at an element. -/
theorem kSel_at (h : FVec Ideal S512x256 .f32) (s : FVec Ideal S256x128 .f32) (c : Fin 512) (u : Fin 128) :
    kSel h s (ix2 c u) = ∑ t, h (ix2 c t) * s (ix2 t u) := by
  pointwise [kSel]
/-- The mixed taps at an element. -/
theorem kMix_at (T : FVec Ideal S2048x128 .f32) (w : FVec Ideal S512x2048 .f32) (b2 : FVec Ideal S512x1 .f32) (o : Fin 512) (u : Fin 128) :
    kMix T w b2 (ix2 o u) = ∑ x, w (ix2 o x) * T (ix2 x u) + b2 (ix2 o 0) := by
  pointwise [kMix]
/-- The taps at an element. -/
theorem kTaps_at (e o : FVec Ideal S512x128 .f32) (c : Fin 2048) (u : Fin 128) : kTaps e o (ix2 c u)
    = if h : c.val < 512 then (if h1 : u.val < 1 then 0 else o (ix2 ⟨c.val, h⟩ ⟨u.val - 1, by omega⟩))
      else if h : c.val - 512 < 512 then e (ix2 ⟨c.val - 512, h⟩ u)
      else if h : c.val - 512 - 512 < 512 then o (ix2 ⟨c.val - 512 - 512, h⟩ u)
      else (if h1 : u.val < 127 then e (ix2 ⟨c.val - 512 - 512 - 512, by omega⟩ ⟨1 + u.val, by omega⟩) else 0) := by
  pointwise [kTaps]

/-- The second hidden layer. -/
theorem pay20_at (v : FVec Ideal S512x256 .f32) (b : FVec Ideal S512x1 .f32) (se so : FVec Ideal S256x128 .f32) (w : FVec Ideal S512x2048 .f32) (b2 : FVec Ideal S512x1 .f32)
    (hse : ∀ x t, se (ix2 x t) = if x.val = 2 * t.val then 1 else 0) (hso : ∀ x t, so (ix2 x t) = if x.val = 2 * t.val + 1 then 1 else 0)
    (W : Fin 512 → Fin 512 → Fin 4 → EReal)
    (h0 : ∀ o c : Fin 512, w (ix2 o ⟨c.val, by omega⟩) = W o c 0) (h1 : ∀ o c : Fin 512, w (ix2 o ⟨512 + c.val, by omega⟩) = W o c 1)
    (h2 : ∀ o c : Fin 512, w (ix2 o ⟨1024 + c.val, by omega⟩) = W o c 2) (h3 : ∀ o c : Fin 512, w (ix2 o ⟨1536 + c.val, by omega⟩) = W o c 3)
    (o : Fin 512) (u : Fin 128) :
    k0_pay20 (F := Ideal) v b se so w b2 (ix2 o u) = lk (conv (fun c k => W o c k) (fun c t => lk (v (ix2 c t) + b (ix2 c 0))) u.val + b2 (ix2 o 0)) := by
  have hu := u.isLt
  have hE : ∀ (s : FVec Ideal S256x128 .f32) (c : Fin 512) (j : Fin 128), kSel (kLk256 (kBias v b)) s (ix2 c j) = ∑ t, lk (v (ix2 c t) + b (ix2 c 0)) * s (ix2 t j) := fun s c j => by
    rw [kSel_at]; refine Finset.sum_congr rfl fun t _ => ?_
    rw [kLk256_at, kBias_at]
  rw [pay20_eq, kLk128_at, kMix_at]
  congr 2
  simp only [kTaps_at, hE]
  rw [sum2048]
  beta_reduce
  unfold conv
  congr 1
  congr 1
  congr 1
  · refine Finset.sum_congr rfl fun c _ => ?_
    have hc := c.isLt
    rw [h0 o c, dif_pos (show c.val < 512 by omega)]
    refine congrArg _ ?_
    split_ifs
    all_goals first
      | (rename_i hh; exact absurd rfl hh)
      | (rw [pd_out] <;> omega)
      | (refine pick (fun t => lk (v (ix2 c t) + b (ix2 c 0))) _ (2 * (u.val - 1) + 1) _ (by omega) (by omega) fun t => hso t _)
  · refine Finset.sum_congr rfl fun c _ => ?_
    have hc := c.isLt
    rw [h1 o c, dif_neg (show ¬ 512 + c.val < 512 by omega), dif_pos (show 512 + c.val - 512 < 512 by omega)]
    simp only [show ∀ h, (⟨512 + c.val - 512, h⟩ : Fin 512) = c from fun h => Fin.ext (by show 512 + c.val - 512 = c.val; omega)]
    refine congrArg _ ?_
    exact pick (fun t => lk (v (ix2 c t) + b (ix2 c 0))) _ (2 * u.val) _ (by omega) (by omega) fun t => hse t _
  · refine Finset.sum_congr rfl fun c _ => ?_
    have hc := c.isLt
    rw [h2 o c, dif_neg (show ¬ 1024 + c.val < 512 by omega), dif_neg (show ¬ 1024 + c.val - 512 < 512 by omega), dif_pos (show 1024 + c.val - 512 - 512 < 512 by omega)]
    simp only [show ∀ h, (⟨1024 + c.val - 512 - 512, h⟩ : Fin 512) = c from fun h => Fin.ext (by show 1024 + c.val - 512 - 512 = c.val; omega)]
    refine congrArg _ ?_
    exact pick (fun t => lk (v (ix2 c t) + b (ix2 c 0))) _ (2 * u.val + 1) _ (by omega) (by omega) fun t => hso t _
  · refine Finset.sum_congr rfl fun c _ => ?_
    have hc := c.isLt
    rw [h3 o c, dif_neg (show ¬ 1536 + c.val < 512 by omega), dif_neg (show ¬ 1536 + c.val - 512 < 512 by omega), dif_neg (show ¬ 1536 + c.val - 512 - 512 < 512 by omega)]
    simp only [show ∀ h, (⟨1536 + c.val - 512 - 512 - 512, h⟩ : Fin 512) = c from fun h => Fin.ext (by show 1536 + c.val - 512 - 512 - 512 = c.val; omega)]
    refine congrArg _ ?_
    split_ifs
    all_goals first
      | (rename_i hh; exact absurd rfl hh)
      | (rw [pd_out] <;> omega)
      | (refine pick (fun t => lk (v (ix2 c t) + b (ix2 c 0))) _ (2 * (1 + u.val)) _ (by omega) (by omega) fun t => hse t _)

end Cert.KernelIdeal.Own

end
-- ==== Proof.VEq.lean ====
/- One block of the kernel's first result is the reference's. -/
module
public import proofs.«01_k».proof.Proof.VRef
public import proofs.«01_k».proof.Proof.VVq
public import proofs.«01_k».proof.Proof.VLay
public import proofs.«01_k».proof.Proof.VDec
public import proofs.«01_k».proof.Proof.VEnd
public import proofs.«01_k».proof.Proof.RefRead
@[expose] public section
set_option maxRecDepth 16384
noncomputable section
namespace Cert.Val
open Idealize.ShloMosaic Idealize.ShloMosaic.TcCoe Idealize.ShloMosaic.Tactic Idealize.ShloMosaic.StableHlo
open Cert.KernelIdeal Cert.KernelIdeal.Gen Cert.KernelIdeal.Own
open Cert.Ref (at' Arr leaky256 leaky128 enc1Of enc2Of padX padH fsqIn fsqOut vqEnc vqDist vqOut vqIn vqQ dec1Of dec2Of dilZ dilY turn1 turn2)
set_option maxHeartbeats 1000000

/-- A constant moves out of a sum of numbers. -/
theorem mul_sum {ι : Type} (s : Finset ι) (c : EReal) (f : ι → EReal) (hc : Fn c) (hf : ∀ i, Fn (f i)) : c * ∑ i ∈ s, f i = ∑ i ∈ s, c * f i := by
  classical
  induction s using Finset.induction_on with
  | empty => simp
  | insert a s ha ih =>
    rw [Finset.sum_insert ha, Finset.sum_insert ha, ← ih]
    obtain ⟨x, hx⟩ := hf a
    obtain ⟨y, hy⟩ := Fn.sum s f fun i _ => hf i
    obtain ⟨z, rfl⟩ := hc
    rw [hx, hy, ← EReal.coe_add, ← EReal.coe_mul, ← EReal.coe_mul, ← EReal.coe_mul, ← EReal.coe_add, mul_add]

/-- A convolution of numbers is a number. -/
theorem Fn.conv {m n : ℕ} {w : Fin m → Fin 4 → EReal} {x : Fin m → Fin n → EReal} (hw : ∀ c k, Fn (w c k)) (hx : ∀ c t, Fn (x c t)) (u : ℕ) : Fn (conv w x u) := by
  unfold Val.conv
  exact (((Fn.sum _ _ fun c _ => (hw c 0).mul (Fn.pd (hx c) _)).add (Fn.sum _ _ fun c _ => (hw c 1).mul (Fn.pd (hx c) _))).add
    (Fn.sum _ _ fun c _ => (hw c 2).mul (Fn.pd (hx c) _))).add (Fn.sum _ _ fun c _ => (hw c 3).mul (Fn.pd (hx c) _))

/-- One layer: kernel and reference take the same code, and leave the same residual. -/
theorem layer (b : Fin 128) (r : FVec Ideal S512x128 .f32) (R : Arr Ideal ⟨3, ![128, 512, 128]⟩) (E : FVec Ideal S1024x512 .f32) (A : Arr Ideal ⟨2, ![1024, 512]⟩)
    (e : FVec Ideal S1024x1 .f32) (T : FVec Ideal S512x1024 .f32)
    (hr : ∀ c u, r (ix2 c u) = R (ix3 b c u)) (fr : ∀ c u, Fn (R (ix3 b c u))) (hE : ∀ n c, E (ix2 n c) = A (ix2 n c)) (fA : ∀ n c, Fn (A (ix2 n c)))
    (he : ∀ n, e (ix2 n 0) = ∑ x, A (ix2 n x) * A (ix2 n x)) (hT : ∀ c n, T (ix2 c n) = A (ix2 n c)) (c : Fin 512) (u : Fin 128) :
    k0_pay26 r iot (kD r E e) T (ix2 c u) = R (ix3 b c u) - vqOut (vqIn R) (vqQ (vqEnc (vqDist R A)) A) (ix3 b c u)
      ∧ Fn (vqOut (vqIn R) (vqQ (vqEnc (vqDist R A)) A) (ix3 b c u)) := by
  have hb := b.isLt
  have hu := u.isLt
  have hD : ∀ n, kD r E e (ix2 n u) = vqDist R A (ix2 ⟨b.val * 128 + u.val, by omega⟩ n) := by
    intro n
    rw [kD_at, Cert.Ref.vqDist_at R A _ n b u rfl, he, mul_sum _ _ _ ⟨2, c_two⟩ fun x => by rw [hr, hE]; exact (fA n x).mul (fr x u)]
    simp only [hr, hE]
    congr 1
    refine Finset.sum_congr rfl fun x _ => ?_
    rw [mul_comm (A (ix2 n x)), mul_assoc]
  obtain ⟨a, ha⟩ := exists_am fun n => kD r E e (ix2 n u)
  have ha' : IsAm (fun n => vqDist R A (ix2 ⟨b.val * 128 + u.val, by omega⟩ n)) a := by
    have : (fun n => kD r E e (ix2 n u)) = fun n => vqDist R A (ix2 ⟨b.val * 128 + u.val, by omega⟩ n) := funext hD
    rw [← this]; exact ha
  have hq : vqQ (vqEnc (vqDist R A)) A (ix3 b u c) = A (ix2 a c) := by
    rw [Cert.Ref.vqQ_at]
    rw [Finset.sum_congr rfl fun x _ => mul_comm _ _]
    exact sel_sum (fun x => A (ix2 x c)) _ a fun n => Cert.Ref.vqEnc_at _ _ n a ha'
  rw [pay26_at r _ T c u a ha, Cert.Ref.vqOut_at, hq, add_sub_self (fr c u) (fA a c), hr, hT]
  exact ⟨rfl, fA a c⟩

/-- What the kernel is given is the reference's arguments, rearranged. -/
structure Rel (V : Valuation Cert.ReferenceIdeal.τ Cert.ReferenceIdeal.sig (Elt Ideal)) (b : Fin 128) (X : Ins Ideal) : Prop where
  h0 : ∀ c t, X.x0 (ix3 0 c t) = at' V Cert.ReferenceIdeal.main_arg0 (ix3 b c t)
  h1 : ∀ o c, X.x1 (ix2 o c) = at' V Cert.ReferenceIdeal.main_arg1 (ix3 o c 0)
  h2 : ∀ o c, X.x2 (ix2 o c) = at' V Cert.ReferenceIdeal.main_arg1 (ix3 o c 1)
  h3 : ∀ o c, X.x3 (ix2 o c) = at' V Cert.ReferenceIdeal.main_arg1 (ix3 o c 2)
  h4 : ∀ o c, X.x4 (ix2 o c) = at' V Cert.ReferenceIdeal.main_arg1 (ix3 o c 3)
  h5 : ∀ o, X.x5 (ix2 o 0) = at' V Cert.ReferenceIdeal.main_arg2 (ix1 o)
  h6a : ∀ o c : Fin 512, X.x6 (ix2 o ⟨c.val, by omega⟩) = at' V Cert.ReferenceIdeal.main_arg3 (ix3 o c 0)
  h6b : ∀ o c : Fin 512, X.x6 (ix2 o ⟨512 + c.val, by omega⟩) = at' V Cert.ReferenceIdeal.main_arg3 (ix3 o c 1)
  h6c : ∀ o c : Fin 512, X.x6 (ix2 o ⟨1024 + c.val, by omega⟩) = at' V Cert.ReferenceIdeal.main_arg3 (ix3 o c 2)
  h6d : ∀ o c : Fin 512, X.x6 (ix2 o ⟨1536 + c.val, by omega⟩) = at' V Cert.ReferenceIdeal.main_arg3 (ix3 o c 3)
  h7 : ∀ o, X.x7 (ix2 o 0) = at' V Cert.ReferenceIdeal.main_arg4 (ix1 o)
  h8 : ∀ o c, X.x8 (ix2 o c) = at' V Cert.ReferenceIdeal.main_arg5 (ix2 o c)
  h9 : ∀ o, X.x9 (ix2 o 0) = at' V Cert.ReferenceIdeal.main_arg6 (ix1 o)
  h10 : ∀ o c, X.x10 (ix2 o c) = at' V Cert.ReferenceIdeal.main_arg7 (ix2 o c)
  h11 : ∀ o, X.x11 (ix2 o 0) = at' V Cert.ReferenceIdeal.main_arg8 (ix1 o)
  h12 : ∀ n c, X.x12 (ix2 n c) = at' V Cert.ReferenceIdeal.main_arg9 (ix2 n c)
  h13 : ∀ n c, X.x13 (ix2 n c) = at' V Cert.ReferenceIdeal.main_arg10 (ix2 n c)
  h14 : ∀ n c, X.x14 (ix2 n c) = at' V Cert.ReferenceIdeal.main_arg11 (ix2 n c)
  h15 : ∀ n c, X.x15 (ix2 n c) = at' V Cert.ReferenceIdeal.main_arg12 (ix2 n c)
  h16 : ∀ c n, X.x16 (ix2 c n) = at' V Cert.ReferenceIdeal.main_arg9 (ix2 n c)
  h17 : ∀ c n, X.x17 (ix2 c n) = at' V Cert.ReferenceIdeal.main_arg10 (ix2 n c)
  h18 : ∀ c n, X.x18 (ix2 c n) = at' V Cert.ReferenceIdeal.main_arg11 (ix2 n c)
  h19 : ∀ c n, X.x19 (ix2 c n) = at' V Cert.ReferenceIdeal.main_arg12 (ix2 n c)
  h20a : ∀ o c : Fin 512, X.x20 (ix2 o ⟨c.val, by omega⟩) = at' V Cert.ReferenceIdeal.main_arg13 (ix3 c o 1)
  h20b : ∀ o c : Fin 512, X.x20 (ix2 o ⟨512 + c.val, by omega⟩) = at' V Cert.ReferenceIdeal.main_arg13 (ix3 c o 3)
  h21a : ∀ o c : Fin 512, X.x21 (ix2 o ⟨c.val, by omega⟩) = at' V Cert.ReferenceIdeal.main_arg13 (ix3 c o 2)
  h21b : ∀ o c : Fin 512, X.x21 (ix2 o ⟨512 + c.val, by omega⟩) = at' V Cert.ReferenceIdeal.main_arg13 (ix3 c o 0)
  h22 : ∀ o, X.x22 (ix2 o 0) = at' V Cert.ReferenceIdeal.main_arg14 (ix1 o)
  h23a : ∀ (o : Fin 263) (c : Fin 512), X.x23 (ix2 o ⟨c.val, by omega⟩) = at' V Cert.ReferenceIdeal.main_arg15 (ix3 c o 1)
  h23b : ∀ (o : Fin 263) (c : Fin 512), X.x23 (ix2 o ⟨512 + c.val, by omega⟩) = at' V Cert.ReferenceIdeal.main_arg15 (ix3 c o 3)
  h24a : ∀ (o : Fin 263) (c : Fin 512), X.x24 (ix2 o ⟨c.val, by omega⟩) = at' V Cert.ReferenceIdeal.main_arg15 (ix3 c o 0)
  h24b : ∀ (o : Fin 263) (c : Fin 512), X.x24 (ix2 o ⟨512 + c.val, by omega⟩) = at' V Cert.ReferenceIdeal.main_arg15 (ix3 c o 2)
  h25 : ∀ o, X.x25 (ix2 o 0) = at' V Cert.ReferenceIdeal.main_arg16 (ix1 o)

/-- What the scratch holds at every point: the selections and the norms. -/
structure SInv (X : Ins Ideal) (S : Sc Ideal) : Prop where
  se : S.se = k0_pay10 (F := Ideal)
  so : S.so = k0_pay11 (F := Ideal)
  se2 : S.se2 = k0_pay12 (F := Ideal)
  so2 : S.so2 = k0_pay15 (F := Ideal) (iota .tc S256x128 32 [0] iota_S256x128_d0_w32) k0_pay13 k0_pay14
  ra : S.ra = k0_pay16 (F := Ideal)
  rb : S.rb = k0_pay18 (F := Ideal) k0_pay17
  esq : S.esq = pack4 (k0_pay4 X.x12) (k0_pay5 X.x13) (k0_pay6 X.x14) (k0_pay7 X.x15)

/-- What the encoder and the quantisers read is finite. -/
structure FinV (V : Valuation Cert.ReferenceIdeal.τ Cert.ReferenceIdeal.sig (Elt Ideal)) : Prop where
  f0 : ∀ a b c, Fn (at' V Cert.ReferenceIdeal.main_arg0 (ix3 a b c))
  f1 : ∀ a b c, Fn (at' V Cert.ReferenceIdeal.main_arg1 (ix3 a b c))
  f2 : ∀ a, Fn (at' V Cert.ReferenceIdeal.main_arg2 (ix1 a))
  f3 : ∀ a b c, Fn (at' V Cert.ReferenceIdeal.main_arg3 (ix3 a b c))
  f4 : ∀ a, Fn (at' V Cert.ReferenceIdeal.main_arg4 (ix1 a))
  f5 : ∀ a b, Fn (at' V Cert.ReferenceIdeal.main_arg5 (ix2 a b))
  f6 : ∀ a, Fn (at' V Cert.ReferenceIdeal.main_arg6 (ix1 a))
  f7 : ∀ a b, Fn (at' V Cert.ReferenceIdeal.main_arg7 (ix2 a b))
  f8 : ∀ a, Fn (at' V Cert.ReferenceIdeal.main_arg8 (ix1 a))
  f9 : ∀ a b, Fn (at' V Cert.ReferenceIdeal.main_arg9 (ix2 a b))
  f10 : ∀ a b, Fn (at' V Cert.ReferenceIdeal.main_arg10 (ix2 a b))
  f11 : ∀ a b, Fn (at' V Cert.ReferenceIdeal.main_arg11 (ix2 a b))
  f12 : ∀ a b, Fn (at' V Cert.ReferenceIdeal.main_arg12 (ix2 a b))

/-- A codebook's norms, as the first point computes them. -/
theorem pay4_at (E : FVec Ideal S1024x512 .f32) (n : Fin 1024) : k0_pay4 (F := Ideal) E (ix2 n 0) = ∑ x, E (ix2 n x) * E (ix2 n x) := by
  pointwise [k0_pay4]
/-- The second codebook's norms. -/
theorem pay5_eq (E : FVec Ideal S1024x512 .f32) : k0_pay5 (F := Ideal) E = k0_pay4 (F := Ideal) E := rfl
/-- The third codebook's norms. -/
theorem pay6_eq (E : FVec Ideal S1024x512 .f32) : k0_pay6 (F := Ideal) E = k0_pay4 (F := Ideal) E := rfl
/-- The fourth codebook's norms. -/
theorem pay7_eq (E : FVec Ideal S1024x512 .f32) : k0_pay7 (F := Ideal) E = k0_pay4 (F := Ideal) E := rfl

section
variable {V : Valuation Cert.ReferenceIdeal.τ Cert.ReferenceIdeal.sig (Elt Ideal)} {b : Fin 128} {X : Ins Ideal} {S : Sc Ideal}

/-- The norms read off the scratch, codebook by codebook. -/
theorem esq_at (hS : SInv X S) (n : Fin 1024) :
    col 0 S.esq (ix2 n 0) = k0_pay4 X.x12 (ix2 n 0) ∧ col 1 S.esq (ix2 n 0) = k0_pay4 X.x13 (ix2 n 0)
    ∧ col 2 S.esq (ix2 n 0) = k0_pay4 X.x14 (ix2 n 0) ∧ col 3 S.esq (ix2 n 0) = k0_pay4 X.x15 (ix2 n 0) := by
  rw [hS.esq, pay5_eq, pay6_eq, pay7_eq]
  exact ⟨rfl, rfl, rfl, rfl⟩

/-- The hidden values agree, and are numbers. -/
theorem hid_eq (h : Rel V b X) (hS : SInv X S) (f : FinV V) (o : Fin 512) (u : Fin 128) :
    k61 X S (ix2 o u) = Cert.Ref.hid V (ix3 b o u) ∧ Fn (Cert.Ref.hid V (ix3 b o u)) := by
  have e1 : ∀ c t, lk (k29 X S (ix2 c t) + X.x5 (ix2 c 0)) = Cert.Ref.h1 V (ix3 b c t) := by
    intro c t
    unfold k29 Cert.Ref.h1
    rw [pay19_at X.x0 S.se S.so X.x1 X.x2 X.x3 X.x4 hS.se hS.so (fun o c k => at' V Cert.ReferenceIdeal.main_arg1 (ix3 o c k)) h.h1 h.h2 h.h3 h.h4,
      Cert.Ref.leaky256_at, Cert.Ref.enc1_at, h.h5]
    simp only [h.h0]
  have f1 : ∀ c t, Fn (Cert.Ref.h1 V (ix3 b c t)) := by
    intro c t
    unfold Cert.Ref.h1
    rw [Cert.Ref.leaky256_at, Cert.Ref.enc1_at]
    exact Fn.lk c02_fin ((Fn.conv (fun c k => f.f1 _ _ _) (fun c t => f.f0 _ _ _) _).add (f.f2 _))
  have e2 : Cert.Ref.hid V (ix3 b o u) = lk (conv (fun c k => at' V Cert.ReferenceIdeal.main_arg3 (ix3 o c k)) (fun c t => Cert.Ref.h1 V (ix3 b c t)) u.val + at' V Cert.ReferenceIdeal.main_arg4 (ix1 o)) := by
    unfold Cert.Ref.hid
    rw [Cert.Ref.leaky128_at, Cert.Ref.enc2_at]
  rw [e2]
  refine ⟨?_, Fn.lk c02_fin ((Fn.conv (fun c k => f.f3 _ _ _) (fun c t => f1 _ _) _).add (f.f4 _))⟩
  unfold k61
  rw [pay20_at (k29 X S) X.x5 S.se2 S.so2 X.x6 X.x7 (fun x t => by rw [hS.se2]; exact se2_at x t) (fun x t => by rw [hS.so2]; exact so2_at x t)
    (fun o c k => at' V Cert.ReferenceIdeal.main_arg3 (ix3 o c k)) h.h6a h.h6b h.h6c h.h6d, h.h7]
  simp only [e1]

/-- The scalar quantiser's output, its differences cancelled. -/
theorem fsq_red (z : Arr Ideal ⟨3, ![128, 128, 4]⟩) (w : Arr Ideal ⟨2, ![512, 4]⟩) (b' : Arr Ideal ⟨1, ![512]⟩) (i u : Fin 128) (fz : ∀ d, Fn (z (ix3 i u d))) (o : Fin 512) :
    fsqOut z w b' (ix3 i o u) = ∑ x, w (ix2 o x) * Ideal.liftRound Ideal.roundHalfEven (z (ix3 i u x)) + b' (ix1 o) := by
  rw [Cert.Ref.fsqOut_at]
  congr 1
  refine Finset.sum_congr rfl fun x _ => ?_
  rw [add_sub_self (fz x) (fz x).round]

/-- The scalar quantiser's output is a number, and the residuals it leaves agree. -/
theorem res0_eq (h : Rel V b X) (hS : SInv X S) (f : FinV V) (o : Fin 512) (u : Fin 128) :
    k100 X S (ix2 o u) = Cert.Ref.res0 V (ix3 b o u) ∧ Fn (Cert.Ref.fsq V (ix3 b o u)) ∧ Fn (Cert.Ref.res0 V (ix3 b o u)) := by
  have hh := fun o => hid_eq h hS f o u
  have ez : ∀ d, k68 X S (ix2 d u) = Ideal.liftRound Ideal.roundHalfEven (fsqIn (Cert.Ref.hid V) (at' V Cert.ReferenceIdeal.main_arg5) (at' V Cert.ReferenceIdeal.main_arg6) (ix3 b u d)) := by
    intro d
    unfold k68
    rw [pay21_at, Cert.Ref.fsqIn_at]
    have hk : ∀ x, k0_pay20 (F := Ideal) (k29 X S) X.x5 S.se2 S.so2 X.x6 X.x7 (ix2 x u) = Cert.Ref.hid V (ix3 b x u) := fun x => (hh x).1
    simp only [hk, h.h8, h.h9]
  have fz : ∀ d, Fn (fsqIn (Cert.Ref.hid V) (at' V Cert.ReferenceIdeal.main_arg5) (at' V Cert.ReferenceIdeal.main_arg6) (ix3 b u d)) := by
    intro d
    rw [Cert.Ref.fsqIn_at]
    exact (Fn.sum _ _ fun x _ => (f.f5 _ _).mul (hh x).2).add (f.f6 _)
  have e2 := fsq_red _ (at' V Cert.ReferenceIdeal.main_arg7) (at' V Cert.ReferenceIdeal.main_arg8) b u fz o
  change Cert.Ref.fsq V (ix3 b o u) = _ at e2
  have ff : Fn (Cert.Ref.fsq V (ix3 b o u)) := by
    rw [e2]
    exact (Fn.sum _ _ fun x _ => (f.f7 _ _).mul (fz x).round).add (f.f8 _)
  have er : Cert.Ref.res0 V (ix3 b o u) = Cert.Ref.hid V (ix3 b o u) - Cert.Ref.fsq V (ix3 b o u) := rfl
  refine ⟨?_, ff, er ▸ (hh o).2.sub ff⟩
  rw [er, e2]
  unfold k100
  rw [pay22_at, (hh o).1]
  simp only [ez, h.h10, h.h11]
  congr 1
  rw [Fin.sum_univ_four]
  abel

/-- What the decoder is given agrees. -/
theorem z_eq (h : Rel V b X) (hS : SInv X S) (f : FinV V) (o : Fin 512) (u : Fin 128) :
    k272 X S (ix2 o u) = (addf (Cert.Ref.fsq V) (Cert.Ref.sum4 V) : Arr Ideal ⟨3, ![128, 512, 128]⟩) (ix3 b o u) := by
  have r0 := fun o u => res0_eq h hS f o u
  have es := esq_at hS
  have l0 := layer b (k100 X S) (Cert.Ref.res0 V) X.x12 (at' V Cert.ReferenceIdeal.main_arg9) (col 0 S.esq) X.x16 (fun o u => (r0 o u).1) (fun o u => (r0 o u).2.2) h.h12 f.f9
    (fun n => by rw [(es n).1, pay4_at]; simp only [h.h12]) h.h16
  have f1 : ∀ o u, Fn (Cert.Ref.res1 V (ix3 b o u)) := fun o u => (r0 o u).2.2.sub (l0 o u).2
  have l1 := layer b (k130 X S) (Cert.Ref.res1 V) X.x13 (at' V Cert.ReferenceIdeal.main_arg10) (col 1 S.esq) X.x17 (fun o u => by rw [k130_eq]; exact (l0 o u).1) f1 h.h13 f.f10
    (fun n => by rw [(es n).2.1, pay4_at]; simp only [h.h13]) h.h17
  have f2 : ∀ o u, Fn (Cert.Ref.res2 V (ix3 b o u)) := fun o u => (f1 o u).sub (l1 o u).2
  have l2 := layer b (k171 X S) (Cert.Ref.res2 V) X.x14 (at' V Cert.ReferenceIdeal.main_arg11) (col 2 S.esq) X.x18 (fun o u => by rw [k171_eq]; exact (l1 o u).1) f2 h.h14 f.f11
    (fun n => by rw [(es n).2.2.1, pay4_at]; simp only [h.h14]) h.h18
  have f3 : ∀ o u, Fn (Cert.Ref.res3 V (ix3 b o u)) := fun o u => (f2 o u).sub (l2 o u).2
  have l3 := layer b (k212 X S) (Cert.Ref.res3 V) X.x15 (at' V Cert.ReferenceIdeal.main_arg12) (col 3 S.esq) X.x19 (fun o u => by rw [k212_eq]; exact (l2 o u).1) f3 h.h15 f.f12
    (fun n => by rw [(es n).2.2.2, pay4_at]; simp only [h.h15]) h.h19
  rw [k272_eq]
  show k61 X S (ix2 o u) - k0_pay26 (k212 X S) iot (kD (k212 X S) X.x15 (col 3 S.esq)) X.x19 (ix2 o u) = _
  rw [(l3 o u).1, (hid_eq h hS f o u).1]
  have g0 : Fn (Cert.Ref.out0 V (ix3 b o u)) := (l0 o u).2
  have g1 : Fn (Cert.Ref.out1 V (ix3 b o u)) := (l1 o u).2
  have g2 : Fn (Cert.Ref.out2 V (ix3 b o u)) := (l2 o u).2
  have g3 : Fn (Cert.Ref.out3 V (ix3 b o u)) := (l3 o u).2
  show Cert.Ref.hid V (ix3 b o u) - ((((Cert.Ref.hid V (ix3 b o u) - Cert.Ref.fsq V (ix3 b o u)) - Cert.Ref.out0 V (ix3 b o u)) - Cert.Ref.out1 V (ix3 b o u) - Cert.Ref.out2 V (ix3 b o u)) - Cert.Ref.out3 V (ix3 b o u))
    = Cert.Ref.fsq V (ix3 b o u) + (((((Cert.Ref.sum0 V (ix3 b o u) : EReal) + Cert.Ref.out0 V (ix3 b o u)) + Cert.Ref.out1 V (ix3 b o u)) + Cert.Ref.out2 V (ix3 b o u)) + Cert.Ref.out3 V (ix3 b o u))
  have hz : (Cert.Ref.sum0 V (ix3 b o u) : EReal) = 0 := by pointwise [Cert.Ref.sum0]
  rw [hz]
  obtain ⟨a0, e0⟩ := g0
  obtain ⟨a1, e1⟩ := g1
  obtain ⟨a2, e2⟩ := g2
  obtain ⟨a3, e3⟩ := g3
  obtain ⟨af, ef⟩ := (r0 o u).2.1
  obtain ⟨ah, eh⟩ := (hid_eq h hS f o u).2
  rw [e0, e1, e2, e3, ef, eh, zero_add]
  simp only [← EReal.coe_sub, ← EReal.coe_add]
  congr 1; ring

/-- A block of the first result. -/
theorem y_eq (h : Rel V b X) (hS : SInv X S) (f : FinV V) (o : Fin 263) (t : Fin 512) :
    yS X S (ix3 0 o t) = Cert.Ref.y V (ix3 b o t) := by
  have hz := z_eq h hS f
  have hl : ∀ c v, ilv (k0_pay49 (k272 X S) X.x20 X.x22) (k0_pay50 (k272 X S) X.x21 X.x22) c v = Cert.Ref.y1 V (ix3 b c v) := by
    intro c v
    unfold Cert.Ref.y1 ilv
    rw [Cert.Ref.leaky256_at, Cert.Ref.dec1_at,
      pay49_at (k272 X S) X.x20 X.x22 (fun c o k => at' V Cert.ReferenceIdeal.main_arg13 (ix3 c o k)) h.h20a h.h20b,
      pay50_at (k272 X S) X.x21 X.x22 (fun c o k => at' V Cert.ReferenceIdeal.main_arg13 (ix3 c o k)) h.h21a h.h21b, h.h22]
    simp only [hz]
    unfold up
    split_ifs <;> rfl
  unfold yS k288 k304 k313 Cert.Ref.y
  rw [pay1_at (k272 X S) X.x20 X.x21 X.x22 X.x22 X.x23 X.x24 X.x25 S.ra S.rb hS.ra hS.rb o t (fun c o k => at' V Cert.ReferenceIdeal.main_arg15 (ix3 c o k)) h.h23a h.h23b h.h24a h.h24b,
    Cert.Ref.dec2_at, h.h25]
  have : ilv (k0_pay49 (k272 X S) X.x20 X.x22) (k0_pay50 (k272 X S) X.x21 X.x22) = fun c v => Cert.Ref.y1 V (ix3 b c v) := by
    funext c v; exact hl c v
  rw [this]

end
end Cert.Val
end
-- ==== Proof.VHost.lean ====
/- What the kernel's call is given: the host's slices, transposes and stackings, read at an element. -/
module
public import proofs.«01_k».proof.Proof.KiFrame
@[expose] public section
set_option maxRecDepth 16384
noncomputable section
namespace Cert.Val
open Idealize.ShloMosaic Idealize.ShloMosaic.TcCoe Idealize.ShloMosaic.Tactic Idealize.ShloMosaic.StableHlo
open Cert.KernelIdeal Cert.KernelIdeal.Gen Cert.KernelIdeal.Own
set_option maxHeartbeats 1000000

/-- One tap of the first weights. -/
abbrev tap1 (k : Fin 3 → ℕ) (h : S512x263x4.Slices k S512x263x1) (A : FVec Ideal S512x263x4 .f32) : FVec Ideal S512x263 .f32 :=
  shapeCast S512x263 (extractStridedSlice S512x263x1 k A h) shapeCasts_S512x263x1_S512x263
/-- One tap of the square weights. -/
abbrev tap2 (k : Fin 3 → ℕ) (h : S512x512x4.Slices k S512x512x1) (A : FVec Ideal S512x512x4 .f32) : FVec Ideal S512x512 .f32 :=
  shapeCast S512x512 (extractStridedSlice S512x512x1 k A h) shapeCasts_S512x512x1_S512x512
/-- Two transposed taps of the square weights, side by side. -/
abbrev two2 (A B : FVec Ideal S512x512 .f32) : FVec Ideal S512x1024 .f32 :=
  concatenate S512x1024 1 [⟨S512x512, transpose S512x512 [1, 0] A transposes_S512x512_S512x512_1_0⟩, ⟨S512x512, transpose S512x512 [1, 0] B transposes_S512x512_S512x512_1_0⟩] concatenates_S512x512_S512x512_S512x1024_d1
/-- Two transposed taps of the last weights, side by side. -/
abbrev two1 (A B : FVec Ideal S512x263 .f32) : FVec Ideal S263x1024 .f32 :=
  concatenate S263x1024 1 [⟨S263x512, transpose S263x512 [1, 0] A transposes_S512x263_S263x512_1_0⟩, ⟨S263x512, transpose S263x512 [1, 0] B transposes_S512x263_S263x512_1_0⟩] concatenates_S263x512_S263x512_S263x1024_d1
/-- Four squares side by side. -/
abbrev four (A B C D : FVec Ideal S512x512 .f32) : FVec Ideal S512x2048 .f32 :=
  concatenate S512x2048 1 [⟨S512x512, A⟩, ⟨S512x512, B⟩, ⟨S512x512, C⟩, ⟨S512x512, D⟩] concatenates_S512x512_S512x512_S512x512_S512x512_S512x2048_d1

/-- The left half. -/
theorem two2_l (A B : FVec Ideal S512x512 .f32) (o c : Fin 512) : two2 A B (ix2 o ⟨c.val, by omega⟩) = A (ix2 c o) := by
  have hc := c.isLt
  pointwise [two2]
/-- The right half. -/
theorem two2_r (A B : FVec Ideal S512x512 .f32) (o c : Fin 512) : two2 A B (ix2 o ⟨512 + c.val, by omega⟩) = B (ix2 c o) := by
  have hc := c.isLt
  pointwise [two2]
/-- The left half. -/
theorem two1_l (A B : FVec Ideal S512x263 .f32) (o : Fin 263) (c : Fin 512) : two1 A B (ix2 o ⟨c.val, by omega⟩) = A (ix2 c o) := by
  have hc := c.isLt
  pointwise [two1]
/-- The right half. -/
theorem two1_r (A B : FVec Ideal S512x263 .f32) (o : Fin 263) (c : Fin 512) : two1 A B (ix2 o ⟨512 + c.val, by omega⟩) = B (ix2 c o) := by
  have hc := c.isLt
  pointwise [two1]
/-- The first quarter. -/
theorem four_a (A B C D : FVec Ideal S512x512 .f32) (o c : Fin 512) : four A B C D (ix2 o ⟨c.val, by omega⟩) = A (ix2 o c) := by
  have hc := c.isLt
  pointwise [four]
/-- The second quarter. -/
theorem four_b (A B C D : FVec Ideal S512x512 .f32) (o c : Fin 512) : four A B C D (ix2 o ⟨512 + c.val, by omega⟩) = B (ix2 o c) := by
  have hc := c.isLt
  pointwise [four]
/-- The third quarter. -/
theorem four_c (A B C D : FVec Ideal S512x512 .f32) (o c : Fin 512) : four A B C D (ix2 o ⟨1024 + c.val, by omega⟩) = C (ix2 o c) := by
  have hc := c.isLt
  pointwise [four]
  rw [dif_neg (by omega), dif_neg (by omega), dif_pos (by omega)]
  exact congrArg (fun k => C (ix2 o k)) (Fin.ext (by show 1024 + c.val - 512 - 512 = c.val; omega))
/-- The fourth quarter. -/
theorem four_d (A B C D : FVec Ideal S512x512 .f32) (o c : Fin 512) : four A B C D (ix2 o ⟨1536 + c.val, by omega⟩) = D (ix2 o c) := by
  have hc := c.isLt
  pointwise [four]
  rw [dif_neg (by omega), dif_neg (by omega), dif_neg (by omega)]
  exact congrArg (fun k => D (ix2 o k)) (Fin.ext (by show 1536 + c.val - 512 - 512 - 512 = c.val; omega))

variable (m : (ℓ : Loc nD τ sig) → Buf (Elt Ideal) ℓ) (c : Dev nD)

/-- The first weights' first tap. -/
theorem host1 : V m c main_v1 = tap1 ![0, 0, 0] slices_S512x263x4_S512x263x1_0_0_0 (m ((c : Thread nD τ).loc main_arg1)) := by
  show StableHlo.after hostOps0 _ (Proc.devRef .tc main_v1) = _
  after_results
  rfl
/-- The second tap. -/
theorem host3 : V m c main_v3 = tap1 ![0, 0, 1] slices_S512x263x4_S512x263x1_0_0_1 (m ((c : Thread nD τ).loc main_arg1)) := by
  show StableHlo.after hostOps0 _ (Proc.devRef .tc main_v3) = _
  after_results
  rfl
/-- The third tap. -/
theorem host5 : V m c main_v5 = tap1 ![0, 0, 2] slices_S512x263x4_S512x263x1_0_0_2 (m ((c : Thread nD τ).loc main_arg1)) := by
  show StableHlo.after hostOps0 _ (Proc.devRef .tc main_v5) = _
  after_results
  rfl
/-- The fourth tap. -/
theorem host7 : V m c main_v7 = tap1 ![0, 0, 3] slices_S512x263x4_S512x263x1_0_0_3 (m ((c : Thread nD τ).loc main_arg1)) := by
  show StableHlo.after hostOps0 _ (Proc.devRef .tc main_v7) = _
  after_results
  rfl
/-- The second weights, the taps side by side. -/
theorem host16 : V m c main_v16 = four (tap2 ![0, 0, 0] slices_S512x512x4_S512x512x1_0_0_0 (m ((c : Thread nD τ).loc main_arg3))) (tap2 ![0, 0, 1] slices_S512x512x4_S512x512x1_0_0_1 (m ((c : Thread nD τ).loc main_arg3)))
    (tap2 ![0, 0, 2] slices_S512x512x4_S512x512x1_0_0_2 (m ((c : Thread nD τ).loc main_arg3))) (tap2 ![0, 0, 3] slices_S512x512x4_S512x512x1_0_0_3 (m ((c : Thread nD τ).loc main_arg3))) := by
  show StableHlo.after hostOps0 _ (Proc.devRef .tc main_v16) = _
  after_results
  rfl
/-- The decoder's first weights, odd taps. -/
theorem host23 : V m c main_v23 = two2 (tap2 ![0, 0, 1] slices_S512x512x4_S512x512x1_0_0_1 (m ((c : Thread nD τ).loc main_arg13))) (tap2 ![0, 0, 3] slices_S512x512x4_S512x512x1_0_0_3 (m ((c : Thread nD τ).loc main_arg13))) := by
  show StableHlo.after hostOps0 _ (Proc.devRef .tc main_v23) = _
  after_results
  rfl
/-- The decoder's first weights, even taps. -/
theorem host30 : V m c main_v30 = two2 (tap2 ![0, 0, 2] slices_S512x512x4_S512x512x1_0_0_2 (m ((c : Thread nD τ).loc main_arg13))) (tap2 ![0, 0, 0] slices_S512x512x4_S512x512x1_0_0_0 (m ((c : Thread nD τ).loc main_arg13))) := by
  show StableHlo.after hostOps0 _ (Proc.devRef .tc main_v30) = _
  after_results
  rfl
/-- The decoder's last weights, odd taps. -/
theorem host37 : V m c main_v37 = two1 (tap1 ![0, 0, 1] slices_S512x263x4_S512x263x1_0_0_1 (m ((c : Thread nD τ).loc main_arg15))) (tap1 ![0, 0, 3] slices_S512x263x4_S512x263x1_0_0_3 (m ((c : Thread nD τ).loc main_arg15))) := by
  show StableHlo.after hostOps0 _ (Proc.devRef .tc main_v37) = _
  after_results
  rfl
/-- The decoder's last weights, even taps. -/
theorem host44 : V m c main_v44 = two1 (tap1 ![0, 0, 0] slices_S512x263x4_S512x263x1_0_0_0 (m ((c : Thread nD τ).loc main_arg15))) (tap1 ![0, 0, 2] slices_S512x263x4_S512x263x1_0_0_2 (m ((c : Thread nD τ).loc main_arg15))) := by
  show StableHlo.after hostOps0 _ (Proc.devRef .tc main_v44) = _
  after_results
  rfl
/-- A bias as a column. -/
theorem host45 : V m c main_v45 = shapeCast S512x1 (m ((c : Thread nD τ).loc main_arg2) : FVec Ideal S512 .f32) shapeCasts_S512_S512x1 := by
  show StableHlo.after hostOps0 _ (Proc.devRef .tc main_v45) = _
  after_results
  rfl
/-- A bias as a column. -/
theorem host46 : V m c main_v46 = shapeCast S512x1 (m ((c : Thread nD τ).loc main_arg4) : FVec Ideal S512 .f32) shapeCasts_S512_S512x1 := by
  show StableHlo.after hostOps0 _ (Proc.devRef .tc main_v46) = _
  after_results
  rfl
/-- A bias as a column. -/
theorem host47 : V m c main_v47 = shapeCast S4x1 (m ((c : Thread nD τ).loc main_arg6) : FVec Ideal S4 .f32) shapeCasts_S4_S4x1 := by
  show StableHlo.after hostOps0 _ (Proc.devRef .tc main_v47) = _
  after_results
  rfl
/-- A bias as a column. -/
theorem host48 : V m c main_v48 = shapeCast S512x1 (m ((c : Thread nD τ).loc main_arg8) : FVec Ideal S512 .f32) shapeCasts_S512_S512x1 := by
  show StableHlo.after hostOps0 _ (Proc.devRef .tc main_v48) = _
  after_results
  rfl
/-- The first codebook, transposed. -/
theorem host49 : V m c main_v49 = transpose S512x1024 [1, 0] (m ((c : Thread nD τ).loc main_arg9) : FVec Ideal S1024x512 .f32) transposes_S1024x512_S512x1024_1_0 := by
  show StableHlo.after hostOps0 _ (Proc.devRef .tc main_v49) = _
  after_results
  try rfl
/-- The second codebook, transposed. -/
theorem host50 : V m c main_v50 = transpose S512x1024 [1, 0] (m ((c : Thread nD τ).loc main_arg10) : FVec Ideal S1024x512 .f32) transposes_S1024x512_S512x1024_1_0 := by
  show StableHlo.after hostOps0 _ (Proc.devRef .tc main_v50) = _
  after_results
  try rfl
/-- The third codebook, transposed. -/
theorem host51 : V m c main_v51 = transpose S512x1024 [1, 0] (m ((c : Thread nD τ).loc main_arg11) : FVec Ideal S1024x512 .f32) transposes_S1024x512_S512x1024_1_0 := by
  show StableHlo.after hostOps0 _ (Proc.devRef .tc main_v51) = _
  after_results
  try rfl
/-- The fourth codebook, transposed. -/
theorem host52 : V m c main_v52 = transpose S512x1024 [1, 0] (m ((c : Thread nD τ).loc main_arg12) : FVec Ideal S1024x512 .f32) transposes_S1024x512_S512x1024_1_0 := by
  show StableHlo.after hostOps0 _ (Proc.devRef .tc main_v52) = _
  after_results
  try rfl
/-- A bias as a column. -/
theorem host53 : V m c main_v53 = shapeCast S512x1 (m ((c : Thread nD τ).loc main_arg14) : FVec Ideal S512 .f32) shapeCasts_S512_S512x1 := by
  show StableHlo.after hostOps0 _ (Proc.devRef .tc main_v53) = _
  after_results
  rfl
/-- A bias as a column. -/
theorem host54 : V m c main_v54 = shapeCast S263x1 (m ((c : Thread nD τ).loc main_arg16) : FVec Ideal S263 .f32) shapeCasts_S263_S263x1 := by
  show StableHlo.after hostOps0 _ (Proc.devRef .tc main_v54) = _
  after_results
  rfl

/-- A column is its list. -/
theorem col512 (x : FVec Ideal S512 .f32) (o : Fin 512) : shapeCast S512x1 x shapeCasts_S512_S512x1 (ix2 o 0) = x (ix1 o) := by pointwise []
/-- A column is its list. -/
theorem col4 (x : FVec Ideal S4 .f32) (o : Fin 4) : shapeCast S4x1 x shapeCasts_S4_S4x1 (ix2 o 0) = x (ix1 o) := by pointwise []
/-- A column is its list. -/
theorem col263 (x : FVec Ideal S263 .f32) (o : Fin 263) : shapeCast S263x1 x shapeCasts_S263_S263x1 (ix2 o 0) = x (ix1 o) := by pointwise []
/-- A transposed codebook at an element. -/
theorem trE (x : FVec Ideal S1024x512 .f32) (a : Fin 512) (n : Fin 1024) : transpose S512x1024 [1, 0] x transposes_S1024x512_S512x1024_1_0 (ix2 a n) = x (ix2 n a) := by pointwise []
/-- Tap 0 at an element. -/
theorem tap1_0 (A : FVec Ideal S512x263x4 .f32) (o : Fin 512) (k : Fin 263) : tap1 ![0, 0, 0] slices_S512x263x4_S512x263x1_0_0_0 A (ix2 o k) = A (ix3 o k 0) := by pointwise [tap1]
/-- Tap 1 at an element. -/
theorem tap1_1 (A : FVec Ideal S512x263x4 .f32) (o : Fin 512) (k : Fin 263) : tap1 ![0, 0, 1] slices_S512x263x4_S512x263x1_0_0_1 A (ix2 o k) = A (ix3 o k 1) := by pointwise [tap1]
/-- Tap 2 at an element. -/
theorem tap1_2 (A : FVec Ideal S512x263x4 .f32) (o : Fin 512) (k : Fin 263) : tap1 ![0, 0, 2] slices_S512x263x4_S512x263x1_0_0_2 A (ix2 o k) = A (ix3 o k 2) := by pointwise [tap1]
/-- Tap 3 at an element. -/
theorem tap1_3 (A : FVec Ideal S512x263x4 .f32) (o : Fin 512) (k : Fin 263) : tap1 ![0, 0, 3] slices_S512x263x4_S512x263x1_0_0_3 A (ix2 o k) = A (ix3 o k 3) := by pointwise [tap1]
/-- Tap 0 at an element. -/
theorem tap2_0 (A : FVec Ideal S512x512x4 .f32) (o : Fin 512) (k : Fin 512) : tap2 ![0, 0, 0] slices_S512x512x4_S512x512x1_0_0_0 A (ix2 o k) = A (ix3 o k 0) := by pointwise [tap2]
/-- Tap 1 at an element. -/
theorem tap2_1 (A : FVec Ideal S512x512x4 .f32) (o : Fin 512) (k : Fin 512) : tap2 ![0, 0, 1] slices_S512x512x4_S512x512x1_0_0_1 A (ix2 o k) = A (ix3 o k 1) := by pointwise [tap2]
/-- Tap 2 at an element. -/
theorem tap2_2 (A : FVec Ideal S512x512x4 .f32) (o : Fin 512) (k : Fin 512) : tap2 ![0, 0, 2] slices_S512x512x4_S512x512x1_0_0_2 A (ix2 o k) = A (ix3 o k 2) := by pointwise [tap2]
/-- Tap 3 at an element. -/
theorem tap2_3 (A : FVec Ideal S512x512x4 .f32) (o : Fin 512) (k : Fin 512) : tap2 ![0, 0, 3] slices_S512x512x4_S512x512x1_0_0_3 A (ix2 o k) = A (ix3 o k 3) := by pointwise [tap2]
end Cert.Val
-- ==== Proof.VBlk.lean ====
/- What a point is given of each array, and the first result's array block by block. -/
module
public import proofs.«01_k».proof.Proof.KiFrame
public import Idealize.ShloMosaic.Lib.Pipeline.Value
public import Idealize.ShloMosaic.PureOps
@[expose] public section
set_option maxRecDepth 16384
noncomputable section
namespace Cert.Val
open Idealize.ShloMosaic Idealize.ShloMosaic.TcCoe Idealize.ShloMosaic.Tactic Idealize.ShloMosaic.StableHlo
open Cert.KernelIdeal Cert.KernelIdeal.Gen Cert.KernelIdeal.Own
set_option maxHeartbeats 1000000
variable (m : (ℓ : Loc nD τ sig) → Buf (Elt Ideal) ℓ) (c : Dev nD)

/-- The only block of an array starts at zero. -/
theorem at_zero {i s v : ℕ} (h : i = 0) : i * s + 1 * v = v := by rw [h]; omega

/-- A point is given the whole of window 1's array. -/
theorem blk1 (t : Fin cfg0.N) : iblk m c 1 t = V m c main_v1 :=
  funext fun y => congrArg (V m c main_v1) (funext fun a => Fin.ext (at_zero (by fin_cases a <;> rfl : win0_1.index t a = 0)))
/-- A point is given the whole of window 2's array. -/
theorem blk2 (t : Fin cfg0.N) : iblk m c 2 t = V m c main_v3 :=
  funext fun y => congrArg (V m c main_v3) (funext fun a => Fin.ext (at_zero (by fin_cases a <;> rfl : win0_2.index t a = 0)))
/-- A point is given the whole of window 3's array. -/
theorem blk3 (t : Fin cfg0.N) : iblk m c 3 t = V m c main_v5 :=
  funext fun y => congrArg (V m c main_v5) (funext fun a => Fin.ext (at_zero (by fin_cases a <;> rfl : win0_3.index t a = 0)))
/-- A point is given the whole of window 4's array. -/
theorem blk4 (t : Fin cfg0.N) : iblk m c 4 t = V m c main_v7 :=
  funext fun y => congrArg (V m c main_v7) (funext fun a => Fin.ext (at_zero (by fin_cases a <;> rfl : win0_4.index t a = 0)))
/-- A point is given the whole of window 5's array. -/
theorem blk5 (t : Fin cfg0.N) : iblk m c 5 t = V m c main_v45 :=
  funext fun y => congrArg (V m c main_v45) (funext fun a => Fin.ext (at_zero (by fin_cases a <;> rfl : win0_5.index t a = 0)))
/-- A point is given the whole of window 6's array. -/
theorem blk6 (t : Fin cfg0.N) : iblk m c 6 t = V m c main_v16 :=
  funext fun y => congrArg (V m c main_v16) (funext fun a => Fin.ext (at_zero (by fin_cases a <;> rfl : win0_6.index t a = 0)))
/-- A point is given the whole of window 7's array. -/
theorem blk7 (t : Fin cfg0.N) : iblk m c 7 t = V m c main_v46 :=
  funext fun y => congrArg (V m c main_v46) (funext fun a => Fin.ext (at_zero (by fin_cases a <;> rfl : win0_7.index t a = 0)))
/-- A point is given the whole of window 8's array. -/
theorem blk8 (t : Fin cfg0.N) : iblk m c 8 t = V m c main_arg5 :=
  funext fun y => congrArg (V m c main_arg5) (funext fun a => Fin.ext (at_zero (by fin_cases a <;> rfl : win0_8.index t a = 0)))
/-- A point is given the whole of window 9's array. -/
theorem blk9 (t : Fin cfg0.N) : iblk m c 9 t = V m c main_v47 :=
  funext fun y => congrArg (V m c main_v47) (funext fun a => Fin.ext (at_zero (by fin_cases a <;> rfl : win0_9.index t a = 0)))
/-- A point is given the whole of window 10's array. -/
theorem blk10 (t : Fin cfg0.N) : iblk m c 10 t = V m c main_arg7 :=
  funext fun y => congrArg (V m c main_arg7) (funext fun a => Fin.ext (at_zero (by fin_cases a <;> rfl : win0_10.index t a = 0)))
/-- A point is given the whole of window 11's array. -/
theorem blk11 (t : Fin cfg0.N) : iblk m c 11 t = V m c main_v48 :=
  funext fun y => congrArg (V m c main_v48) (funext fun a => Fin.ext (at_zero (by fin_cases a <;> rfl : win0_11.index t a = 0)))
/-- A point is given the whole of window 12's array. -/
theorem blk12 (t : Fin cfg0.N) : iblk m c 12 t = V m c main_arg9 :=
  funext fun y => congrArg (V m c main_arg9) (funext fun a => Fin.ext (at_zero (by fin_cases a <;> rfl : win0_12.index t a = 0)))
/-- A point is given the whole of window 13's array. -/
theorem blk13 (t : Fin cfg0.N) : iblk m c 13 t = V m c main_arg10 :=
  funext fun y => congrArg (V m c main_arg10) (funext fun a => Fin.ext (at_zero (by fin_cases a <;> rfl : win0_13.index t a = 0)))
/-- A point is given the whole of window 14's array. -/
theorem blk14 (t : Fin cfg0.N) : iblk m c 14 t = V m c main_arg11 :=
  funext fun y => congrArg (V m c main_arg11) (funext fun a => Fin.ext (at_zero (by fin_cases a <;> rfl : win0_14.index t a = 0)))
/-- A point is given the whole of window 15's array. -/
theorem blk15 (t : Fin cfg0.N) : iblk m c 15 t = V m c main_arg12 :=
  funext fun y => congrArg (V m c main_arg12) (funext fun a => Fin.ext (at_zero (by fin_cases a <;> rfl : win0_15.index t a = 0)))
/-- A point is given the whole of window 16's array. -/
theorem blk16 (t : Fin cfg0.N) : iblk m c 16 t = V m c main_v49 :=
  funext fun y => congrArg (V m c main_v49) (funext fun a => Fin.ext (at_zero (by fin_cases a <;> rfl : win0_16.index t a = 0)))
/-- A point is given the whole of window 17's array. -/
theorem blk17 (t : Fin cfg0.N) : iblk m c 17 t = V m c main_v50 :=
  funext fun y => congrArg (V m c main_v50) (funext fun a => Fin.ext (at_zero (by fin_cases a <;> rfl : win0_17.index t a = 0)))
/-- A point is given the whole of window 18's array. -/
theorem blk18 (t : Fin cfg0.N) : iblk m c 18 t = V m c main_v51 :=
  funext fun y => congrArg (V m c main_v51) (funext fun a => Fin.ext (at_zero (by fin_cases a <;> rfl : win0_18.index t a = 0)))
/-- A point is given the whole of window 19's array. -/
theorem blk19 (t : Fin cfg0.N) : iblk m c 19 t = V m c main_v52 :=
  funext fun y => congrArg (V m c main_v52) (funext fun a => Fin.ext (at_zero (by fin_cases a <;> rfl : win0_19.index t a = 0)))
/-- A point is given the whole of window 20's array. -/
theorem blk20 (t : Fin cfg0.N) : iblk m c 20 t = V m c main_v23 :=
  funext fun y => congrArg (V m c main_v23) (funext fun a => Fin.ext (at_zero (by fin_cases a <;> rfl : win0_20.index t a = 0)))
/-- A point is given the whole of window 21's array. -/
theorem blk21 (t : Fin cfg0.N) : iblk m c 21 t = V m c main_v30 :=
  funext fun y => congrArg (V m c main_v30) (funext fun a => Fin.ext (at_zero (by fin_cases a <;> rfl : win0_21.index t a = 0)))
/-- A point is given the whole of window 22's array. -/
theorem blk22 (t : Fin cfg0.N) : iblk m c 22 t = V m c main_v53 :=
  funext fun y => congrArg (V m c main_v53) (funext fun a => Fin.ext (at_zero (by fin_cases a <;> rfl : win0_22.index t a = 0)))
/-- A point is given the whole of window 23's array. -/
theorem blk23 (t : Fin cfg0.N) : iblk m c 23 t = V m c main_v37 :=
  funext fun y => congrArg (V m c main_v37) (funext fun a => Fin.ext (at_zero (by fin_cases a <;> rfl : win0_23.index t a = 0)))
/-- A point is given the whole of window 24's array. -/
theorem blk24 (t : Fin cfg0.N) : iblk m c 24 t = V m c main_v44 :=
  funext fun y => congrArg (V m c main_v44) (funext fun a => Fin.ext (at_zero (by fin_cases a <;> rfl : win0_24.index t a = 0)))
/-- A point is given the whole of window 25's array. -/
theorem blk25 (t : Fin cfg0.N) : iblk m c 25 t = V m c main_v54 :=
  funext fun y => congrArg (V m c main_v54) (funext fun a => Fin.ext (at_zero (by fin_cases a <;> rfl : win0_25.index t a = 0)))
/-- Point `t` is given the input's slab `t`. -/
theorem blk0 (t : Fin cfg0.N) (b : Fin 128) (h : b.val = t.val) (i : Fin 263) (k : Fin 512) : iblk m c 0 t (ix3 0 i k) = V m c main_arg0 (ix3 b i k) := by
  show V m c main_arg0 (((cfg0.win 0).blk t).view.emb (ix3 0 i k)) = _
  congr 1
  funext a
  apply Fin.ext
  have key : (((cfg0.win 0).blk t).view.emb (ix3 0 i k) a).val = win0_0.index t a * S1x263x512.size a + 1 * ((ix3 0 i k : S1x263x512.Idx) a).val := rfl
  rw [key]
  fin_cases a
  · have h0 : win0_0.index t 0 = t.val := (by decide +kernel : ∀ t : Fin grid0.N, win0_0.index t 0 = t.val) t
    show win0_0.index t 0 * 1 + 1 * 0 = b.val
    omega
  · exact at_zero rfl
  · exact at_zero rfl

/-- Each point writes its own block of the first result. -/
theorem idx_inj26 : ∀ t t' : Fin cfg0.N, win0_26.index t = win0_26.index t' → t = t' :=
  (by decide +kernel : ∀ t t' : Fin grid0.N, win0_26.index t = win0_26.index t' → t = t')

/-- Every point writes its block of the first result back. -/
theorem flush26 (t : Fin cfg0.N) : (cfg0.win 26).flush t = true := by revert t; decide +kernel

/-- The first result at an element: what the batch's point computed. -/
theorem arr26 (t : Fin cfg0.N) (b : Fin 128) (h : b.val = t.val) (i : Fin 263) (k : Fin 512) :
    (dats m 0 c).arrAt 26 cfg0.N (ix3 b i k) = yS (insAt m c t) (scB m c t.val t.isLt) (ix3 0 i k) := by
  have hb : ((cfg0.win 26).blk t).view.read (Elt Ideal) ((dats m 0 c).arrAt 26 cfg0.N) = (dats m 0 c).flushed 26 t :=
    (dats m 0 c).read_blk_arrAt_eq_flushed 26 (fun t t' _ _ hne => (cfg0.win 26).disjoint_blk fun h => hne (idx_inj26 t t' h)) cfg0.N t t.isLt (flush26 t)
  have hf : (dats m 0 c).flushed 26 t = (cfg0.win 26).cut (grid0.coords t) (yS (insAt m c t) (scB m c t.val t.isLt)) := by
    show (cfg0.win 26).cut (grid0.coords t) ((dats m 0 c).after 26 t) = _
    rw [after0_26]
  have e : ((cfg0.win 26).blk t).view.emb (ix3 0 i k) = (ix3 b i k : S128x263x512.Idx) := by
    funext a
    apply Fin.ext
    have key : (((cfg0.win 26).blk t).view.emb (ix3 0 i k) a).val = win0_26.index t a * S1x263x512.size a + 1 * ((ix3 0 i k : S1x263x512.Idx) a).val := rfl
    rw [key]
    fin_cases a
    · have h0 : win0_26.index t 0 = t.val := (by decide +kernel : ∀ t : Fin grid0.N, win0_26.index t 0 = t.val) t
      show win0_26.index t 0 * 1 + 1 * 0 = b.val
      omega
    · exact at_zero rfl
    · exact at_zero rfl
  have := congrFun (hb.trans hf) (ix3 0 i k)
  rw [← e]
  exact this
end Cert.Val
-- ==== Proof.VRun.lean ====
/- The kernel's first result is the reference's. -/
module
public import proofs.«01_k».proof.Proof.VEq
public import proofs.«01_k».proof.Proof.VHost
public import proofs.«01_k».proof.Proof.VBlk
@[expose] public section
set_option maxRecDepth 16384
noncomputable section
namespace Cert.Val
open Idealize.ShloMosaic Idealize.ShloMosaic.TcCoe Idealize.ShloMosaic.Tactic Idealize.ShloMosaic.StableHlo
open Cert.KernelIdeal Cert.KernelIdeal.Gen Cert.KernelIdeal.Own
open Cert.Ref (at')
set_option maxHeartbeats 500000
variable (V' : Valuation Cert.ReferenceIdeal.τ Cert.ReferenceIdeal.sig (Elt Ideal)) (m : (ℓ : Loc nD τ sig) → Buf (Elt Ideal) ℓ) (c : Dev nD)

/-- The two programs are launched on the same arguments. -/
structure Same : Prop where
  e0 : at' V' Cert.ReferenceIdeal.main_arg0 = m ((c : Thread nD τ).loc main_arg0)
  e1 : at' V' Cert.ReferenceIdeal.main_arg1 = m ((c : Thread nD τ).loc main_arg1)
  e2 : at' V' Cert.ReferenceIdeal.main_arg2 = m ((c : Thread nD τ).loc main_arg2)
  e3 : at' V' Cert.ReferenceIdeal.main_arg3 = m ((c : Thread nD τ).loc main_arg3)
  e4 : at' V' Cert.ReferenceIdeal.main_arg4 = m ((c : Thread nD τ).loc main_arg4)
  e5 : at' V' Cert.ReferenceIdeal.main_arg5 = m ((c : Thread nD τ).loc main_arg5)
  e6 : at' V' Cert.ReferenceIdeal.main_arg6 = m ((c : Thread nD τ).loc main_arg6)
  e7 : at' V' Cert.ReferenceIdeal.main_arg7 = m ((c : Thread nD τ).loc main_arg7)
  e8 : at' V' Cert.ReferenceIdeal.main_arg8 = m ((c : Thread nD τ).loc main_arg8)
  e9 : at' V' Cert.ReferenceIdeal.main_arg9 = m ((c : Thread nD τ).loc main_arg9)
  e10 : at' V' Cert.ReferenceIdeal.main_arg10 = m ((c : Thread nD τ).loc main_arg10)
  e11 : at' V' Cert.ReferenceIdeal.main_arg11 = m ((c : Thread nD τ).loc main_arg11)
  e12 : at' V' Cert.ReferenceIdeal.main_arg12 = m ((c : Thread nD τ).loc main_arg12)
  e13 : at' V' Cert.ReferenceIdeal.main_arg13 = m ((c : Thread nD τ).loc main_arg13)
  e14 : at' V' Cert.ReferenceIdeal.main_arg14 = m ((c : Thread nD τ).loc main_arg14)
  e15 : at' V' Cert.ReferenceIdeal.main_arg15 = m ((c : Thread nD τ).loc main_arg15)
  e16 : at' V' Cert.ReferenceIdeal.main_arg16 = m ((c : Thread nD τ).loc main_arg16)

variable {V' m c}

/-- 0 of what a point is given. -/
theorem g0 (h : Same V' m c) (t : Fin cfg0.N) (b : Fin 128) (hb : b.val = t.val) : ∀ (i : Fin 263) (k : Fin 512), iblk m c 0 t (ix3 0 i k) = at' V' Cert.ReferenceIdeal.main_arg0 (ix3 b i k) := fun i k =>
  (blk0 m c t b hb i k).trans ((congrFun (V_main_arg0 m c) _).trans (congrFun h.e0 _).symm)
/-- 1 of what a point is given. -/
theorem g1 (h : Same V' m c) (t : Fin cfg0.N) : ∀ o k, iblk m c 1 t (ix2 o k) = at' V' Cert.ReferenceIdeal.main_arg1 (ix3 o k 0) := fun o k =>
  (congrFun ((blk1 m c t).trans (host1 m c)) _).trans ((tap1_0 _ o k).trans (congrFun h.e1 _).symm)
/-- 2 of what a point is given. -/
theorem g2 (h : Same V' m c) (t : Fin cfg0.N) : ∀ o k, iblk m c 2 t (ix2 o k) = at' V' Cert.ReferenceIdeal.main_arg1 (ix3 o k 1) := fun o k =>
  (congrFun ((blk2 m c t).trans (host3 m c)) _).trans ((tap1_1 _ o k).trans (congrFun h.e1 _).symm)
/-- 3 of what a point is given. -/
theorem g3 (h : Same V' m c) (t : Fin cfg0.N) : ∀ o k, iblk m c 3 t (ix2 o k) = at' V' Cert.ReferenceIdeal.main_arg1 (ix3 o k 2) := fun o k =>
  (congrFun ((blk3 m c t).trans (host5 m c)) _).trans ((tap1_2 _ o k).trans (congrFun h.e1 _).symm)
/-- 4 of what a point is given. -/
theorem g4 (h : Same V' m c) (t : Fin cfg0.N) : ∀ o k, iblk m c 4 t (ix2 o k) = at' V' Cert.ReferenceIdeal.main_arg1 (ix3 o k 3) := fun o k =>
  (congrFun ((blk4 m c t).trans (host7 m c)) _).trans ((tap1_3 _ o k).trans (congrFun h.e1 _).symm)
/-- 5 of what a point is given. -/
theorem g5 (h : Same V' m c) (t : Fin cfg0.N) : ∀ o, iblk m c 5 t (ix2 o 0) = at' V' Cert.ReferenceIdeal.main_arg2 (ix1 o) := fun o =>
  (congrFun ((blk5 m c t).trans (host45 m c)) _).trans ((col512 _ o).trans (congrFun h.e2 _).symm)
/-- 6a of what a point is given. -/
theorem g6a (h : Same V' m c) (t : Fin cfg0.N) : ∀ o k : Fin 512, iblk m c 6 t (ix2 o ⟨k.val, by omega⟩) = at' V' Cert.ReferenceIdeal.main_arg3 (ix3 o k 0) := fun o k =>
  (congrFun ((blk6 m c t).trans (host16 m c)) _).trans ((four_a _ _ _ _ o k).trans ((tap2_0 _ o k).trans (congrFun h.e3 _).symm))
/-- 6b of what a point is given. -/
theorem g6b (h : Same V' m c) (t : Fin cfg0.N) : ∀ o k : Fin 512, iblk m c 6 t (ix2 o ⟨512 + k.val, by omega⟩) = at' V' Cert.ReferenceIdeal.main_arg3 (ix3 o k 1) := fun o k =>
  (congrFun ((blk6 m c t).trans (host16 m c)) _).trans ((four_b _ _ _ _ o k).trans ((tap2_1 _ o k).trans (congrFun h.e3 _).symm))
/-- 6c of what a point is given. -/
theorem g6c (h : Same V' m c) (t : Fin cfg0.N) : ∀ o k : Fin 512, iblk m c 6 t (ix2 o ⟨1024 + k.val, by omega⟩) = at' V' Cert.ReferenceIdeal.main_arg3 (ix3 o k 2) := fun o k =>
  (congrFun ((blk6 m c t).trans (host16 m c)) _).trans ((four_c _ _ _ _ o k).trans ((tap2_2 _ o k).trans (congrFun h.e3 _).symm))
/-- 6d of what a point is given. -/
theorem g6d (h : Same V' m c) (t : Fin cfg0.N) : ∀ o k : Fin 512, iblk m c 6 t (ix2 o ⟨1536 + k.val, by omega⟩) = at' V' Cert.ReferenceIdeal.main_arg3 (ix3 o k 3) := fun o k =>
  (congrFun ((blk6 m c t).trans (host16 m c)) _).trans ((four_d _ _ _ _ o k).trans ((tap2_3 _ o k).trans (congrFun h.e3 _).symm))
/-- 7 of what a point is given. -/
theorem g7 (h : Same V' m c) (t : Fin cfg0.N) : ∀ o, iblk m c 7 t (ix2 o 0) = at' V' Cert.ReferenceIdeal.main_arg4 (ix1 o) := fun o =>
  (congrFun ((blk7 m c t).trans (host46 m c)) _).trans ((col512 _ o).trans (congrFun h.e4 _).symm)
/-- 8 of what a point is given. -/
theorem g8 (h : Same V' m c) (t : Fin cfg0.N) : ∀ o k, iblk m c 8 t (ix2 o k) = at' V' Cert.ReferenceIdeal.main_arg5 (ix2 o k) := fun o k =>
  (congrFun ((blk8 m c t).trans (V_main_arg5 m c)) _).trans (congrFun h.e5 _).symm
/-- 9 of what a point is given. -/
theorem g9 (h : Same V' m c) (t : Fin cfg0.N) : ∀ o, iblk m c 9 t (ix2 o 0) = at' V' Cert.ReferenceIdeal.main_arg6 (ix1 o) := fun o =>
  (congrFun ((blk9 m c t).trans (host47 m c)) _).trans ((col4 _ o).trans (congrFun h.e6 _).symm)
/-- 10 of what a point is given. -/
theorem g10 (h : Same V' m c) (t : Fin cfg0.N) : ∀ o k, iblk m c 10 t (ix2 o k) = at' V' Cert.ReferenceIdeal.main_arg7 (ix2 o k) := fun o k =>
  (congrFun ((blk10 m c t).trans (V_main_arg7 m c)) _).trans (congrFun h.e7 _).symm
/-- 11 of what a point is given. -/
theorem g11 (h : Same V' m c) (t : Fin cfg0.N) : ∀ o, iblk m c 11 t (ix2 o 0) = at' V' Cert.ReferenceIdeal.main_arg8 (ix1 o) := fun o =>
  (congrFun ((blk11 m c t).trans (host48 m c)) _).trans ((col512 _ o).trans (congrFun h.e8 _).symm)
/-- 12 of what a point is given. -/
theorem g12 (h : Same V' m c) (t : Fin cfg0.N) : ∀ n k, iblk m c 12 t (ix2 n k) = at' V' Cert.ReferenceIdeal.main_arg9 (ix2 n k) := fun n k =>
  (congrFun ((blk12 m c t).trans (V_main_arg9 m c)) _).trans (congrFun h.e9 _).symm
/-- 13 of what a point is given. -/
theorem g13 (h : Same V' m c) (t : Fin cfg0.N) : ∀ n k, iblk m c 13 t (ix2 n k) = at' V' Cert.ReferenceIdeal.main_arg10 (ix2 n k) := fun n k =>
  (congrFun ((blk13 m c t).trans (V_main_arg10 m c)) _).trans (congrFun h.e10 _).symm
/-- 14 of what a point is given. -/
theorem g14 (h : Same V' m c) (t : Fin cfg0.N) : ∀ n k, iblk m c 14 t (ix2 n k) = at' V' Cert.ReferenceIdeal.main_arg11 (ix2 n k) := fun n k =>
  (congrFun ((blk14 m c t).trans (V_main_arg11 m c)) _).trans (congrFun h.e11 _).symm
/-- 15 of what a point is given. -/
theorem g15 (h : Same V' m c) (t : Fin cfg0.N) : ∀ n k, iblk m c 15 t (ix2 n k) = at' V' Cert.ReferenceIdeal.main_arg12 (ix2 n k) := fun n k =>
  (congrFun ((blk15 m c t).trans (V_main_arg12 m c)) _).trans (congrFun h.e12 _).symm
/-- 16 of what a point is given. -/
theorem g16 (h : Same V' m c) (t : Fin cfg0.N) : ∀ k n, iblk m c 16 t (ix2 k n) = at' V' Cert.ReferenceIdeal.main_arg9 (ix2 n k) := fun k n =>
  (congrFun ((blk16 m c t).trans (host49 m c)) _).trans ((trE _ k n).trans (congrFun h.e9 _).symm)
/-- 17 of what a point is given. -/
theorem g17 (h : Same V' m c) (t : Fin cfg0.N) : ∀ k n, iblk m c 17 t (ix2 k n) = at' V' Cert.ReferenceIdeal.main_arg10 (ix2 n k) := fun k n =>
  (congrFun ((blk17 m c t).trans (host50 m c)) _).trans ((trE _ k n).trans (congrFun h.e10 _).symm)
/-- 18 of what a point is given. -/
theorem g18 (h : Same V' m c) (t : Fin cfg0.N) : ∀ k n, iblk m c 18 t (ix2 k n) = at' V' Cert.ReferenceIdeal.main_arg11 (ix2 n k) := fun k n =>
  (congrFun ((blk18 m c t).trans (host51 m c)) _).trans ((trE _ k n).trans (congrFun h.e11 _).symm)
/-- 19 of what a point is given. -/
theorem g19 (h : Same V' m c) (t : Fin cfg0.N) : ∀ k n, iblk m c 19 t (ix2 k n) = at' V' Cert.ReferenceIdeal.main_arg12 (ix2 n k) := fun k n =>
  (congrFun ((blk19 m c t).trans (host52 m c)) _).trans ((trE _ k n).trans (congrFun h.e12 _).symm)
/-- 20a of what a point is given. -/
theorem g20a (h : Same V' m c) (t : Fin cfg0.N) : ∀ o k : Fin 512, iblk m c 20 t (ix2 o ⟨k.val, by omega⟩) = at' V' Cert.ReferenceIdeal.main_arg13 (ix3 k o 1) := fun o k =>
  (congrFun ((blk20 m c t).trans (host23 m c)) _).trans ((two2_l _ _ o k).trans ((tap2_1 _ k o).trans (congrFun h.e13 _).symm))
/-- 20b of what a point is given. -/
theorem g20b (h : Same V' m c) (t : Fin cfg0.N) : ∀ o k : Fin 512, iblk m c 20 t (ix2 o ⟨512 + k.val, by omega⟩) = at' V' Cert.ReferenceIdeal.main_arg13 (ix3 k o 3) := fun o k =>
  (congrFun ((blk20 m c t).trans (host23 m c)) _).trans ((two2_r _ _ o k).trans ((tap2_3 _ k o).trans (congrFun h.e13 _).symm))
/-- 21a of what a point is given. -/
theorem g21a (h : Same V' m c) (t : Fin cfg0.N) : ∀ o k : Fin 512, iblk m c 21 t (ix2 o ⟨k.val, by omega⟩) = at' V' Cert.ReferenceIdeal.main_arg13 (ix3 k o 2) := fun o k =>
  (congrFun ((blk21 m c t).trans (host30 m c)) _).trans ((two2_l _ _ o k).trans ((tap2_2 _ k o).trans (congrFun h.e13 _).symm))
/-- 21b of what a point is given. -/
theorem g21b (h : Same V' m c) (t : Fin cfg0.N) : ∀ o k : Fin 512, iblk m c 21 t (ix2 o ⟨512 + k.val, by omega⟩) = at' V' Cert.ReferenceIdeal.main_arg13 (ix3 k o 0) := fun o k =>
  (congrFun ((blk21 m c t).trans (host30 m c)) _).trans ((two2_r _ _ o k).trans ((tap2_0 _ k o).trans (congrFun h.e13 _).symm))
/-- 22 of what a point is given. -/
theorem g22 (h : Same V' m c) (t : Fin cfg0.N) : ∀ o, iblk m c 22 t (ix2 o 0) = at' V' Cert.ReferenceIdeal.main_arg14 (ix1 o) := fun o =>
  (congrFun ((blk22 m c t).trans (host53 m c)) _).trans ((col512 _ o).trans (congrFun h.e14 _).symm)
/-- 23a of what a point is given. -/
theorem g23a (h : Same V' m c) (t : Fin cfg0.N) : ∀ (o : Fin 263) (k : Fin 512), iblk m c 23 t (ix2 o ⟨k.val, by omega⟩) = at' V' Cert.ReferenceIdeal.main_arg15 (ix3 k o 1) := fun o k =>
  (congrFun ((blk23 m c t).trans (host37 m c)) _).trans ((two1_l _ _ o k).trans ((tap1_1 _ k o).trans (congrFun h.e15 _).symm))
/-- 23b of what a point is given. -/
theorem g23b (h : Same V' m c) (t : Fin cfg0.N) : ∀ (o : Fin 263) (k : Fin 512), iblk m c 23 t (ix2 o ⟨512 + k.val, by omega⟩) = at' V' Cert.ReferenceIdeal.main_arg15 (ix3 k o 3) := fun o k =>
  (congrFun ((blk23 m c t).trans (host37 m c)) _).trans ((two1_r _ _ o k).trans ((tap1_3 _ k o).trans (congrFun h.e15 _).symm))
/-- 24a of what a point is given. -/
theorem g24a (h : Same V' m c) (t : Fin cfg0.N) : ∀ (o : Fin 263) (k : Fin 512), iblk m c 24 t (ix2 o ⟨k.val, by omega⟩) = at' V' Cert.ReferenceIdeal.main_arg15 (ix3 k o 0) := fun o k =>
  (congrFun ((blk24 m c t).trans (host44 m c)) _).trans ((two1_l _ _ o k).trans ((tap1_0 _ k o).trans (congrFun h.e15 _).symm))
/-- 24b of what a point is given. -/
theorem g24b (h : Same V' m c) (t : Fin cfg0.N) : ∀ (o : Fin 263) (k : Fin 512), iblk m c 24 t (ix2 o ⟨512 + k.val, by omega⟩) = at' V' Cert.ReferenceIdeal.main_arg15 (ix3 k o 2) := fun o k =>
  (congrFun ((blk24 m c t).trans (host44 m c)) _).trans ((two1_r _ _ o k).trans ((tap1_2 _ k o).trans (congrFun h.e15 _).symm))
/-- 25 of what a point is given. -/
theorem g25 (h : Same V' m c) (t : Fin cfg0.N) : ∀ o, iblk m c 25 t (ix2 o 0) = at' V' Cert.ReferenceIdeal.main_arg16 (ix1 o) := fun o =>
  (congrFun ((blk25 m c t).trans (host54 m c)) _).trans ((col263 _ o).trans (congrFun h.e16 _).symm)
/-- A point's blocks, named one by one, over the reference's arguments. -/
theorem rel_of (h : Same V' m c) (t : Fin cfg0.N) (b : Fin 128) (hb : b.val = t.val) (X : Ins Ideal) (e0 : X.x0 = iblk m c 0 t) (e1 : X.x1 = iblk m c 1 t) (e2 : X.x2 = iblk m c 2 t) (e3 : X.x3 = iblk m c 3 t) (e4 : X.x4 = iblk m c 4 t) (e5 : X.x5 = iblk m c 5 t) (e6 : X.x6 = iblk m c 6 t) (e7 : X.x7 = iblk m c 7 t) (e8 : X.x8 = iblk m c 8 t) (e9 : X.x9 = iblk m c 9 t) (e10 : X.x10 = iblk m c 10 t) (e11 : X.x11 = iblk m c 11 t) (e12 : X.x12 = iblk m c 12 t) (e13 : X.x13 = iblk m c 13 t) (e14 : X.x14 = iblk m c 14 t) (e15 : X.x15 = iblk m c 15 t) (e16 : X.x16 = iblk m c 16 t) (e17 : X.x17 = iblk m c 17 t) (e18 : X.x18 = iblk m c 18 t) (e19 : X.x19 = iblk m c 19 t) (e20 : X.x20 = iblk m c 20 t) (e21 : X.x21 = iblk m c 21 t) (e22 : X.x22 = iblk m c 22 t) (e23 : X.x23 = iblk m c 23 t) (e24 : X.x24 = iblk m c 24 t) (e25 : X.x25 = iblk m c 25 t) : Rel V' b X :=
  ⟨fun i k => (congrFun e0 _).trans (g0 h t b hb i k),
    fun o k => (congrFun e1 _).trans (g1 h t o k),
    fun o k => (congrFun e2 _).trans (g2 h t o k),
    fun o k => (congrFun e3 _).trans (g3 h t o k),
    fun o k => (congrFun e4 _).trans (g4 h t o k),
    fun o => (congrFun e5 _).trans (g5 h t o),
    fun o k => (congrFun e6 _).trans (g6a h t o k),
    fun o k => (congrFun e6 _).trans (g6b h t o k),
    fun o k => (congrFun e6 _).trans (g6c h t o k),
    fun o k => (congrFun e6 _).trans (g6d h t o k),
    fun o => (congrFun e7 _).trans (g7 h t o),
    fun o k => (congrFun e8 _).trans (g8 h t o k),
    fun o => (congrFun e9 _).trans (g9 h t o),
    fun o k => (congrFun e10 _).trans (g10 h t o k),
    fun o => (congrFun e11 _).trans (g11 h t o),
    fun n k => (congrFun e12 _).trans (g12 h t n k),
    fun n k => (congrFun e13 _).trans (g13 h t n k),
    fun n k => (congrFun e14 _).trans (g14 h t n k),
    fun n k => (congrFun e15 _).trans (g15 h t n k),
    fun k n => (congrFun e16 _).trans (g16 h t k n),
    fun k n => (congrFun e17 _).trans (g17 h t k n),
    fun k n => (congrFun e18 _).trans (g18 h t k n),
    fun k n => (congrFun e19 _).trans (g19 h t k n),
    fun o k => (congrFun e20 _).trans (g20a h t o k),
    fun o k => (congrFun e20 _).trans (g20b h t o k),
    fun o k => (congrFun e21 _).trans (g21a h t o k),
    fun o k => (congrFun e21 _).trans (g21b h t o k),
    fun o => (congrFun e22 _).trans (g22 h t o),
    fun o k => (congrFun e23 _).trans (g23a h t o k),
    fun o k => (congrFun e23 _).trans (g23b h t o k),
    fun o k => (congrFun e24 _).trans (g24a h t o k),
    fun o k => (congrFun e24 _).trans (g24b h t o k),
    fun o => (congrFun e25 _).trans (g25 h t o)⟩

/-- What a point is given, over the reference's arguments. -/
theorem rel_at (h : Same V' m c) (t : Fin cfg0.N) (b : Fin 128) (hb : b.val = t.val) : Rel V' b (insAt m c t) :=
  rel_of h t b hb (insAt m c t) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt]) (by dsimp only [insAt])

variable (m c) in
/-- The scratch a point computes from holds the selections and the norms of the point's codebooks. -/
theorem sinv_at (t : Fin cfg0.N) : ∀ (n : ℕ) (hn : n < cfg0.N), SInv (insAt m c t) (scB m c n hn)
  | 0, hn => by
    refine ⟨rfl, rfl, rfl, rfl, rfl, rfl, ?_⟩
    have a : iblk m c 12 ⟨0, hn⟩ = iblk m c 12 t := (blk12 m c _).trans (blk12 m c t).symm
    have b : iblk m c 13 ⟨0, hn⟩ = iblk m c 13 t := (blk13 m c _).trans (blk13 m c t).symm
    have d : iblk m c 14 ⟨0, hn⟩ = iblk m c 14 t := (blk14 m c _).trans (blk14 m c t).symm
    have e : iblk m c 15 ⟨0, hn⟩ = iblk m c 15 t := (blk15 m c _).trans (blk15 m c t).symm
    show pack4 (k0_pay4 (iblk m c 12 ⟨0, hn⟩)) (k0_pay5 (iblk m c 13 ⟨0, hn⟩)) (k0_pay6 (iblk m c 14 ⟨0, hn⟩)) (k0_pay7 (iblk m c 15 ⟨0, hn⟩)) = _
    rw [a, b, d, e]
    rfl
  | n + 1, hn => by
    have i := sinv_at t n (Nat.lt_of_succ_lt hn)
    exact ⟨i.se, i.so, i.se2, i.so2, i.ra, i.rb, i.esq⟩

/-- The first result's array, on the same finite arguments, is the reference's. -/
theorem first_result (h : Same V' m c) (f : FinV V') (i : S128x263x512.Idx) : (dats m 0 c).arrAt 26 cfg0.N i = Cert.Ref.y V' i := by
  obtain ⟨b, o, k, rfl⟩ : ∃ (b : Fin 128) (o : Fin 263) (k : Fin 512), i = ix3 b o k := ⟨i 0, i 1, i 2, by funext a; fin_cases a <;> rfl⟩
  have hN : b.val < cfg0.N := b.isLt
  rw [arr26 m c ⟨b.val, hN⟩ b rfl o k]
  exact y_eq (rel_at h ⟨b.val, hN⟩ b rfl) (sinv_at m c ⟨b.val, hN⟩ b.val hN) f o k
end Cert.Val
-- ==== Proof.VPre.lean ====
/- The inputs' finiteness, read from the precondition. -/
module
public import proofs.«01_k».proof.Proof.VEq
public import proofs.«01_k».proof.Pre_finite_inputs
public import proofs.«01_k».proof.On_first_result
public import Idealize.ShloMosaic.Lib.ReduceAll
@[expose] public section
set_option maxRecDepth 16384
noncomputable section

namespace Cert.Pre_finite_inputs
open Idealize.ShloMosaic

/-- The precondition's shape relations. -/
instance facts : Facts where
  bcast_S_S128x263x512 := by decide
  reducesTo_S128x263x512_S_d0_1_2 := by decide
  h_S_ := by decide
  bcast_S_S512x263x4 := by decide
  reducesTo_S512x263x4_S_d0_1_2 := by decide
  bcast_S_S512 := by decide
  reducesTo_S512_S_d0 := by decide
  bcast_S_S512x512x4 := by decide
  reducesTo_S512x512x4_S_d0_1_2 := by decide
  bcast_S_S4x512 := by decide
  reducesTo_S4x512_S_d0_1 := by decide
  bcast_S_S4 := by decide
  reducesTo_S4_S_d0 := by decide
  bcast_S_S512x4 := by decide
  reducesTo_S512x4_S_d0_1 := by decide
  bcast_S_S1024x512 := by decide
  reducesTo_S1024x512_S_d0_1 := by decide
end Cert.Pre_finite_inputs

namespace Cert.On_first_result
open Idealize.ShloMosaic
/-- The mask's shape relations. -/
instance facts : Facts where
  bcast_S_S128x263x512 := by decide
  bcast_S_S1x1 := by decide
end Cert.On_first_result

namespace Cert.Val
open Idealize.ShloMosaic
open Cert.Pre_finite_inputs (S_)
set_option maxHeartbeats 1000000

/-- The test of one array: that each magnitude lies below infinity. -/
def allFin {s : Shape} {axes : List (Fin s.rank)} (hb : S_.BroadcastsInDim s (![] : Fin 0 → Fin s.rank)) (hr : s.ReducesTo axes S_) (x : FVec Ideal s .f32) : IVec S_ 1 :=
  Host.reduce IntOp.andi (cmpf .olt (Host.absf x) (broadcastInDim s ![] hb (constant S_ .f32 0x7F800000#32))) (constantI S_ 1 1#1) hr Cert.Pre_finite_inputs.facts.h_S_

/-- A magnitude below infinity is a number's. -/
theorem fn_of_abs {x : EReal} (h : max x (-x) < ⊤) : Fn x := by
  induction x using EReal.rec with
  | bot => simp at h
  | coe r => exact ⟨r, rfl⟩
  | top => simp at h

instance : Subsingleton S_.Idx := ⟨fun a b => funext fun i => i.elim0⟩

/-- An array that passes the test holds numbers. -/
theorem allFin_fn {s : Shape} {axes : List (Fin s.rank)} (hb : S_.BroadcastsInDim s (![] : Fin 0 → Fin s.rank)) (hr : s.ReducesTo axes S_) (x : FVec Ideal s .f32)
    (j : S_.Idx) (e : allFin hb hr x j = 1#1) (i : s.Idx) : Fn (x i) := by
  have h := Host.reduce_andi_all _ _ hr _ j e i
  have h2 : Ideal.cmp .olt (max (x i) (-(x i))) (Ideal.ofBits .f32 2139095040#32) = 1#1 := h
  rw [c_inf] at h2
  refine fn_of_abs ?_
  by_contra hc
  simp [Ideal.cmp, hc] at h2

open Cert.Pre_finite_inputs in
/-- The precondition, one array at a time. -/
theorem pre_arrays (a0 : FVec Ideal S128x263x512 .f32) (a1 : FVec Ideal S512x263x4 .f32) (a2 : FVec Ideal S512 .f32) (a3 : FVec Ideal S512x512x4 .f32) (a4 : FVec Ideal S512 .f32)
    (a5 : FVec Ideal S4x512 .f32) (a6 : FVec Ideal S4 .f32) (a7 : FVec Ideal S512x4 .f32) (a8 : FVec Ideal S512 .f32) (a9 a10 a11 a12 : FVec Ideal S1024x512 .f32)
    (a13 : FVec Ideal S512x512x4 .f32) (a14 : FVec Ideal S512 .f32) (a15 : FVec Ideal S512x263x4 .f32) (a16 : FVec Ideal S263 .f32)
    (h : fn (F := Ideal) a0 a1 a2 a3 a4 a5 a6 a7 a8 a9 a10 a11 a12 a13 a14 a15 a16 = fun _ => 1#1) :
    (∀ i, Fn (a0 i)) ∧ (∀ i, Fn (a1 i)) ∧ (∀ i, Fn (a2 i)) ∧ (∀ i, Fn (a3 i)) ∧ (∀ i, Fn (a4 i)) ∧ (∀ i, Fn (a5 i)) ∧ (∀ i, Fn (a6 i)) ∧ (∀ i, Fn (a7 i))
      ∧ (∀ i, Fn (a8 i)) ∧ (∀ i, Fn (a9 i)) ∧ (∀ i, Fn (a10 i)) ∧ (∀ i, Fn (a11 i)) ∧ (∀ i, Fn (a12 i)) := by
  have j : S_.Idx := fun k => k.elim0
  have e := congrFun h j
  have e2 : IntOp.andi (IntOp.andi (IntOp.andi (IntOp.andi (IntOp.andi (IntOp.andi (IntOp.andi (IntOp.andi (IntOp.andi (IntOp.andi (IntOp.andi (IntOp.andi
      (allFin facts.bcast_S_S128x263x512 facts.reducesTo_S128x263x512_S_d0_1_2 a0 j) (allFin facts.bcast_S_S512x263x4 facts.reducesTo_S512x263x4_S_d0_1_2 a1 j))
      (allFin facts.bcast_S_S512 facts.reducesTo_S512_S_d0 a2 j)) (allFin facts.bcast_S_S512x512x4 facts.reducesTo_S512x512x4_S_d0_1_2 a3 j))
      (allFin facts.bcast_S_S512 facts.reducesTo_S512_S_d0 a4 j)) (allFin facts.bcast_S_S4x512 facts.reducesTo_S4x512_S_d0_1 a5 j))
      (allFin facts.bcast_S_S4 facts.reducesTo_S4_S_d0 a6 j)) (allFin facts.bcast_S_S512x4 facts.reducesTo_S512x4_S_d0_1 a7 j))
      (allFin facts.bcast_S_S512 facts.reducesTo_S512_S_d0 a8 j)) (allFin facts.bcast_S_S1024x512 facts.reducesTo_S1024x512_S_d0_1 a9 j))
      (allFin facts.bcast_S_S1024x512 facts.reducesTo_S1024x512_S_d0_1 a10 j)) (allFin facts.bcast_S_S1024x512 facts.reducesTo_S1024x512_S_d0_1 a11 j))
      (allFin facts.bcast_S_S1024x512 facts.reducesTo_S1024x512_S_d0_1 a12 j) = 1#1 := e
  obtain ⟨e2, h12⟩ := IntOp.andi_eq_one.1 e2
  obtain ⟨e2, h11⟩ := IntOp.andi_eq_one.1 e2
  obtain ⟨e2, h10⟩ := IntOp.andi_eq_one.1 e2
  obtain ⟨e2, h9⟩ := IntOp.andi_eq_one.1 e2
  obtain ⟨e2, h8⟩ := IntOp.andi_eq_one.1 e2
  obtain ⟨e2, h7⟩ := IntOp.andi_eq_one.1 e2
  obtain ⟨e2, h6⟩ := IntOp.andi_eq_one.1 e2
  obtain ⟨e2, h5⟩ := IntOp.andi_eq_one.1 e2
  obtain ⟨e2, h4⟩ := IntOp.andi_eq_one.1 e2
  obtain ⟨e2, h3⟩ := IntOp.andi_eq_one.1 e2
  obtain ⟨e2, h2⟩ := IntOp.andi_eq_one.1 e2
  obtain ⟨h0, h1⟩ := IntOp.andi_eq_one.1 e2
  exact ⟨allFin_fn _ _ _ j h0, allFin_fn _ _ _ j h1, allFin_fn _ _ _ j h2, allFin_fn _ _ _ j h3, allFin_fn _ _ _ j h4, allFin_fn _ _ _ j h5, allFin_fn _ _ _ j h6,
    allFin_fn _ _ _ j h7, allFin_fn _ _ _ j h8, allFin_fn _ _ _ j h9, allFin_fn _ _ _ j h10, allFin_fn _ _ _ j h11, allFin_fn _ _ _ j h12⟩

/-- The mask asks for nothing of the second result. -/
theorem mask1 (i : Cert.On_first_result.S1x1.Idx) : ¬ (broadcastInDim Cert.On_first_result.S1x1 ![] Cert.On_first_result.facts.bcast_S_S1x1 (constantI Cert.On_first_result.S_ 1 0#1) i = 1#1) := by
  intro h
  have : (0#1 : BitVec 1) = 1#1 := h
  exact absurd this (by decide)
end Cert.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KiFrame
public import proofs.«01_k».proof.Proof.Gen.ReferenceIdeal
public import proofs.«01_k».proof.Proof.RefRead
public import proofs.«01_k».proof.Proof.VRun
public import proofs.«01_k».proof.Proof.VPre
public import Idealize.ShloMosaic.Adequacy
public import Idealize.ShloMosaic.Init

@[expose] public section

noncomputable section

namespace Cert.Proof

open Idealize.ShloMosaic Idealize.SL.Sem Cert.Kernel

/-- The reference's run leaves every argument as it was and every counter zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
        ∧ r.2.sem = fun _ => 0) :=
  (θ_run _ _ _).mono (fun r h => ⟨fun c => ⟨(h.1 c).2.2.2 Cert.ReferenceIdeal.main_arg0 (by decide), (h.1 c).2.2.2 Cert.ReferenceIdeal.main_arg1 (by decide), (h.1 c).2.2.2 Cert.ReferenceIdeal.main_arg2 (by decide), (h.1 c).2.2.2 Cert.ReferenceIdeal.main_arg3 (by decide), (h.1 c).2.2.2 Cert.ReferenceIdeal.main_arg4 (by decide), (h.1 c).2.2.2 Cert.ReferenceIdeal.main_arg5 (by decide), (h.1 c).2.2.2 Cert.ReferenceIdeal.main_arg6 (by decide), (h.1 c).2.2.2 Cert.ReferenceIdeal.main_arg7 (by decide), (h.1 c).2.2.2 Cert.ReferenceIdeal.main_arg8 (by decide), (h.1 c).2.2.2 Cert.ReferenceIdeal.main_arg9 (by decide), (h.1 c).2.2.2 Cert.ReferenceIdeal.main_arg10 (by decide), (h.1 c).2.2.2 Cert.ReferenceIdeal.main_arg11 (by decide), (h.1 c).2.2.2 Cert.ReferenceIdeal.main_arg12 (by decide), (h.1 c).2.2.2 Cert.ReferenceIdeal.main_arg13 (by decide), (h.1 c).2.2.2 Cert.ReferenceIdeal.main_arg14 (by decide), (h.1 c).2.2.2 Cert.ReferenceIdeal.main_arg15 (by decide), (h.1 c).2.2.2 Cert.ReferenceIdeal.main_arg16 (by decide)⟩, h.2⟩) (Cert.Ref.run_values m ρ)

/-- On the same finite arguments the kernel's and the reference's first results are equal. -/
theorem algebraic : Cert.algebraic_KernelIdeal_ReferenceIdeal_on_first_result_pre_finite_inputs := by
  intro m g m' g' hpre hargs
  have same : ∀ c : Dev Cert.KernelIdeal.nD, Cert.Val.Same (StableHlo.launchContents m' c) m c := fun c => by
    obtain ⟨a0, a1, a2, a3, a4, a5, a6, a7, a8, a9, a10, a11, a12, a13, a14, a15, a16⟩ := hargs c
    exact ⟨a0, a1, a2, a3, a4, a5, a6, a7, a8, a9, a10, a11, a12, a13, a14, a15, a16⟩
  have fin : ∀ c : Dev Cert.KernelIdeal.nD, Cert.Val.FinV (StableHlo.launchContents m' c) := fun c => by
    obtain ⟨f0, f1, f2, f3, f4, f5, f6, f7, f8, f9, f10, f11, f12⟩ := Cert.Val.pre_arrays _ _ _ _ _ _ _ _ _ _ _ _ _ _ _ _ _ (hpre c)
    have h := same c
    refine ⟨fun i j k => ?_, fun i j k => ?_, fun i => ?_, fun i j k => ?_, fun i => ?_, fun i j => ?_, fun i => ?_, fun i j => ?_, fun i => ?_, fun i j => ?_, fun i j => ?_, fun i j => ?_, fun i j => ?_⟩
    · rw [h.e0]; exact f0 _
    · rw [h.e1]; exact f1 _
    · rw [h.e2]; exact f2 _
    · rw [h.e3]; exact f3 _
    · rw [h.e4]; exact f4 _
    · rw [h.e5]; exact f5 _
    · rw [h.e6]; exact f6 _
    · rw [h.e7]; exact f7 _
    · rw [h.e8]; exact f8 _
    · rw [h.e9]; exact f9 _
    · rw [h.e10]; exact f10 _
    · rw [h.e11]; exact f11 _
    · rw [h.e12]; exact f12 _
  refine ⟨fun c => (Cert.KernelIdeal.Own.dats m 0 c).arrAt 26 Cert.KernelIdeal.cfg0.N, fun c => m (c, Proc.devRef .tc Cert.KernelIdeal.main_v55_1), fun c => m (c, Proc.devRef .tc Cert.KernelIdeal.main_v55_2), ?_, ?_⟩
  · refine (θ_run _ _ _).mono (fun r h c => ⟨fun i _ => congrFun ((h.1 c).1 26) i, fun i hi => absurd hi (Cert.Val.mask1 i), fun i hi => absurd hi (Cert.Val.mask1 i), h.2 c⟩)
      (θ_run_and (Cert.KernelIdeal.Own.run_main m g) (Cert.KernelIdeal.Own.unchanged m g))
  · refine (θ_run _ _ _).mono (fun r h c => ⟨fun i _ => ?_, fun i hi => absurd hi (Cert.Val.mask1 i), fun i hi => absurd hi (Cert.Val.mask1 i),
      (h.1 c).2.2.2 Cert.ReferenceIdeal.main_arg0 (by decide), (h.1 c).2.2.2 Cert.ReferenceIdeal.main_arg1 (by decide), (h.1 c).2.2.2 Cert.ReferenceIdeal.main_arg2 (by decide), (h.1 c).2.2.2 Cert.ReferenceIdeal.main_arg3 (by decide), (h.1 c).2.2.2 Cert.ReferenceIdeal.main_arg4 (by decide), (h.1 c).2.2.2 Cert.ReferenceIdeal.main_arg5 (by decide), (h.1 c).2.2.2 Cert.ReferenceIdeal.main_arg6 (by decide), (h.1 c).2.2.2 Cert.ReferenceIdeal.main_arg7 (by decide), (h.1 c).2.2.2 Cert.ReferenceIdeal.main_arg8 (by decide), (h.1 c).2.2.2 Cert.ReferenceIdeal.main_arg9 (by decide), (h.1 c).2.2.2 Cert.ReferenceIdeal.main_arg10 (by decide), (h.1 c).2.2.2 Cert.ReferenceIdeal.main_arg11 (by decide), (h.1 c).2.2.2 Cert.ReferenceIdeal.main_arg12 (by decide), (h.1 c).2.2.2 Cert.ReferenceIdeal.main_arg13 (by decide), (h.1 c).2.2.2 Cert.ReferenceIdeal.main_arg14 (by decide), (h.1 c).2.2.2 Cert.ReferenceIdeal.main_arg15 (by decide), (h.1 c).2.2.2 Cert.ReferenceIdeal.main_arg16 (by decide)⟩) (Cert.Ref.run_values m' g')
    exact (congrFun (h.1 c).1 i).trans (Cert.Val.first_result (same c) (fin c) i).symm

/-- Everything claimed. -/
theorem claim : Cert.Claim := ⟨Cert.Kernel.Gen.facts, Cert.KernelIdeal.Gen.facts, Cert.ReferenceIdeal.Gen.facts, Cert.Pre_finite_inputs.facts, Cert.On_first_result.facts,
  fun m ρ _ => Cert.Kernel.Own.frame m ρ, fun m ρ _ => Cert.KernelIdeal.Own.frame m ρ, fun m ρ _ => Cert.KernelIdeal.Own.frame m ρ,
  fun m ρ _ => frame_reference m ρ, fun m ρ _ => frame_reference m ρ, trivial, algebraic⟩

end Cert.Proof

end
